-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_embeddings [hPre_finite_embeddings : Cert.Pre_finite_embeddings.Facts] (m : (ℓ : Loc Cert.KernelIdeal.nD Cert.KernelIdeal.τ Cert.KernelIdeal.sig) → Buf (Elt Ideal) ℓ) : Prop :=
  ∀ c : Dev Cert.KernelIdeal.nD,
    (Cert.Pre_finite_embeddings.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_embeddings [hPre_finite_embeddings : Cert.Pre_finite_embeddings.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_embeddings.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Rotation (m : (ℓ : Loc Cert.Rotation.nD Cert.Rotation.τ Cert.Rotation.sig) → Buf (Elt Bits) ℓ) : Prop :=
  True

def Pre_RotationIdeal (m : (ℓ : Loc Cert.RotationIdeal.nD Cert.RotationIdeal.τ Cert.RotationIdeal.sig) → Buf (Elt Ideal) ℓ) : Prop :=
  True

def Pre_RotationIdeal_proper_stats [hPre_proper_stats : Cert.Pre_proper_stats.Facts] (m : (ℓ : Loc Cert.RotationIdeal.nD Cert.RotationIdeal.τ Cert.RotationIdeal.sig) → Buf (Elt Ideal) ℓ) : Prop :=
  ∀ c : Dev Cert.RotationIdeal.nD,
    (Cert.Pre_proper_stats.fn (F := Ideal) (m ((c.tc : Thread Cert.RotationIdeal.nD Cert.RotationIdeal.τ).loc Cert.RotationIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_embeddings [hKernelIdeal : Cert.KernelIdeal.Facts] [hPre_finite_embeddings : Cert.Pre_finite_embeddings.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_embeddings m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_embeddings [hReferenceIdeal : Cert.ReferenceIdeal.Facts] [hPre_finite_embeddings : Cert.Pre_finite_embeddings.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_embeddings m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Rotation [hRotation : Cert.Rotation.Facts] : Prop :=
  ∀ (m : (ℓ : Loc Cert.Rotation.nD Cert.Rotation.τ Cert.Rotation.sig) → Buf (Elt Bits) ℓ) (g : Dev Cert.Rotation.nD → PrngReg), Pre_Rotation m →
    θ_run (Cert.Rotation.defs (F := Bits)) (onTc (τ := Cert.Rotation.τ) (Cert.Rotation.main (F := Bits))) ⟨m, fun _ => 0, g⟩ (fun r => (∀ c : Dev Cert.Rotation.nD,
      r.2.mem ((c.tc : Thread Cert.Rotation.nD Cert.Rotation.τ).loc Cert.Rotation.main_arg0) = m ((c.tc : Thread Cert.Rotation.nD Cert.Rotation.τ).loc Cert.Rotation.main_arg0))
      ∧ r.2.sem = fun _ => 0)

def quiescent_RotationIdeal [hRotationIdeal : Cert.RotationIdeal.Facts] : Prop :=
  ∀ (m : (ℓ : Loc Cert.RotationIdeal.nD Cert.RotationIdeal.τ Cert.RotationIdeal.sig) → Buf (Elt Ideal) ℓ) (g : Dev Cert.RotationIdeal.nD → PrngReg), Pre_RotationIdeal m →
    θ_run (Cert.RotationIdeal.defs (F := Ideal)) (onTc (τ := Cert.RotationIdeal.τ) (Cert.RotationIdeal.main (F := Ideal))) ⟨m, fun _ => 0, g⟩ (fun r => (∀ c : Dev Cert.RotationIdeal.nD,
      r.2.mem ((c.tc : Thread Cert.RotationIdeal.nD Cert.RotationIdeal.τ).loc Cert.RotationIdeal.main_arg0) = m ((c.tc : Thread Cert.RotationIdeal.nD Cert.RotationIdeal.τ).loc Cert.RotationIdeal.main_arg0))
      ∧ r.2.sem = fun _ => 0)

def quiescent_RotationIdeal_pre_proper_stats [hRotationIdeal : Cert.RotationIdeal.Facts] [hPre_proper_stats : Cert.Pre_proper_stats.Facts] : Prop :=
  ∀ (m : (ℓ : Loc Cert.RotationIdeal.nD Cert.RotationIdeal.τ Cert.RotationIdeal.sig) → Buf (Elt Ideal) ℓ) (g : Dev Cert.RotationIdeal.nD → PrngReg), Pre_RotationIdeal_proper_stats m →
    θ_run (Cert.RotationIdeal.defs (F := Ideal)) (onTc (τ := Cert.RotationIdeal.τ) (Cert.RotationIdeal.main (F := Ideal))) ⟨m, fun _ => 0, g⟩ (fun r => (∀ c : Dev Cert.RotationIdeal.nD,
      r.2.mem ((c.tc : Thread Cert.RotationIdeal.nD Cert.RotationIdeal.τ).loc Cert.RotationIdeal.main_arg0) = m ((c.tc : Thread Cert.RotationIdeal.nD Cert.RotationIdeal.τ).loc Cert.RotationIdeal.main_arg0))
      ∧ r.2.sem = fun _ => 0)

def preserves_Kernel_KernelIdeal : Prop :=
  IdealRules.named_const.Statement Cert.KernelIdeal.κ "inv15" .f32 0x3D888889#32 ((1 / 15 : ℝ) : EReal)

def algebraic_KernelIdeal_ReferenceIdeal_pre_finite_embeddings [hKernelIdeal : Cert.KernelIdeal.Facts] [hReferenceIdeal : Cert.ReferenceIdeal.Facts] [hPre_finite_embeddings : Cert.Pre_finite_embeddings.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_embeddings m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Rotation_RotationIdeal : Prop :=
  True

def holds_RotationIdeal_translation [hRotationIdeal : Cert.RotationIdeal.Facts] [hPost_translation : Cert.Post_translation.Facts] : Prop :=
  ∀ (m : (ℓ : Loc Cert.RotationIdeal.nD Cert.RotationIdeal.τ Cert.RotationIdeal.sig) → Buf (Elt Ideal) ℓ) (g : Dev Cert.RotationIdeal.nD → PrngReg), Pre_RotationIdeal m →
    θ_run (Cert.RotationIdeal.defs (F := Ideal)) (onTc (τ := Cert.RotationIdeal.τ) (Cert.RotationIdeal.main (F := Ideal))) ⟨m, fun _ => 0, g⟩ (fun r => ∀ c : Dev Cert.RotationIdeal.nD,
      r.2.mem ((c.tc : Thread Cert.RotationIdeal.nD Cert.RotationIdeal.τ).loc Cert.RotationIdeal.main_arg0) = m ((c.tc : Thread Cert.RotationIdeal.nD Cert.RotationIdeal.τ).loc Cert.RotationIdeal.main_arg0)
      ∧ (Cert.Post_translation.fn (F := Ideal) (m ((c.tc : Thread Cert.RotationIdeal.nD Cert.RotationIdeal.τ).loc Cert.RotationIdeal.main_arg0)) (r.2.mem ((c.tc : Thread Cert.RotationIdeal.nD Cert.RotationIdeal.τ).loc Cert.RotationIdeal.main_v0))) = (fun _ => 1#1))

def holds_RotationIdeal_rotation_pre_proper_stats [hRotationIdeal : Cert.RotationIdeal.Facts] [hPre_proper_stats : Cert.Pre_proper_stats.Facts] [hPost_rotation : Cert.Post_rotation.Facts] : Prop :=
  ∀ (m : (ℓ : Loc Cert.RotationIdeal.nD Cert.RotationIdeal.τ Cert.RotationIdeal.sig) → Buf (Elt Ideal) ℓ) (g : Dev Cert.RotationIdeal.nD → PrngReg), Pre_RotationIdeal_proper_stats m →
    θ_run (Cert.RotationIdeal.defs (F := Ideal)) (onTc (τ := Cert.RotationIdeal.τ) (Cert.RotationIdeal.main (F := Ideal))) ⟨m, fun _ => 0, g⟩ (fun r => ∀ c : Dev Cert.RotationIdeal.nD,
      r.2.mem ((c.tc : Thread Cert.RotationIdeal.nD Cert.RotationIdeal.τ).loc Cert.RotationIdeal.main_arg0) = m ((c.tc : Thread Cert.RotationIdeal.nD Cert.RotationIdeal.τ).loc Cert.RotationIdeal.main_arg0)
      ∧ (Cert.Post_rotation.fn (F := Ideal) (m ((c.tc : Thread Cert.RotationIdeal.nD Cert.RotationIdeal.τ).loc Cert.RotationIdeal.main_arg0)) (r.2.mem ((c.tc : Thread Cert.RotationIdeal.nD Cert.RotationIdeal.τ).loc Cert.RotationIdeal.main_v0))) = (fun _ => 1#1))

def Claim : Prop :=
  ∃ (hKernel : Cert.Kernel.Facts) (hKernelIdeal : Cert.KernelIdeal.Facts) (hReferenceIdeal : Cert.ReferenceIdeal.Facts) (hRotation : Cert.Rotation.Facts) (hRotationIdeal : Cert.RotationIdeal.Facts) (hPre_finite_embeddings : Cert.Pre_finite_embeddings.Facts) (hPre_proper_stats : Cert.Pre_proper_stats.Facts) (hPost_translation : Cert.Post_translation.Facts) (hPost_rotation : Cert.Post_rotation.Facts),
    quiescent_Kernel (hKernel := hKernel)
    ∧ quiescent_KernelIdeal (hKernelIdeal := hKernelIdeal)
    ∧ quiescent_KernelIdeal_pre_finite_embeddings (hKernelIdeal := hKernelIdeal) (hPre_finite_embeddings := hPre_finite_embeddings)
    ∧ quiescent_ReferenceIdeal (hReferenceIdeal := hReferenceIdeal)
    ∧ quiescent_ReferenceIdeal_pre_finite_embeddings (hReferenceIdeal := hReferenceIdeal) (hPre_finite_embeddings := hPre_finite_embeddings)
    ∧ quiescent_Rotation (hRotation := hRotation)
    ∧ quiescent_RotationIdeal (hRotationIdeal := hRotationIdeal)
    ∧ quiescent_RotationIdeal_pre_proper_stats (hRotationIdeal := hRotationIdeal) (hPre_proper_stats := hPre_proper_stats)
    ∧ preserves_Kernel_KernelIdeal
    ∧ algebraic_KernelIdeal_ReferenceIdeal_pre_finite_embeddings (hKernelIdeal := hKernelIdeal) (hReferenceIdeal := hReferenceIdeal) (hPre_finite_embeddings := hPre_finite_embeddings)
    ∧ preserves_Rotation_RotationIdeal
    ∧ holds_RotationIdeal_translation (hRotationIdeal := hRotationIdeal) (hPost_translation := hPost_translation)
    ∧ holds_RotationIdeal_rotation_pre_proper_stats (hRotationIdeal := hRotationIdeal) (hPre_proper_stats := hPre_proper_stats) (hPost_rotation := hPost_rotation)
-- ==== Post_rotation.lean ====
abbrev S8x1x128 : Shape := ⟨3, ![8, 1, 128]⟩
abbrev S8x1x9 : Shape := ⟨3, ![8, 1, 9]⟩
abbrev S8x9 : Shape := ⟨2, ![8, 9]⟩
abbrev S8x3x3 : Shape := ⟨3, ![8, 3, 3]⟩
abbrev S8x1x1 : Shape := ⟨3, ![8, 1, 1]⟩
abbrev S8 : Shape := ⟨1, ![8]⟩
abbrev S_ : Shape := ⟨0, ![]⟩

class Facts : Prop where
  slices_S8x1x128_S8x1x9_0_0_0 : S8x1x128.Slices ![0, 0, 0] S8x1x9
  shapeCasts_S8x1x9_S8x9 : S8x1x9.ShapeCasts S8x9
  shapeCasts_S8x9_S8x3x3 : S8x9.ShapeCasts S8x3x3
  transposes_S8x3x3_S8x3x3_0_2_1 : S8x3x3.Transposes [0, 2, 1] S8x3x3
  slices_S8x3x3_S8x1x1_0_0_0 : S8x3x3.Slices ![0, 0, 0] S8x1x1
  shapeCasts_S8x1x1_S8 : S8x1x1.ShapeCasts S8
  slices_S8x3x3_S8x1x1_0_1_1 : S8x3x3.Slices ![0, 1, 1] S8x1x1
  slices_S8x3x3_S8x1x1_0_2_2 : S8x3x3.Slices ![0, 2, 2] S8x1x1
  slices_S8x3x3_S8x1x1_0_1_2 : S8x3x3.Slices ![0, 1, 2] S8x1x1
  slices_S8x3x3_S8x1x1_0_2_1 : S8x3x3.Slices ![0, 2, 1] S8x1x1
  slices_S8x3x3_S8x1x1_0_0_1 : S8x3x3.Slices ![0, 0, 1] S8x1x1
  slices_S8x3x3_S8x1x1_0_1_0 : S8x3x3.Slices ![0, 1, 0] S8x1x1
  slices_S8x3x3_S8x1x1_0_2_0 : S8x3x3.Slices ![0, 2, 0] S8x1x1
  slices_S8x3x3_S8x1x1_0_0_2 : S8x3x3.Slices ![0, 0, 2] S8x1x1
  bcast_S_S8x3x3 : S_.BroadcastsInDim S8x3x3 (![] : Fin 0 → Fin S8x3x3.rank)
  bcast_S_S8 : S_.BroadcastsInDim S8 (![] : Fin 0 → Fin S8.rank)
  bcast_S8_S8x1x1_0 : S8.BroadcastsInDim S8x1x1 (![0] : Fin 1 → Fin S8x1x1.rank)
  bcast_S8x1x1_S8x3x3_0_1_2 : S8x1x1.BroadcastsInDim S8x3x3 (![0, 1, 2] : Fin 3 → Fin S8x3x3.rank)
  dot_S8x3x3_S8x3x3_S8x3x3_2_1_1_2_0_0_wf : DotDims.WF S8x3x3 S8x3x3 S8x3x3 [2] [1] [1] [2] [0] [0]

variable [Facts]

def dot_S8x3x3_S8x3x3_S8x3x3_2_1_1_2_0_0 : DotDims S8x3x3 S8x3x3 S8x3x3 where
  lhsContracting := [2]
  rhsContracting := [1]
  lhsNonContracting := [1]
  rhsNonContracting := [2]
  lhsBatch := [0]
  rhsBatch := [0]
  wf := dot_S8x3x3_S8x3x3_S8x3x3_2_1_1_2_0_0_wf
def fn_where {F : FTy → Type} [FloatOps F] (arg0 : IVec S8x3x3 1) (arg1 : FVec F S_ .f32) (arg2 : FVec F S_ .f32) : FVec F S8x3x3 .f32 :=
  let v0 : FVec F S8x3x3 .f32 := broadcastInDim S8x3x3 ![] bcast_S_S8x3x3 arg1
  let v1 : FVec F S8x3x3 .f32 := broadcastInDim S8x3x3 ![] bcast_S_S8x3x3 arg2
  let v2 : FVec F S8x3x3 .f32 := select arg0 v0 v1
  v2

def fn_part2 {F : FTy → Type} [FloatOps F] (main_v4 : FVec F S8x3x3 .f32) (main_v33 : FVec F S8 .f32) (main_v47 : FVec F S8 .f32) : IVec S8x3x3 1 :=
  let main_v48 : FVec F S8 .f32 := addf main_v33 main_v47
  let main_v49 : IVec S8x3x3 32 := iotaInDim S8x3x3 32 1
  let main_v50 : IVec S8x3x3 32 := iotaInDim S8x3x3 32 2
  let main_v51 : IVec S8x3x3 1 := cmpi .eq main_v49 main_v50
  let main_cst : FVec F S_ .f32 := constant S_ .f32 0x3F800000#32
  let main_cst_0 : FVec F S_ .f32 := constant S_ .f32 0x00000000#32
  let main_v52 : FVec F S8x3x3 .f32 := fn_where (F := F) main_v51 main_cst main_cst_0
  let main_v53 : FVec F S8x3x3 .f32 := id main_v52
  let main_v54 : IVec S8x3x3 1 := cmpf .oeq main_v4 main_v53
  let main_cst_1 : FVec F S_ .f32 := constant S_ .f32 0x3F800000#32
  let main_v55 : FVec F S8 .f32 := broadcastInDim S8 ![] bcast_S_S8 main_cst_1
  let main_v56 : IVec S8 1 := cmpf .oeq main_v48 main_v55
  let main_v57 : IVec S8x1x1 1 := broadcastInDim S8x1x1 ![0] bcast_S8_S8x1x1_0 main_v56
  let main_v58 : IVec S8x3x3 1 := broadcastInDim S8x3x3 ![0, 1, 2] bcast_S8x1x1_S8x3x3_0_1_2 main_v57
  let main_v59 : IVec S8x3x3 1 := andi main_v54 main_v58
  main_v59

def fn_part1 {F : FTy → Type} [FloatOps F] (main_v2 : FVec F S8x3x3 .f32) (main_v4 : FVec F S8x3x3 .f32) (main_v18 : FVec F S8 .f32) (main_v20 : FVec F S8 .f32) (main_v22 : FVec F S8 .f32) (main_v23 : FVec F S8x1x1 .f32) : IVec S8x3x3 1 :=
  let main_v24 : FVec F S8 .f32 := shapeCast S8 main_v23 shapeCasts_S8x1x1_S8
  let main_v25 : FVec F S8 .f32 := mulf main_v22 main_v24
  let main_v26 : FVec F S8x1x1 .f32 := (extractStridedSlice S8x1x1 ![0, 1, 2] · slices_S8x3x3_S8x1x1_0_1_2) main_v2
  let main_v27 : FVec F S8 .f32 := shapeCast S8 main_v26 shapeCasts_S8x1x1_S8
  let main_v28 : FVec F S8x1x1 .f32 := (extractStridedSlice S8x1x1 ![0, 2, 0] · slices_S8x3x3_S8x1x1_0_2_0) main_v2
  let main_v29 : FVec F S8 .f32 := shapeCast S8 main_v28 shapeCasts_S8x1x1_S8
  let main_v30 : FVec F S8 .f32 := mulf main_v27 main_v29
  let main_v31 : FVec F S8 .f32 := subf main_v25 main_v30
  let main_v32 : FVec F S8 .f32 := mulf main_v20 main_v31
  let main_v33 : FVec F S8 .f32 := subf main_v18 main_v32
  let main_v34 : FVec F S8x1x1 .f32 := (extractStridedSlice S8x1x1 ![0, 0, 2] · slices_S8x3x3_S8x1x1_0_0_2) main_v2
  let main_v35 : FVec F S8 .f32 := shapeCast S8 main_v34 shapeCasts_S8x1x1_S8
  let main_v36 : FVec F S8x1x1 .f32 := (extractStridedSlice S8x1x1 ![0, 1, 0] · slices_S8x3x3_S8x1x1_0_1_0) main_v2
  let main_v37 : FVec F S8 .f32 := shapeCast S8 main_v36 shapeCasts_S8x1x1_S8
  let main_v38 : FVec F S8x1x1 .f32 := (extractStridedSlice S8x1x1 ![0, 2, 1] · slices_S8x3x3_S8x1x1_0_2_1) main_v2
  let main_v39 : FVec F S8 .f32 := shapeCast S8 main_v38 shapeCasts_S8x1x1_S8
  let main_v40 : FVec F S8 .f32 := mulf main_v37 main_v39
  let main_v41 : FVec F S8x1x1 .f32 := (extractStridedSlice S8x1x1 ![0, 1, 1] · slices_S8x3x3_S8x1x1_0_1_1) main_v2
  let main_v42 : FVec F S8 .f32 := shapeCast S8 main_v41 shapeCasts_S8x1x1_S8
  let main_v43 : FVec F S8x1x1 .f32 := (extractStridedSlice S8x1x1 ![0, 2, 0] · slices_S8x3x3_S8x1x1_0_2_0) main_v2
  let main_v44 : FVec F S8 .f32 := shapeCast S8 main_v43 shapeCasts_S8x1x1_S8
  let main_v45 : FVec F S8 .f32 := mulf main_v42 main_v44
  let main_v46 : FVec F S8 .f32 := subf main_v40 main_v45
  let main_v47 : FVec F S8 .f32 := mulf main_v35 main_v46
  fn_part2 (F := F) main_v4 main_v33 main_v47

def fn {F : FTy → Type} [FloatOps F] (main_arg0 : FVec F S8x1x128 .f32) (main_arg1 : FVec F S8x1x128 .f32) : IVec S8x3x3 1 :=
  let main_v0 : FVec F S8x1x9 .f32 := (extractStridedSlice S8x1x9 ![0, 0, 0] · slices_S8x1x128_S8x1x9_0_0_0) main_arg1
  let main_v1 : FVec F S8x9 .f32 := shapeCast S8x9 main_v0 shapeCasts_S8x1x9_S8x9
  let main_v2 : FVec F S8x3x3 .f32 := shapeCast S8x3x3 main_v1 shapeCasts_S8x9_S8x3x3
  let main_v3 : FVec F S8x3x3 .f32 := (transpose S8x3x3 [0, 2, 1] · transposes_S8x3x3_S8x3x3_0_2_1) main_v2
  let main_v4 : FVec F S8x3x3 .f32 := (fun l r => Host.dotGeneral dot_S8x3x3_S8x3x3_S8x3x3_2_1_1_2_0_0 none l r) main_v2 main_v3
  let main_v5 : FVec F S8x1x1 .f32 := (extractStridedSlice S8x1x1 ![0, 0, 0] · slices_S8x3x3_S8x1x1_0_0_0) main_v2
  let main_v6 : FVec F S8 .f32 := shapeCast S8 main_v5 shapeCasts_S8x1x1_S8
  let main_v7 : FVec F S8x1x1 .f32 := (extractStridedSlice S8x1x1 ![0, 1, 1] · slices_S8x3x3_S8x1x1_0_1_1) main_v2
  let main_v8 : FVec F S8 .f32 := shapeCast S8 main_v7 shapeCasts_S8x1x1_S8
  let main_v9 : FVec F S8x1x1 .f32 := (extractStridedSlice S8x1x1 ![0, 2, 2] · slices_S8x3x3_S8x1x1_0_2_2) main_v2
  let main_v10 : FVec F S8 .f32 := shapeCast S8 main_v9 shapeCasts_S8x1x1_S8
  let main_v11 : FVec F S8 .f32 := mulf main_v8 main_v10
  let main_v12 : FVec F S8x1x1 .f32 := (extractStridedSlice S8x1x1 ![0, 1, 2] · slices_S8x3x3_S8x1x1_0_1_2) main_v2
  let main_v13 : FVec F S8 .f32 := shapeCast S8 main_v12 shapeCasts_S8x1x1_S8
  let main_v14 : FVec F S8x1x1 .f32 := (extractStridedSlice S8x1x1 ![0, 2, 1] · slices_S8x3x3_S8x1x1_0_2_1) main_v2
  let main_v15 : FVec F S8 .f32 := shapeCast S8 main_v14 shapeCasts_S8x1x1_S8
  let main_v16 : FVec F S8 .f32 := mulf main_v13 main_v15
  let main_v17 : FVec F S8 .f32 := subf main_v11 main_v16
  let main_v18 : FVec F S8 .f32 := mulf main_v6 main_v17
  let main_v19 : FVec F S8x1x1 .f32 := (extractStridedSlice S8x1x1 ![0, 0, 1] · slices_S8x3x3_S8x1x1_0_0_1) main_v2
  let main_v20 : FVec F S8 .f32 := shapeCast S8 main_v19 shapeCasts_S8x1x1_S8
  let main_v21 : FVec F S8x1x1 .f32 := (extractStridedSlice S8x1x1 ![0, 1, 0] · slices_S8x3x3_S8x1x1_0_1_0) main_v2
  let main_v22 : FVec F S8 .f32 := shapeCast S8 main_v21 shapeCasts_S8x1x1_S8
  let main_v23 : FVec F S8x1x1 .f32 := (extractStridedSlice S8x1x1 ![0, 2, 2] · slices_S8x3x3_S8x1x1_0_2_2) main_v2
  fn_part1 (F := F) main_v2 main_v4 main_v18 main_v20 main_v22 main_v23
-- ==== Post_translation.lean ====
abbrev S8x1x128 : Shape := ⟨3, ![8, 1, 128]⟩
abbrev S8x1x9 : Shape := ⟨3, ![8, 1, 9]⟩
abbrev S8x9 : Shape := ⟨2, ![8, 9]⟩
abbrev S8x3x3 : Shape := ⟨3, ![8, 3, 3]⟩
abbrev S8x1x3 : Shape := ⟨3, ![8, 1, 3]⟩
abbrev S8x3 : Shape := ⟨2, ![8, 3]⟩
abbrev S8x3x1 : Shape := ⟨3, ![8, 3, 1]⟩

class Facts : Prop where
  slices_S8x1x128_S8x1x9_0_0_0 : S8x1x128.Slices ![0, 0, 0] S8x1x9
  shapeCasts_S8x1x9_S8x9 : S8x1x9.ShapeCasts S8x9
  shapeCasts_S8x9_S8x3x3 : S8x9.ShapeCasts S8x3x3
  slices_S8x1x128_S8x1x3_0_0_9 : S8x1x128.Slices ![0, 0, 9] S8x1x3
  shapeCasts_S8x1x3_S8x3 : S8x1x3.ShapeCasts S8x3
  shapeCasts_S8x3_S8x3x1 : S8x3.ShapeCasts S8x3x1
  slices_S8x1x128_S8x1x3_0_0_12 : S8x1x128.Slices ![0, 0, 12] S8x1x3
  shapeCasts_S8x3x1_S8x3 : S8x3x1.ShapeCasts S8x3
  dot_S8x3x3_S8x3x1_S8x3x1_2_1_1_2_0_0_wf : DotDims.WF S8x3x3 S8x3x1 S8x3x1 [2] [1] [1] [2] [0] [0]

variable [Facts]

def dot_S8x3x3_S8x3x1_S8x3x1_2_1_1_2_0_0 : DotDims S8x3x3 S8x3x1 S8x3x1 where
  lhsContracting := [2]
  rhsContracting := [1]
  lhsNonContracting := [1]
  rhsNonContracting := [2]
  lhsBatch := [0]
  rhsBatch := [0]
  wf := dot_S8x3x3_S8x3x1_S8x3x1_2_1_1_2_0_0_wf
def fn {F : FTy → Type} [FloatOps F] (main_arg0 : FVec F S8x1x128 .f32) (main_arg1 : FVec F S8x1x128 .f32) : IVec S8x3 1 :=
  let main_v0 : FVec F S8x1x9 .f32 := (extractStridedSlice S8x1x9 ![0, 0, 0] · slices_S8x1x128_S8x1x9_0_0_0) main_arg1
  let main_v1 : FVec F S8x9 .f32 := shapeCast S8x9 main_v0 shapeCasts_S8x1x9_S8x9
  let main_v2 : FVec F S8x3x3 .f32 := shapeCast S8x3x3 main_v1 shapeCasts_S8x9_S8x3x3
  let main_v3 : FVec F S8x1x3 .f32 := (extractStridedSlice S8x1x3 ![0, 0, 9] · slices_S8x1x128_S8x1x3_0_0_9) main_arg1
  let main_v4 : FVec F S8x3 .f32 := shapeCast S8x3 main_v3 shapeCasts_S8x1x3_S8x3
  let main_v5 : FVec F S8x1x3 .f32 := (extractStridedSlice S8x1x3 ![0, 0, 9] · slices_S8x1x128_S8x1x3_0_0_9) main_arg0
  let main_v6 : FVec F S8x3 .f32 := shapeCast S8x3 main_v5 shapeCasts_S8x1x3_S8x3
  let main_v7 : FVec F S8x3x1 .f32 := shapeCast S8x3x1 main_v6 shapeCasts_S8x3_S8x3x1
  let main_v8 : FVec F S8x1x3 .f32 := (extractStridedSlice S8x1x3 ![0, 0, 12] · slices_S8x1x128_S8x1x3_0_0_12) main_arg0
  let main_v9 : FVec F S8x3 .f32 := shapeCast S8x3 main_v8 shapeCasts_S8x1x3_S8x3
  let main_v10 : FVec F S8x3x1 .f32 := (fun l r => Host.dotGeneral dot_S8x3x3_S8x3x1_S8x3x1_2_1_1_2_0_0 none l r) main_v2 main_v7
  let main_v11 : FVec F S8x3 .f32 := shapeCast S8x3 main_v10 shapeCasts_S8x3x1_S8x3
  let main_v12 : FVec F S8x3 .f32 := Host.negf main_v11
  let main_v13 : FVec F S8x3 .f32 := addf main_v12 main_v9
  let main_v14 : IVec S8x3 1 := cmpf .oeq main_v4 main_v13
  main_v14
-- ==== Pre_finite_embeddings.lean ====
abbrev S8x64x2048 : Shape := ⟨3, ![8, 64, 2048]⟩
abbrev S8x2048x3 : Shape := ⟨3, ![8, 2048, 3]⟩
abbrev S_ : Shape := ⟨0, ![]⟩

class Facts : Prop where
  bcast_S_S8x64x2048 : S_.BroadcastsInDim S8x64x2048 (![] : Fin 0 → Fin S8x64x2048.rank)

variable [Facts]

def fn {F : FTy → Type} [FloatOps F] (main_arg0 : FVec F S8x64x2048 .f32) (main_arg1 : FVec F S8x64x2048 .f32) (main_arg2 : FVec F S8x2048x3 .f32) (main_arg3 : FVec F S8x2048x3 .f32) : IVec S8x64x2048 1 :=
  let main_v0 : FVec F S8x64x2048 .f32 := Host.absf main_arg0
  let main_cst : FVec F S_ .f32 := constant S_ .f32 0x7F800000#32
  let main_v1 : FVec F S8x64x2048 .f32 := broadcastInDim S8x64x2048 ![] bcast_S_S8x64x2048 main_cst
  let main_v2 : IVec S8x64x2048 1 := cmpf .olt main_v0 main_v1
  let main_v3 : FVec F S8x64x2048 .f32 := Host.absf main_arg1
  let main_cst_0 : FVec F S_ .f32 := constant S_ .f32 0x7F800000#32
  let main_v4 : FVec F S8x64x2048 .f32 := broadcastInDim S8x64x2048 ![] bcast_S_S8x64x2048 main_cst_0
  let main_v5 : IVec S8x64x2048 1 := cmpf .olt main_v3 main_v4
  let main_v6 : IVec S8x64x2048 1 := andi main_v2 main_v5
  main_v6
-- ==== Pre_proper_stats.lean ====
abbrev S8x1x128 : Shape := ⟨3, ![8, 1, 128]⟩
abbrev S8x1x9 : Shape := ⟨3, ![8, 1, 9]⟩
abbrev S8x9 : Shape := ⟨2, ![8, 9]⟩
abbrev S_ : Shape := ⟨0, ![]⟩
abbrev S8 : Shape := ⟨1, ![8]⟩
abbrev S8x1 : Shape := ⟨2, ![8, 1]⟩

class Facts : Prop where
  slices_S8x1x128_S8x1x9_0_0_0 : S8x1x128.Slices ![0, 0, 0] S8x1x9
  shapeCasts_S8x1x9_S8x9 : S8x1x9.ShapeCasts S8x9
  reducesTo_S8x9_S8_d1 : S8x9.ReducesTo [1] S8
  h_S_ : 0 < S_.numel
  bcast_S_S8x9 : S_.BroadcastsInDim S8x9 (![] : Fin 0 → Fin S8x9.rank)
  bcast_S_S8 : S_.BroadcastsInDim S8 (![] : Fin 0 → Fin S8.rank)
  bcast_S8_S8x1_0 : S8.BroadcastsInDim S8x1 (![0] : Fin 1 → Fin S8x1.rank)
  bcast_S8x1_S8x9_0_1 : S8x1.BroadcastsInDim S8x9 (![0, 1] : Fin 2 → Fin S8x9.rank)

variable [Facts]

def fn {F : FTy → Type} [FloatOps F] (main_arg0 : FVec F S8x1x128 .f32) : IVec S8x9 1 :=
  let main_v0 : FVec F S8x1x9 .f32 := (extractStridedSlice S8x1x9 ![0, 0, 0] · slices_S8x1x128_S8x1x9_0_0_0) main_arg0
  let main_v1 : FVec F S8x9 .f32 := shapeCast S8x9 main_v0 shapeCasts_S8x1x9_S8x9
  let main_v2 : FVec F S8x9 .f32 := Host.absf main_v1
  let main_cst : FVec F S_ .f32 := constant S_ .f32 0x00000000#32
  let main_v3 : FVec F S8 .f32 := (fun x v => Host.reduceAdd x v reducesTo_S8x9_S8_d1 h_S_) main_v2 main_cst
  let main_v4 : FVec F S8x1x9 .f32 := (extractStridedSlice S8x1x9 ![0, 0, 0] · slices_S8x1x128_S8x1x9_0_0_0) main_arg0
  let main_v5 : FVec F S8x9 .f32 := shapeCast S8x9 main_v4 shapeCasts_S8x1x9_S8x9
  let main_v6 : FVec F S8x9 .f32 := Host.absf main_v5
  let main_cst_0 : FVec F S_ .f32 := constant S_ .f32 0x7F800000#32
  let main_v7 : FVec F S8x9 .f32 := broadcastInDim S8x9 ![] bcast_S_S8x9 main_cst_0
  let main_v8 : IVec S8x9 1 := cmpf .olt main_v6 main_v7
  let main_cst_1 : FVec F S_ .f32 := constant S_ .f32 0x00000000#32
  let main_v9 : FVec F S8 .f32 := broadcastInDim S8 ![] bcast_S_S8 main_cst_1
  let main_v10 : IVec S8 1 := cmpf .ogt main_v3 main_v9
  let main_v11 : IVec S8x1 1 := broadcastInDim S8x1 ![0] bcast_S8_S8x1_0 main_v10
  let main_v12 : IVec S8x9 1 := broadcastInDim S8x9 ![0, 1] bcast_S8x1_S8x9_0_1 main_v11
  let main_v13 : IVec S8x9 1 := andi main_v8 main_v12
  main_v13
-- ==== Kernel.lean ====
abbrev S8x64x2048 : Shape := ⟨3, ![8, 64, 2048]⟩
abbrev S8x2048x3 : Shape := ⟨3, ![8, 2048, 3]⟩
abbrev S8x3x2048 : Shape := ⟨3, ![8, 3, 2048]⟩
abbrev S8x16x2048 : Shape := ⟨3, ![8, 16, 2048]⟩
abbrev S8x1x2048 : Shape := ⟨3, ![8, 1, 2048]⟩
abbrev S8x1x8 : Shape := ⟨3, ![8, 1, 8]⟩
abbrev S1x64x256 : Shape := ⟨3, ![1, 64, 256]⟩
abbrev S1x64x2048 : Shape := ⟨3, ![1, 64, 2048]⟩
abbrev S1x2048x3 : Shape := ⟨3, ![1, 2048, 3]⟩
abbrev S1x16x256 : Shape := ⟨3, ![1, 16, 256]⟩
abbrev S1x1x256 : Shape := ⟨3, ![1, 1, 256]⟩
abbrev S1x1x8 : Shape := ⟨3, ![1, 1, 8]⟩
abbrev S64x256 : Shape := ⟨2, ![64, 256]⟩
abbrev S64x2048 : Shape := ⟨2, ![64, 2048]⟩
abbrev S2048x256 : Shape := ⟨2, ![2048, 256]⟩
abbrev S256 : Shape := ⟨1, ![256]⟩
abbrev S1x256 : Shape := ⟨2, ![1, 256]⟩
abbrev S2048x3 : Shape := ⟨2, ![2048, 3]⟩
abbrev S256x3 : Shape := ⟨2, ![256, 3]⟩
abbrev S1x3 : Shape := ⟨2, ![1, 3]⟩
abbrev S1x1x3 : Shape := ⟨3, ![1, 1, 3]⟩
abbrev S8x1x128 : Shape := ⟨3, ![8, 1, 128]⟩
abbrev S1x16x2048 : Shape := ⟨3, ![1, 16, 2048]⟩
abbrev S1x1x2048 : Shape := ⟨3, ![1, 1, 2048]⟩
abbrev S1x3x2048 : Shape := ⟨3, ![1, 3, 2048]⟩
abbrev S1x1x128 : Shape := ⟨3, ![1, 1, 128]⟩
abbrev S16x2048 : Shape := ⟨2, ![16, 2048]⟩
abbrev S1x2048 : Shape := ⟨2, ![1, 2048]⟩
abbrev S3x2048 : Shape := ⟨2, ![3, 2048]⟩
abbrev S1x16 : Shape := ⟨2, ![1, 16]⟩
abbrev S3x16 : Shape := ⟨2, ![3, 16]⟩
abbrev S2048 : Shape := ⟨1, ![2048]⟩
abbrev S1 : Shape := ⟨1, ![1]⟩
abbrev S1x1x1 : Shape := ⟨3, ![1, 1, 1]⟩
abbrev S16 : Shape := ⟨1, ![16]⟩
abbrev S16x1 : Shape := ⟨2, ![16, 1]⟩
abbrev S1x16x1 : Shape := ⟨3, ![1, 16, 1]⟩
abbrev S3 : Shape := ⟨1, ![3]⟩
abbrev S3x1 : Shape := ⟨2, ![3, 1]⟩
abbrev S1x128 : Shape := ⟨2, ![1, 128]⟩
abbrev S1x1x16 : Shape := ⟨3, ![1, 1, 16]⟩
abbrev S1x1 : Shape := ⟨2, ![1, 1]⟩

abbrev nBuf : Space → Nat
  | .hbm => 11
  | .vmem => 28
  | .smem => 0
  | _ => 0

abbrev bufTy : (tb : Table) → Fin (tcTables nBuf tb) → BufTy
  | .hbm, ⟨0, _⟩ => ⟨S8x64x2048, .f32⟩
  | .hbm, ⟨1, _⟩ => ⟨S8x64x2048, .f32⟩
  | .hbm, ⟨2, _⟩ => ⟨S8x2048x3, .f32⟩
  | .hbm, ⟨3, _⟩ => ⟨S8x2048x3, .f32⟩
  | .hbm, ⟨4, _⟩ => ⟨S8x3x2048, .f32⟩
  | .hbm, ⟨5, _⟩ => ⟨S8x3x2048, .f32⟩
  | .hbm, ⟨6, _⟩ => ⟨S8x16x2048, .f32⟩
  | .hbm, ⟨7, _⟩ => ⟨S8x16x2048, .i32⟩
  | .hbm, ⟨8, _⟩ => ⟨S8x1x2048, .f32⟩
  | .hbm, ⟨9, _⟩ => ⟨S8x1x8, .f32⟩
  | .hbm, ⟨10, _⟩ => ⟨S8x1x128, .f32⟩
  | .local _ .vmem, ⟨0, _⟩ => ⟨S1x64x256, .f32⟩
  | .local _ .vmem, ⟨1, _⟩ => ⟨S1x64x256, .f32⟩
  | .local _ .vmem, ⟨2, _⟩ => ⟨S1x64x2048, .f32⟩
  | .local _ .vmem, ⟨3, _⟩ => ⟨S1x64x2048, .f32⟩
  | .local _ .vmem, ⟨4, _⟩ => ⟨S1x2048x3, .f32⟩
  | .local _ .vmem, ⟨5, _⟩ => ⟨S1x2048x3, .f32⟩
  | .local _ .vmem, ⟨6, _⟩ => ⟨S1x16x256, .f32⟩
  | .local _ .vmem, ⟨7, _⟩ => ⟨S1x16x256, .f32⟩
  | .local _ .vmem, ⟨8, _⟩ => ⟨S1x16x256, .i32⟩
  | .local _ .vmem, ⟨9, _⟩ => ⟨S1x16x256, .i32⟩
  | .local _ .vmem, ⟨10, _⟩ => ⟨S1x1x256, .f32⟩
  | .local _ .vmem, ⟨11, _⟩ => ⟨S1x1x256, .f32⟩
  | .local _ .vmem, ⟨12, _⟩ => ⟨S1x1x8, .f32⟩
  | .local _ .vmem, ⟨13, _⟩ => ⟨S1x1x8, .f32⟩
  | .local _ .vmem, ⟨14, _⟩ => ⟨S1x16x2048, .f32⟩
  | .local _ .vmem, ⟨15, _⟩ => ⟨S1x16x2048, .f32⟩
  | .local _ .vmem, ⟨16, _⟩ => ⟨S1x16x2048, .i32⟩
  | .local _ .vmem, ⟨17, _⟩ => ⟨S1x16x2048, .i32⟩
  | .local _ .vmem, ⟨18, _⟩ => ⟨S1x1x2048, .f32⟩
  | .local _ .vmem, ⟨19, _⟩ => ⟨S1x1x2048, .f32⟩
  | .local _ .vmem, ⟨20, _⟩ => ⟨S1x3x2048, .f32⟩
  | .local _ .vmem, ⟨21, _⟩ => ⟨S1x3x2048, .f32⟩
  | .local _ .vmem, ⟨22, _⟩ => ⟨S1x3x2048, .f32⟩
  | .local _ .vmem, ⟨23, _⟩ => ⟨S1x3x2048, .f32⟩
  | .local _ .vmem, ⟨24, _⟩ => ⟨S1x1x8, .f32⟩
  | .local _ .vmem, ⟨25, _⟩ => ⟨S1x1x8, .f32⟩
  | .local _ .vmem, ⟨26, _⟩ => ⟨S1x1x128, .f32⟩
  | .local _ .vmem, ⟨27, _⟩ => ⟨S1x1x128, .f32⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![8], ![false]⟩

@[reducible] def k1_t1_loop : Scf.Loop 32 :=
  let c0_i32 : BitVec 32 := 0#32
  let c15_i32 : BitVec 32 := 15#32
  let v16 : BitVec 32 := Scalar.addi c0_i32 c15_i32
  let c1_i32 : BitVec 32 := 1#32
  ⟨c0_i32, v16, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x3x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "inv15" => some ((1 / 15 : ℝ) : EReal)
  | _ => none
-- ==== ReferenceIdeal.lean ====
abbrev S8x64x2048 : Shape := ⟨3, ![8, 64, 2048]⟩
abbrev S8x2048x3 : Shape := ⟨3, ![8, 2048, 3]⟩
abbrev S8x3x2048 : Shape := ⟨3, ![8, 3, 2048]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S15x8x2 : Shape := ⟨3, ![15, 8, 2]⟩
abbrev S8x4194304 : Shape := ⟨2, ![8, 4194304]⟩
abbrev S8 : Shape := ⟨1, ![8]⟩
abbrev S8x1x1 : Shape := ⟨3, ![8, 1, 1]⟩
abbrev S8x1 : Shape := ⟨2, ![8, 1]⟩
abbrev S8x2 : Shape := ⟨2, ![8, 2]⟩
abbrev S1x8x2 : Shape := ⟨3, ![1, 8, 2]⟩
abbrev S8x15x2 : Shape := ⟨3, ![8, 15, 2]⟩
abbrev S8x15x1 : Shape := ⟨3, ![8, 15, 1]⟩
abbrev S8x15 : Shape := ⟨2, ![8, 15]⟩
abbrev S8x3x15 : Shape := ⟨3, ![8, 3, 15]⟩
abbrev S8x3 : Shape := ⟨2, ![8, 3]⟩
abbrev S8x3x1 : Shape := ⟨3, ![8, 3, 1]⟩
abbrev S8x15x3 : Shape := ⟨3, ![8, 15, 3]⟩
abbrev S8x3x3 : Shape := ⟨3, ![8, 3, 3]⟩
abbrev S8x9 : Shape := ⟨2, ![8, 9]⟩
abbrev S8x113 : Shape := ⟨2, ![8, 113]⟩
abbrev S8x128 : Shape := ⟨2, ![8, 128]⟩
abbrev S8x1x128 : Shape := ⟨3, ![8, 1, 128]⟩

abbrev nBuf : Space → Nat
  | .hbm => 162
  | .vmem => 0
  | .smem => 0
  | _ => 0

abbrev hbmTy0_0 (i : Nat) : BufTy := match i % 128 with
  | 0 => ⟨S8x64x2048, .f32⟩
  | 1 => ⟨S8x64x2048, .f32⟩
  | 2 => ⟨S8x2048x3, .f32⟩
  | 3 => ⟨S8x2048x3, .f32⟩
  | 4 => ⟨S8x3x2048, .f32⟩
  | 5 => ⟨S8x3x2048, .f32⟩
  | 6 => ⟨S8x2048x64, .f32⟩
  | 7 => ⟨S8x2048x2048, .f32⟩
  | 8 => ⟨S_, .f32⟩
  | 9 => ⟨S8x2048x2048, .f32⟩
  | 10 => ⟨S8x2048x2048, .f32⟩
  | 11 => ⟨S_, .f32⟩
  | 12 => ⟨S8x2048, .f32⟩
  | 13 => ⟨S_, .f32⟩
  | 14 => ⟨S8x2048, .f32⟩
  | 15 => ⟨S8x2048, .f32⟩
  | 16 => ⟨S8x2048x1, .f32⟩
  | 17 => ⟨S8x2048x2048, .f32⟩
  | 18 => ⟨S8x2048x2048, .f32⟩
  | 19 => ⟨S8x2048x2048, .f32⟩
  | 20 => ⟨S_, .f32⟩
  | 21 => ⟨S8x2048, .f32⟩
  | 22 => ⟨S8x2048x1, .f32⟩
  | 23 => ⟨S8x2048x2048, .f32⟩
  | 24 => ⟨S8x2048x2048, .f32⟩
  | 25 => ⟨S_, .i32⟩
  | 26 => ⟨S15x8x2, .i32⟩
  | 27 => ⟨S_, .i32⟩
  | 28 => ⟨S_, .i32⟩
  | 29 => ⟨S8x2048x2048, .f32⟩
  | 30 => ⟨S15x8x2, .i32⟩
  | 31 => ⟨S_, .i32⟩
  | 32 => ⟨S_, .i1⟩
  | 33 => ⟨S8x2048x2048, .i32⟩
  | 34 => ⟨S8x2048x2048, .i32⟩
  | 35 => ⟨S8x4194304, .f32⟩
  | 36 => ⟨S8x4194304, .i32⟩
  | 37 => ⟨S_, .f32⟩
  | 38 => ⟨S_, .i32⟩
  | 39 => ⟨S8, .f32⟩
  | 40 => ⟨S8, .i32⟩
  | 41 => ⟨S_, .i32⟩
  | 42 => ⟨S_, .i32⟩
  | 43 => ⟨S8, .i32⟩
  | 44 => ⟨S8, .i32⟩
  | 45 => ⟨S8, .i32⟩
  | 46 => ⟨S_, .i32⟩
  | 47 => ⟨S8, .i32⟩
  | 48 => ⟨S8, .i1⟩
  | 49 => ⟨S8, .i32⟩
  | 50 => ⟨S8, .i32⟩
  | 51 => ⟨S_, .i32⟩
  | 52 => ⟨S8, .i32⟩
  | 53 => ⟨S8, .i1⟩
  | 54 => ⟨S8, .i1⟩
  | 55 => ⟨S_, .i32⟩
  | 56 => ⟨S8, .i32⟩
  | 57 => ⟨S8, .i32⟩
  | 58 => ⟨S8, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S8, .i32⟩
  | 66 => ⟨S8, .i32⟩
  | 67 => ⟨S_, .i32⟩
  | 68 => ⟨S8, .i32⟩
  | 69 => ⟨S8, .i1⟩
  | 70 => ⟨S_, .i32⟩
  | 71 => ⟨S8, .i32⟩
  | 72 => ⟨S8, .i1⟩
  | 73 => ⟨S_, .i32⟩
  | 74 => ⟨S_, .i1⟩
  | 75 => ⟨S8, .i1⟩
  | 76 => ⟨S8, .i1⟩
  | 77 => ⟨S8, .i1⟩
  | 78 => ⟨S8, .i32⟩
  | 79 => ⟨S8, .i32⟩
  | 80 => ⟨S8, .i32⟩
  | 81 => ⟨S8x1x1, .i32⟩
  | 82 => ⟨S8x2048x2048, .i32⟩
  | 83 => ⟨S8x2048x2048, .i1⟩
  | 84 => ⟨S_, .f32⟩
  | 85 => ⟨S_, .f32⟩
  | 86 => ⟨S8x2048x2048, .f32⟩
  | 87 => ⟨S8x2048x2048, .f32⟩
  | 88 => ⟨S8x1x1, .i32⟩
  | 89 => ⟨S8x2048x2048, .i32⟩
  | 90 => ⟨S8x2048x2048, .i1⟩
  | 91 => ⟨S_, .f32⟩
  | 92 => ⟨S_, .f32⟩
  | 93 => ⟨S8x2048x2048, .f32⟩
  | 94 => ⟨S8x2048x2048, .f32⟩
  | 95 => ⟨S8x1, .i32⟩
  | 96 => ⟨S8x1, .i32⟩
  | 97 => ⟨S8x2, .i32⟩
  | 98 => ⟨S1x8x2, .i32⟩
  | 99 => ⟨S_, .i32⟩
  | 100 => ⟨S_, .i32⟩
  | 101 => ⟨S15x8x2, .i32⟩
  | 102 => ⟨S_, .i32⟩
  | 103 => ⟨S_, .i32⟩
  | 104 => ⟨S8x15x2, .i32⟩
  | 105 => ⟨S8x15x1, .i32⟩
  | 106 => ⟨S8x15, .i32⟩
  | 107 => ⟨S_, .i32⟩
  | 108 => ⟨S8x15, .i32⟩
  | 109 => ⟨S8x15, .i1⟩
  | 110 => ⟨S_, .i32⟩
  | 111 => ⟨S8x15, .i32⟩
  | 112 => ⟨S8x15, .i32⟩
  | 113 => ⟨S8x15, .i32⟩
  | 114 => ⟨S8x15x1, .i32⟩
  | 115 => ⟨S8x3x15, .f32⟩
  | 116 => ⟨S8x15x1, .i32⟩
  | 117 => ⟨S8x15, .i32⟩
  | 118 => ⟨S_, .i32⟩
  | 119 => ⟨S8x15, .i32⟩
  | 120 => ⟨S8x15, .i1⟩
  | 121 => ⟨S_, .i32⟩
  | 122 => ⟨S8x15, .i32⟩
  | 123 => ⟨S8x15, .i32⟩
  | 124 => ⟨S8x15, .i32⟩
  | 125 => ⟨S8x15x1, .i32⟩
  | 126 => ⟨S8x3x15, .f32⟩
  | 127 => ⟨S8x2048x2048, .f32⟩
  | _ => ⟨S8x64x2048, .f32⟩

abbrev hbmTy0_1 (i : Nat) : BufTy := match i % 128 with
  | 0 => ⟨S8x3x2048, .f32⟩
  | 1 => ⟨S_, .f32⟩
  | 2 => ⟨S8x3, .f32⟩
  | 3 => ⟨S8x3x1, .f32⟩
  | 4 => ⟨S_, .f32⟩
  | 5 => ⟨S8x3x1, .f32⟩
  | 6 => ⟨S8x3x1, .f32⟩
  | 7 => ⟨S8x3x15, .f32⟩
  | 8 => ⟨S8x3x15, .f32⟩
  | 9 => ⟨S_, .f32⟩
  | 10 => ⟨S8x3, .f32⟩
  | 11 => ⟨S8x3x1, .f32⟩
  | 12 => ⟨S_, .f32⟩
  | 13 => ⟨S8x3x1, .f32⟩
  | 14 => ⟨S8x3x1, .f32⟩
  | 15 => ⟨S8x3x15, .f32⟩
  | 16 => ⟨S8x3x15, .f32⟩
  | 17 => ⟨S8x15x3, .f32⟩
  | 18 => ⟨S8x3x3, .f32⟩
  | 19 => ⟨S8x9, .f32⟩
  | 20 => ⟨S_, .f32⟩
  | 21 => ⟨S8x3, .f32⟩
  | 22 => ⟨S_, .f32⟩
  | 23 => ⟨S8x3, .f32⟩
  | 24 => ⟨S8x3, .f32⟩
  | 25 => ⟨S_, .f32⟩
  | 26 => ⟨S8x3, .f32⟩
  | 27 => ⟨S_, .f32⟩
  | 28 => ⟨S8x3, .f32⟩
  | 29 => ⟨S8x3, .f32⟩
  | 30 => ⟨S_, .f32⟩
  | 31 => ⟨S8x113, .f32⟩
  | 32 => ⟨S8x128, .f32⟩
  | 33 => ⟨S8x1x128, .f32⟩
  | _ => ⟨S8x64x2048, .f32⟩

abbrev hbmTy (i : Nat) : BufTy := match i / 128 with
  | 0 => hbmTy0_0 i
  | 1 => hbmTy0_1 i
  | _ => ⟨S8x64x2048, .f32⟩

abbrev bufTy : (tb : Table) → Fin (tcTables nBuf tb) → BufTy
  | .hbm, ⟨i, _⟩ => hbmTy i
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_c_3 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_while0c_c_19 : Ref sig .tc := ⟨.hbm, 31, rfl⟩
abbrev main_while0c_v64 : Ref sig .tc := ⟨.hbm, 32, rfl⟩
abbrev main_while0b_v64 : Ref sig .tc := ⟨.hbm, 33, rfl⟩
abbrev main_while0b_v65 : Ref sig .tc := ⟨.hbm, 34, rfl⟩
abbrev main_while0b_v66 : Ref sig .tc := ⟨.hbm, 35, rfl⟩
abbrev main_while0b_call0_v0 : Ref sig .tc := ⟨.hbm, 36, rfl⟩
abbrev main_while0b_call0_cst : Ref sig .tc := ⟨.hbm, 37, rfl⟩
abbrev main_while0b_call0_c : Ref sig .tc := ⟨.hbm, 38, rfl⟩
abbrev main_while0b_call0_v1_0 : Ref sig .tc := ⟨.hbm, 39, rfl⟩
abbrev main_while0b_v67 : Ref sig .tc := ⟨.hbm, 40, rfl⟩
abbrev main_while0b_c_19 : Ref sig .tc := ⟨.hbm, 41, rfl⟩
abbrev main_while0b_call1_v0 : Ref sig .tc := ⟨.hbm, 42, rfl⟩
abbrev main_while0b_call1_v1 : Ref sig .tc := ⟨.hbm, 43, rfl⟩
abbrev main_while0b_call1_v2 : Ref sig .tc := ⟨.hbm, 44, rfl⟩
abbrev main_while0b_call1_v3 : Ref sig .tc := ⟨.hbm, 45, rfl⟩
abbrev main_while0b_call1_v4 : Ref sig .tc := ⟨.hbm, 46, rfl⟩
abbrev main_while0b_call1_v5 : Ref sig .tc := ⟨.hbm, 47, rfl⟩
abbrev main_while0b_call1_v6 : Ref sig .tc := ⟨.hbm, 48, rfl⟩
abbrev main_while0b_call1_v7 : Ref sig .tc := ⟨.hbm, 49, rfl⟩
abbrev main_while0b_call1_v8 : Ref sig .tc := ⟨.hbm, 50, rfl⟩
abbrev main_while0b_call1_c : Ref sig .tc := ⟨.hbm, 51, rfl⟩
abbrev main_while0b_call1_v9 : Ref sig .tc := ⟨.hbm, 52, rfl⟩
abbrev main_while0b_call1_v10 : Ref sig .tc := ⟨.hbm, 53, rfl⟩
abbrev main_while0b_call1_v11 : Ref sig .tc := ⟨.hbm, 54, rfl⟩
abbrev main_while0b_call1_c_0 : Ref sig .tc := ⟨.hbm, 55, rfl⟩
abbrev main_while0b_call1_v12 : Ref sig .tc := ⟨.hbm, 56, rfl⟩
abbrev main_while0b_call1_v13 : Ref sig .tc := ⟨.hbm, 57, rfl⟩
abbrev main_while0b_v68 : Ref sig .tc := ⟨.hbm, 58, rfl⟩
abbrev main_while0b_c_20 : Ref sig .tc := ⟨.hbm, 59, rfl⟩
abbrev main_while0b_call2_v0 : Ref sig .tc := ⟨.hbm, 60, rfl⟩
abbrev main_while0b_call2_c : Ref sig .tc := ⟨.hbm, 61, rfl⟩
abbrev main_while0b_call2_v1 : Ref sig .tc := ⟨.hbm, 62, rfl⟩
abbrev main_while0b_call2_c_0 : Ref sig .tc := ⟨.hbm, 63, rfl⟩
abbrev main_while0b_call2_v2 : Ref sig .tc := ⟨.hbm, 64, rfl⟩
abbrev main_while0b_call2_v3 : Ref sig .tc := ⟨.hbm, 65, rfl⟩
abbrev main_while0b_call2_v4 : Ref sig .tc := ⟨.hbm, 66, rfl⟩
abbrev main_while0b_call2_c_1 : Ref sig .tc := ⟨.hbm, 67, rfl⟩
abbrev main_while0b_call2_v5 : Ref sig .tc := ⟨.hbm, 68, rfl⟩
abbrev main_while0b_call2_v6 : Ref sig .tc := ⟨.hbm, 69, rfl⟩
abbrev main_while0b_call2_c_2 : Ref sig .tc := ⟨.hbm, 70, rfl⟩
abbrev main_while0b_call2_v7 : Ref sig .tc := ⟨.hbm, 71, rfl⟩
abbrev main_while0b_call2_v8 : Ref sig .tc := ⟨.hbm, 72, rfl⟩
abbrev main_while0b_call2_c_3 : Ref sig .tc := ⟨.hbm, 73, rfl⟩
abbrev main_while0b_call2_v9 : Ref sig .tc := ⟨.hbm, 74, rfl⟩
abbrev main_while0b_call2_v10 : Ref sig .tc := ⟨.hbm, 75, rfl⟩
abbrev main_while0b_call2_v11 : Ref sig .tc := ⟨.hbm, 76, rfl⟩
abbrev main_while0b_call2_v12 : Ref sig .tc := ⟨.hbm, 77, rfl⟩
abbrev main_while0b_call2_v13 : Ref sig .tc := ⟨.hbm, 78, rfl⟩
abbrev main_while0b_call2_v14 : Ref sig .tc := ⟨.hbm, 79, rfl⟩
abbrev main_while0b_v69 : Ref sig .tc := ⟨.hbm, 80, rfl⟩
abbrev main_while0b_v70 : Ref sig .tc := ⟨.hbm, 81, rfl⟩
abbrev main_while0b_v71 : Ref sig .tc := ⟨.hbm, 82, rfl⟩
abbrev main_while0b_v72 : Ref sig .tc := ⟨.hbm, 83, rfl⟩
abbrev main_while0b_cst_21 : Ref sig .tc := ⟨.hbm, 84, rfl⟩
abbrev main_while0b_call3_v0 : Ref sig .tc := ⟨.hbm, 85, rfl⟩
abbrev main_while0b_call3_v1 : Ref sig .tc := ⟨.hbm, 86, rfl⟩
abbrev main_while0b_v73 : Ref sig .tc := ⟨.hbm, 87, rfl⟩
abbrev main_while0b_v74 : Ref sig .tc := ⟨.hbm, 88, rfl⟩
abbrev main_while0b_v75 : Ref sig .tc := ⟨.hbm, 89, rfl⟩
abbrev main_while0b_v76 : Ref sig .tc := ⟨.hbm, 90, rfl⟩
abbrev main_while0b_cst_22 : Ref sig .tc := ⟨.hbm, 91, rfl⟩
abbrev main_while0b_call4_v0 : Ref sig .tc := ⟨.hbm, 92, rfl⟩
abbrev main_while0b_call4_v1 : Ref sig .tc := ⟨.hbm, 93, rfl⟩
abbrev main_while0b_v77 : Ref sig .tc := ⟨.hbm, 94, rfl⟩
abbrev main_while0b_v78 : Ref sig .tc := ⟨.hbm, 95, rfl⟩
abbrev main_while0b_v79 : Ref sig .tc := ⟨.hbm, 96, rfl⟩
abbrev main_while0b_v80 : Ref sig .tc := ⟨.hbm, 97, rfl⟩
abbrev main_while0b_call5_v0 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_v81 : Ref sig .tc := ⟨.hbm, 101, rfl⟩
abbrev main_while0b_c_23 : Ref sig .tc := ⟨.hbm, 102, rfl⟩
abbrev main_while0b_v82 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_c_4 : Ref sig .tc := ⟨.hbm, 107, rfl⟩
abbrev main_v22 : Ref sig .tc := ⟨.hbm, 108, rfl⟩
abbrev main_v23 : Ref sig .tc := ⟨.hbm, 109, rfl⟩
abbrev main_c_5 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_c_6 : Ref sig .tc := ⟨.hbm, 118, rfl⟩
abbrev main_v31 : Ref sig .tc := ⟨.hbm, 119, rfl⟩
abbrev main_v32 : Ref sig .tc := ⟨.hbm, 120, rfl⟩
abbrev main_c_7 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_cst_8 : Ref sig .tc := ⟨.hbm, 129, rfl⟩
abbrev main_v40 : Ref sig .tc := ⟨.hbm, 130, rfl⟩
abbrev main_v41 : Ref sig .tc := ⟨.hbm, 131, rfl⟩
abbrev main_cst_9 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_cst_10 : Ref sig .tc := ⟨.hbm, 137, rfl⟩
abbrev main_v46 : Ref sig .tc := ⟨.hbm, 138, rfl⟩
abbrev main_v47 : Ref sig .tc := ⟨.hbm, 139, rfl⟩
abbrev main_cst_11 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_cst_12 : Ref sig .tc := ⟨.hbm, 148, rfl⟩
abbrev main_v55 : Ref sig .tc := ⟨.hbm, 149, rfl⟩
abbrev main_cst_13 : Ref sig .tc := ⟨.hbm, 150, rfl⟩
abbrev main_v56 : Ref sig .tc := ⟨.hbm, 151, rfl⟩
abbrev main_v57 : Ref sig .tc := ⟨.hbm, 152, rfl⟩
abbrev main_cst_14 : Ref sig .tc := ⟨.hbm, 153, rfl⟩
abbrev main_v58 : Ref sig .tc := ⟨.hbm, 154, rfl⟩
abbrev main_cst_15 : Ref sig .tc := ⟨.hbm, 155, rfl⟩
abbrev main_v59 : Ref sig .tc := ⟨.hbm, 156, rfl⟩
abbrev main_v60 : Ref sig .tc := ⟨.hbm, 157, rfl⟩
abbrev main_cst_16 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩

abbrev nD : Nat := 1
abbrev τ : Topo := Topo.v7x

variable {F : FTy → Type} [FloatOps F]

abbrev main_while0_count : Scf.Loop 32 := ⟨0#32, 15#32, 1#32⟩
-- ==== Rotation.lean ====
abbrev S8x1x128 : Shape := ⟨3, ![8, 1, 128]⟩
abbrev S8x128 : Shape := ⟨2, ![8, 128]⟩
abbrev S8x1 : Shape := ⟨2, ![8, 1]⟩

abbrev nBuf : Space → Nat
  | .hbm => 2
  | .vmem => 2
  | .smem => 0
  | _ => 0

abbrev bufTy : (tb : Table) → Fin (tcTables nBuf tb) → BufTy
  | .hbm, ⟨0, _⟩ => ⟨S8x1x128, .f32⟩
  | .hbm, ⟨1, _⟩ => ⟨S8x1x128, .f32⟩
  | .local _ .vmem, ⟨0, _⟩ => ⟨S8x1x128, .f32⟩
  | .local _ .vmem, ⟨1, _⟩ => ⟨S8x1x128, .f32⟩
  | _, _ => ⟨S8x1x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c320_i32 : BitVec 32 := 320#32
  let v59 : BitVec 32 := Scalar.addi c0_i32 c320_i32
  let c1_i32 : BitVec 32 := 1#32
  ⟨c0_i32, v59, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Proof.IdealPassOne.lean ====
/- The first call of the program `KernelIdeal` (score tiles, column maxima and the running correspondence sums), at arbitrary
   contents of the device's arrays on entry: what its body leaves in each output block, and the obligation the
   pipeline asks of it.  The output blocks are written in closed form, so that the same text serves the frame and the value. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Reading after one more store is the store's payload laid over what was read before it. -/
theorem read_writes_overlay {sg : RefSig} {κ : Kind} {sp : Space} {s : Shape} {e : EltTy} {Val : EltTy → Type}
    (v : View sg κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨x, rfl⟩ : ∃ x, p.1.emb x = y := p.1.exists_idx_of_mem hy
    obtain ⟨r, q⟩ := p
    rw [View.read_writes_cons_emb, Rect.overlay_emb]
  · rw [View.read_writes_cons_miss _ _ _ _ _ hy, Rect.overlay_of_not_mem _ _ _ hy]

/-! ## The score tile and its successive reductions -/

/-- The tile after `k` column maxima have been struck out (each first maximum replaced by −1). -/
def tileAt (w : FVec F S2048x256 .f32) : ℕ → FVec F S2048x256 .f32
  | 0 => w
  | k + 1 => k0_pay17 (tileAt w k)

/-! The printed body spells the same three operations (column maximum, its first row, the strike-out) once per round. -/

theorem pay18_eq (w : FVec F S2048x256 .f32) : k0_pay18 w = k0_pay13 (k0_pay17 w) := rfl
theorem pay19_eq (w : FVec F S2048x256 .f32) : k0_pay19 w = k0_pay14 (k0_pay17 w) := rfl
theorem pay20_eq (w : FVec F S2048x256 .f32) : k0_pay20 w = k0_pay15 (k0_pay17 w) := rfl
theorem pay21_eq (w : FVec F S2048x256 .f32) : k0_pay21 w = k0_pay16 (k0_pay17 w) := rfl
theorem pay1_eq (w : FVec F S2048x256 .f32) : k0_pay1 (iota .tc S2048x256 32 [0] iota_S2048x256_d0_w32) w (k0_pay14 w) = k0_pay17 w := rfl
theorem pay2_eq (w : FVec F S2048x256 .f32) : k0_pay2 (iota .tc S2048x256 32 [0] iota_S2048x256_d0_w32) w (k0_pay14 w) = k0_pay13 (k0_pay17 w) := rfl
theorem pay3_eq (w : FVec F S2048x256 .f32) : k0_pay3 (iota .tc S2048x256 32 [0] iota_S2048x256_d0_w32) w (k0_pay14 w) = k0_pay15 (k0_pay17 w) := rfl
theorem pay4_eq (w : FVec F S2048x256 .f32) : k0_pay4 (iota .tc S2048x256 32 [0] iota_S2048x256_d0_w32) w (k0_pay14 w) = k0_pay16 (k0_pay17 w) := rfl
theorem pay22_eq (w : FVec F S2048x256 .f32) : k0_pay22 (iota .tc S2048x256 32 [0] iota_S2048x256_d0_w32) w (k0_pay14 w) = k0_pay17 w := rfl
theorem pay23_eq (w : FVec F S2048x256 .f32) : k0_pay23 (iota .tc S2048x256 32 [0] iota_S2048x256_d0_w32) w (k0_pay14 w) = k0_pay13 (k0_pay17 w) := rfl
theorem pay24_eq (w : FVec F S2048x256 .f32) : k0_pay24 (iota .tc S2048x256 32 [0] iota_S2048x256_d0_w32) w (k0_pay14 w) = k0_pay14 (k0_pay17 w) := rfl
theorem pay25_eq (w : FVec F S2048x256 .f32) : k0_pay25 (iota .tc S2048x256 32 [0] iota_S2048x256_d0_w32) w (k0_pay14 w) = k0_pay15 (k0_pay17 w) := rfl
theorem pay26_eq (w : FVec F S2048x256 .f32) : k0_pay26 (iota .tc S2048x256 32 [0] iota_S2048x256_d0_w32) w (k0_pay14 w) = k0_pay16 (k0_pay17 w) := rfl
theorem pay27_eq (w : FVec F S2048x256 .f32) : k0_pay27 (iota .tc S2048x256 32 [0] iota_S2048x256_d0_w32) w (k0_pay14 w) = k0_pay17 (k0_pay17 w) := rfl
theorem pay28_eq (w : FVec F S2048x256 .f32) : k0_pay28 (iota .tc S2048x256 32 [0] iota_S2048x256_d0_w32) w (k0_pay14 w) = k0_pay13 (k0_pay17 (k0_pay17 w)) := rfl
theorem pay29_eq (w : FVec F S2048x256 .f32) : k0_pay29 (iota .tc S2048x256 32 [0] iota_S2048x256_d0_w32) w (k0_pay14 w) = k0_pay14 (k0_pay17 (k0_pay17 w)) := rfl
theorem pay30_eq (w : FVec F S2048x256 .f32) : k0_pay30 (iota .tc S2048x256 32 [0] iota_S2048x256_d0_w32) w (k0_pay14 w) = k0_pay15 (k0_pay17 (k0_pay17 w)) := rfl
theorem pay31_eq (w : FVec F S2048x256 .f32) : k0_pay31 (iota .tc S2048x256 32 [0] iota_S2048x256_d0_w32) w (k0_pay14 w) = k0_pay16 (k0_pay17 (k0_pay17 w)) := rfl
theorem pay32_eq (w : FVec F S2048x256 .f32) : k0_pay32 (iota .tc S2048x256 32 [0] iota_S2048x256_d0_w32) w (k0_pay14 w) = k0_pay17 w := rfl
theorem pay33_eq (w : FVec F S2048x256 .f32) : k0_pay33 (iota .tc S2048x256 32 [0] iota_S2048x256_d0_w32) w (k0_pay14 w) = k0_pay13 (k0_pay17 w) := rfl
theorem pay34_eq (w : FVec F S2048x256 .f32) : k0_pay34 (iota .tc S2048x256 32 [0] iota_S2048x256_d0_w32) w (k0_pay14 w) = k0_pay14 (k0_pay17 w) := rfl
theorem pay35_eq (w : FVec F S2048x256 .f32) : k0_pay35 (iota .tc S2048x256 32 [0] iota_S2048x256_d0_w32) w (k0_pay14 w) = k0_pay15 (k0_pay17 w) := rfl
theorem pay36_eq (w : FVec F S2048x256 .f32) : k0_pay36 (iota .tc S2048x256 32 [0] iota_S2048x256_d0_w32) w (k0_pay14 w) = k0_pay16 (k0_pay17 w) := rfl
theorem pay37_eq (w : FVec F S2048x256 .f32) : k0_pay37 (iota .tc S2048x256 32 [0] iota_S2048x256_d0_w32) w (k0_pay14 w) = k0_pay17 (k0_pay17 w) := rfl
theorem pay38_eq (w : FVec F S2048x256 .f32) : k0_pay38 (iota .tc S2048x256 32 [0] iota_S2048x256_d0_w32) w (k0_pay14 w) = k0_pay13 (k0_pay17 (k0_pay17 w)) := rfl
theorem pay39_eq (w : FVec F S2048x256 .f32) : k0_pay39 (iota .tc S2048x256 32 [0] iota_S2048x256_d0_w32) w (k0_pay14 w) = k0_pay14 (k0_pay17 (k0_pay17 w)) := rfl
theorem pay40_eq (w : FVec F S2048x256 .f32) : k0_pay40 (iota .tc S2048x256 32 [0] iota_S2048x256_d0_w32) w (k0_pay14 w) = k0_pay15 (k0_pay17 (k0_pay17 w)) := rfl
theorem pay41_eq (w : FVec F S2048x256 .f32) : k0_pay41 (iota .tc S2048x256 32 [0] iota_S2048x256_d0_w32) w (k0_pay14 w) = k0_pay16 (k0_pay17 (k0_pay17 w)) := rfl
theorem pay42_eq (w : FVec F S2048x256 .f32) : k0_pay42 (iota .tc S2048x256 32 [0] iota_S2048x256_d0_w32) w (k0_pay14 w) = k0_pay17 w := rfl
theorem pay43_eq (w : FVec F S2048x256 .f32) : k0_pay43 (iota .tc S2048x256 32 [0] iota_S2048x256_d0_w32) w (k0_pay14 w) = k0_pay13 (k0_pay17 w) := rfl
theorem pay44_eq (w : FVec F S2048x256 .f32) : k0_pay44 (iota .tc S2048x256 32 [0] iota_S2048x256_d0_w32) w (k0_pay14 w) = k0_pay14 (k0_pay17 w) := rfl
theorem pay45_eq (w : FVec F S2048x256 .f32) : k0_pay45 (iota .tc S2048x256 32 [0] iota_S2048x256_d0_w32) w (k0_pay14 w) = k0_pay15 (k0_pay17 w) := rfl
theorem pay46_eq (w : FVec F S2048x256 .f32) : k0_pay46 (iota .tc S2048x256 32 [0] iota_S2048x256_d0_w32) w (k0_pay14 w) = k0_pay16 (k0_pay17 w) := rfl
theorem pay47_eq (w : FVec F S2048x256 .f32) : k0_pay47 (iota .tc S2048x256 32 [0] iota_S2048x256_d0_w32) w (k0_pay14 w) = k0_pay17 (k0_pay17 w) := rfl
theorem pay48_eq (w : FVec F S2048x256 .f32) : k0_pay48 (iota .tc S2048x256 32 [0] iota_S2048x256_d0_w32) w (k0_pay14 w) = k0_pay13 (k0_pay17 (k0_pay17 w)) := rfl
theorem pay49_eq (w : FVec F S2048x256 .f32) : k0_pay49 (iota .tc S2048x256 32 [0] iota_S2048x256_d0_w32) w (k0_pay14 w) = k0_pay14 (k0_pay17 (k0_pay17 w)) := rfl
theorem pay50_eq (w : FVec F S2048x256 .f32) : k0_pay50 (iota .tc S2048x256 32 [0] iota_S2048x256_d0_w32) w (k0_pay14 w) = k0_pay15 (k0_pay17 (k0_pay17 w)) := rfl
theorem pay51_eq (w : FVec F S2048x256 .f32) : k0_pay51 (iota .tc S2048x256 32 [0] iota_S2048x256_d0_w32) w (k0_pay14 w) = k0_pay16 (k0_pay17 (k0_pay17 w)) := rfl
theorem pay52_eq (w : FVec F S2048x256 .f32) : k0_pay52 (iota .tc S2048x256 32 [0] iota_S2048x256_d0_w32) w (k0_pay14 w) = k0_pay17 w := rfl
theorem pay53_eq (w : FVec F S2048x256 .f32) : k0_pay53 (iota .tc S2048x256 32 [0] iota_S2048x256_d0_w32) w (k0_pay14 w) = k0_pay13 (k0_pay17 w) := rfl
theorem pay54_eq (w : FVec F S2048x256 .f32) : k0_pay54 (iota .tc S2048x256 32 [0] iota_S2048x256_d0_w32) w (k0_pay14 w) = k0_pay14 (k0_pay17 w) := rfl
theorem pay55_eq (w : FVec F S2048x256 .f32) : k0_pay55 (iota .tc S2048x256 32 [0] iota_S2048x256_d0_w32) w (k0_pay14 w) = k0_pay15 (k0_pay17 w) := rfl
theorem pay56_eq (w : FVec F S2048x256 .f32) : k0_pay56 (iota .tc S2048x256 32 [0] iota_S2048x256_d0_w32) w (k0_pay14 w) = k0_pay16 (k0_pay17 w) := rfl
theorem pay57_eq (w : FVec F S2048x256 .f32) : k0_pay57 (iota .tc S2048x256 32 [0] iota_S2048x256_d0_w32) w (k0_pay14 w) = k0_pay17 (k0_pay17 w) := rfl
theorem pay58_eq (w : FVec F S2048x256 .f32) : k0_pay58 (iota .tc S2048x256 32 [0] iota_S2048x256_d0_w32) w (k0_pay14 w) = k0_pay13 (k0_pay17 (k0_pay17 w)) := rfl
theorem pay59_eq (w : FVec F S2048x256 .f32) : k0_pay59 (iota .tc S2048x256 32 [0] iota_S2048x256_d0_w32) w (k0_pay14 w) = k0_pay14 (k0_pay17 (k0_pay17 w)) := rfl
theorem pay60_eq (w : FVec F S2048x256 .f32) : k0_pay60 (iota .tc S2048x256 32 [0] iota_S2048x256_d0_w32) w (k0_pay14 w) = k0_pay15 (k0_pay17 (k0_pay17 w)) := rfl
theorem pay61_eq (w : FVec F S2048x256 .f32) : k0_pay61 (iota .tc S2048x256 32 [0] iota_S2048x256_d0_w32) w (k0_pay14 w) = k0_pay16 (k0_pay17 (k0_pay17 w)) := rfl
theorem pay62_eq (w : FVec F S2048x256 .f32) : k0_pay62 (iota .tc S2048x256 32 [0] iota_S2048x256_d0_w32) w (k0_pay14 w) = k0_pay17 w := rfl
theorem pay63_eq (w : FVec F S2048x256 .f32) : k0_pay63 (iota .tc S2048x256 32 [0] iota_S2048x256_d0_w32) w (k0_pay14 w) = k0_pay13 (k0_pay17 w) := rfl
theorem pay64_eq (w : FVec F S2048x256 .f32) : k0_pay64 (iota .tc S2048x256 32 [0] iota_S2048x256_d0_w32) w (k0_pay14 w) = k0_pay14 (k0_pay17 w) := rfl
theorem pay65_eq (w : FVec F S2048x256 .f32) : k0_pay65 (iota .tc S2048x256 32 [0] iota_S2048x256_d0_w32) w (k0_pay14 w) = k0_pay15 (k0_pay17 w) := rfl
theorem pay66_eq (w : FVec F S2048x256 .f32) : k0_pay66 (iota .tc S2048x256 32 [0] iota_S2048x256_d0_w32) w (k0_pay14 w) = k0_pay16 (k0_pay17 w) := rfl
theorem pay67_eq (w : FVec F S2048x256 .f32) : k0_pay67 (iota .tc S2048x256 32 [0] iota_S2048x256_d0_w32) w (k0_pay14 w) = k0_pay17 (k0_pay17 w) := rfl
theorem pay68_eq (w : FVec F S2048x256 .f32) : k0_pay68 (iota .tc S2048x256 32 [0] iota_S2048x256_d0_w32) w (k0_pay14 w) = k0_pay13 (k0_pay17 (k0_pay17 w)) := rfl
theorem pay69_eq (w : FVec F S2048x256 .f32) : k0_pay69 (iota .tc S2048x256 32 [0] iota_S2048x256_d0_w32) w (k0_pay14 w) = k0_pay14 (k0_pay17 (k0_pay17 w)) := rfl
theorem pay70_eq (w : FVec F S2048x256 .f32) : k0_pay70 (iota .tc S2048x256 32 [0] iota_S2048x256_d0_w32) w (k0_pay14 w) = k0_pay15 (k0_pay17 (k0_pay17 w)) := rfl
theorem pay71_eq (w : FVec F S2048x256 .f32) : k0_pay71 (iota .tc S2048x256 32 [0] iota_S2048x256_d0_w32) w (k0_pay14 w) = k0_pay16 (k0_pay17 (k0_pay17 w)) := rfl
theorem pay72_eq (w : FVec F S2048x256 .f32) : k0_pay72 (iota .tc S2048x256 32 [0] iota_S2048x256_d0_w32) w (k0_pay14 w) = k0_pay17 w := rfl
theorem pay73_eq (w : FVec F S2048x256 .f32) : k0_pay73 (iota .tc S2048x256 32 [0] iota_S2048x256_d0_w32) w (k0_pay14 w) = k0_pay13 (k0_pay17 w) := rfl
theorem pay74_eq (w : FVec F S2048x256 .f32) : k0_pay74 (iota .tc S2048x256 32 [0] iota_S2048x256_d0_w32) w (k0_pay14 w) = k0_pay14 (k0_pay17 w) := rfl
theorem pay75_eq (w : FVec F S2048x256 .f32) : k0_pay75 (iota .tc S2048x256 32 [0] iota_S2048x256_d0_w32) w (k0_pay14 w) = k0_pay15 (k0_pay17 w) := rfl
theorem pay76_eq (w : FVec F S2048x256 .f32) : k0_pay76 (iota .tc S2048x256 32 [0] iota_S2048x256_d0_w32) w (k0_pay14 w) = k0_pay16 (k0_pay17 w) := rfl
theorem pay77_eq (w : FVec F S2048x256 .f32) : k0_pay77 (iota .tc S2048x256 32 [0] iota_S2048x256_d0_w32) w (k0_pay14 w) = k0_pay17 (k0_pay17 w) := rfl
theorem pay78_eq (w : FVec F S2048x256 .f32) : k0_pay78 (iota .tc S2048x256 32 [0] iota_S2048x256_d0_w32) w (k0_pay14 w) = k0_pay13 (k0_pay17 (k0_pay17 w)) := rfl
theorem pay79_eq (w : FVec F S2048x256 .f32) : k0_pay79 (iota .tc S2048x256 32 [0] iota_S2048x256_d0_w32) w (k0_pay14 w) = k0_pay14 (k0_pay17 (k0_pay17 w)) := rfl
theorem pay80_eq (w : FVec F S2048x256 .f32) : k0_pay80 (iota .tc S2048x256 32 [0] iota_S2048x256_d0_w32) w (k0_pay14 w) = k0_pay15 (k0_pay17 (k0_pay17 w)) := rfl
theorem pay81_eq (w : FVec F S2048x256 .f32) : k0_pay81 (iota .tc S2048x256 32 [0] iota_S2048x256_d0_w32) w (k0_pay14 w) = k0_pay16 (k0_pay17 (k0_pay17 w)) := rfl

abbrev row0_0 : Rect S1x16x256 := Rect.unit (s := S1x16x256) ![0, 0, 0] S1x1x256.size inb_S1x16x256_S1x1x256_0_0_0
abbrev row0_1 : Rect S1x16x256 := Rect.unit (s := S1x16x256) ![0, 1, 0] S1x1x256.size inb_S1x16x256_S1x1x256_0_1_0
abbrev row0_2 : Rect S1x16x256 := Rect.unit (s := S1x16x256) ![0, 2, 0] S1x1x256.size inb_S1x16x256_S1x1x256_0_2_0
abbrev row0_3 : Rect S1x16x256 := Rect.unit (s := S1x16x256) ![0, 3, 0] S1x1x256.size inb_S1x16x256_S1x1x256_0_3_0
abbrev row0_4 : Rect S1x16x256 := Rect.unit (s := S1x16x256) ![0, 4, 0] S1x1x256.size inb_S1x16x256_S1x1x256_0_4_0
abbrev row0_5 : Rect S1x16x256 := Rect.unit (s := S1x16x256) ![0, 5, 0] S1x1x256.size inb_S1x16x256_S1x1x256_0_5_0
abbrev row0_6 : Rect S1x16x256 := Rect.unit (s := S1x16x256) ![0, 6, 0] S1x1x256.size inb_S1x16x256_S1x1x256_0_6_0
abbrev row0_7 : Rect S1x16x256 := Rect.unit (s := S1x16x256) ![0, 7, 0] S1x1x256.size inb_S1x16x256_S1x1x256_0_7_0
abbrev row0_8 : Rect S1x16x256 := Rect.unit (s := S1x16x256) ![0, 8, 0] S1x1x256.size inb_S1x16x256_S1x1x256_0_8_0
abbrev row0_9 : Rect S1x16x256 := Rect.unit (s := S1x16x256) ![0, 9, 0] S1x1x256.size inb_S1x16x256_S1x1x256_0_9_0
abbrev row0_10 : Rect S1x16x256 := Rect.unit (s := S1x16x256) ![0, 10, 0] S1x1x256.size inb_S1x16x256_S1x1x256_0_10_0
abbrev row0_11 : Rect S1x16x256 := Rect.unit (s := S1x16x256) ![0, 11, 0] S1x1x256.size inb_S1x16x256_S1x1x256_0_11_0
abbrev row0_12 : Rect S1x16x256 := Rect.unit (s := S1x16x256) ![0, 12, 0] S1x1x256.size inb_S1x16x256_S1x1x256_0_12_0
abbrev row0_13 : Rect S1x16x256 := Rect.unit (s := S1x16x256) ![0, 13, 0] S1x1x256.size inb_S1x16x256_S1x1x256_0_13_0
abbrev row0_14 : Rect S1x16x256 := Rect.unit (s := S1x16x256) ![0, 14, 0] S1x1x256.size inb_S1x16x256_S1x1x256_0_14_0
abbrev row0_15 : Rect S1x16x256 := Rect.unit (s := S1x16x256) ![0, 15, 0] S1x1x256.size inb_S1x16x256_S1x1x256_0_15_0
abbrev whole0_5 : Rect S1x1x256 := Rect.unit (s := S1x1x256) ![0, 0, 0] S1x1x256.size inb_S1x1x256_S1x1x256_0_0_0
abbrev lanes0_6 : Rect S1x1x8 := Rect.unit (s := S1x1x8) ![0, 0, 0] S1x1x3.size inb_S1x1x8_S1x1x3_0_0_0
abbrev whole0_6 : Rect S1x1x8 := Rect.unit (s := S1x1x8) ![0, 0, 0] S1x1x8.size inb_S1x1x8_S1x1x8_0_0_0
abbrev whole0_0 : Rect S1x64x256 := Rect.unit (s := S1x64x256) ![0, 0, 0] S1x64x256.size inb_S1x64x256_S1x64x256_0_0_0
abbrev whole0_1 : Rect S1x64x2048 := Rect.unit (s := S1x64x2048) ![0, 0, 0] S1x64x2048.size inb_S1x64x2048_S1x64x2048_0_0_0
abbrev whole0_2 : Rect S1x2048x3 := Rect.unit (s := S1x2048x3) ![0, 0, 0] S1x2048x3.size inb_S1x2048x3_S1x2048x3_0_0_0

/-- The exponentiated score tile, from the two embedding blocks. -/
def tile0 (x0 : Vec F S1x64x256 .f32) (x1 : Vec F S1x64x2048 .f32) : FVec F S2048x256 .f32 :=
  k0_pay7 (View.ld x0 whole0_0) (View.ld x1 whole0_1)

/-- The sixteen rows of values the body stores, last first, from the tile. -/
def valPieces (w : FVec F S2048x256 .f32) : List (View.Piece (Elt F) S1x16x256 .f32) :=
  [⟨row0_15, k0_pay5 (F := F)⟩,
   ⟨row0_14, k0_pay15 (tileAt w 14)⟩,
   ⟨row0_13, k0_pay15 (tileAt w 13)⟩,
   ⟨row0_12, k0_pay15 (tileAt w 12)⟩,
   ⟨row0_11, k0_pay15 (tileAt w 11)⟩,
   ⟨row0_10, k0_pay15 (tileAt w 10)⟩,
   ⟨row0_9, k0_pay15 (tileAt w 9)⟩,
   ⟨row0_8, k0_pay15 (tileAt w 8)⟩,
   ⟨row0_7, k0_pay15 (tileAt w 7)⟩,
   ⟨row0_6, k0_pay15 (tileAt w 6)⟩,
   ⟨row0_5, k0_pay15 (tileAt w 5)⟩,
   ⟨row0_4, k0_pay15 (tileAt w 4)⟩,
   ⟨row0_3, k0_pay15 (tileAt w 3)⟩,
   ⟨row0_2, k0_pay15 (tileAt w 2)⟩,
   ⟨row0_1, k0_pay15 (tileAt w 1)⟩,
   ⟨row0_0, k0_pay15 (tileAt w 0)⟩]

/-- The sixteen rows of row numbers the body stores, last first, from the tile. -/
def idxPieces (w : FVec F S2048x256 .f32) : List (View.Piece (Elt F) S1x16x256 .i32) :=
  [⟨row0_15, k0_pay6⟩,
   ⟨row0_14, k0_pay16 (tileAt w 14)⟩,
   ⟨row0_13, k0_pay16 (tileAt w 13)⟩,
   ⟨row0_12, k0_pay16 (tileAt w 12)⟩,
   ⟨row0_11, k0_pay16 (tileAt w 11)⟩,
   ⟨row0_10, k0_pay16 (tileAt w 10)⟩,
   ⟨row0_9, k0_pay16 (tileAt w 9)⟩,
   ⟨row0_8, k0_pay16 (tileAt w 8)⟩,
   ⟨row0_7, k0_pay16 (tileAt w 7)⟩,
   ⟨row0_6, k0_pay16 (tileAt w 6)⟩,
   ⟨row0_5, k0_pay16 (tileAt w 5)⟩,
   ⟨row0_4, k0_pay16 (tileAt w 4)⟩,
   ⟨row0_3, k0_pay16 (tileAt w 3)⟩,
   ⟨row0_2, k0_pay16 (tileAt w 2)⟩,
   ⟨row0_1, k0_pay16 (tileAt w 1)⟩,
   ⟨row0_0, k0_pay16 (tileAt w 0)⟩]

/-- What the body leaves in the block of column maxima, -/
def out0_3 (x0 : Vec F S1x64x256 .f32) (x1 : Vec F S1x64x2048 .f32) : Vec F S1x16x256 .f32 := View.canon (valPieces (tile0 x0 x1))
/-- in the block of their row numbers, -/
def out0_4 (x0 : Vec F S1x64x256 .f32) (x1 : Vec F S1x64x2048 .f32) : Vec F S1x16x256 .i32 := View.canon (idxPieces (tile0 x0 x1))
/-- in the block of column sums, -/
def out0_5 (x0 : Vec F S1x64x256 .f32) (x1 : Vec F S1x64x2048 .f32) : Vec F S1x1x256 .f32 :=
  View.canon [⟨whole0_5, k0_pay9 (View.ld x0 whole0_0) (View.ld x1 whole0_1)⟩]
/-- and in the running sums, over what they held before. -/
def out0_6 (prev : Vec F S1x1x8 .f32) (x0 : Vec F S1x64x256 .f32) (x1 : Vec F S1x64x2048 .f32) (x2 : Vec F S1x2048x3 .f32) : Vec F S1x1x8 .f32 :=
  lanes0_6.overlay prev (k0_pay12 (k0_pay11 (View.ld x0 whole0_0) (View.ld x1 whole0_1) (View.ld x2 whole0_2) (View.ld prev lanes0_6)))
/-- The running sums at the start of a batch entry. -/
def zero0_6 : Vec F S1x1x8 .f32 := View.canon [⟨whole0_6, k0_pay10 (F := F)⟩]

theorem cover0_3 (w : FVec F S2048x256 .f32) (y : S1x16x256.Idx) : ∃ pc ∈ valPieces w, y ∈ pc.1.set :=
  View.cover_of_tiledL (valPieces w) S1x1x256.size (by sl_kernel_rfl) y
theorem cover0_4 (w : FVec F S2048x256 .f32) (y : S1x16x256.Idx) : ∃ pc ∈ idxPieces w, y ∈ pc.1.set :=
  View.cover_of_tiledL (idxPieces w) S1x1x256.size (by sl_kernel_rfl) y
theorem cover0_5 (p : Vec F S1x1x256 .f32) (y : S1x1x256.Idx) : ∃ pc ∈ ([⟨whole0_5, p⟩] : List (View.Piece (Elt F) S1x1x256 .f32)), y ∈ pc.1.set :=
  View.cover_of_tiledL [⟨whole0_5, p⟩] S1x1x256.size (by sl_kernel_rfl) y
theorem cover0_6 (p : Vec F S1x1x8 .f32) (y : S1x1x8.Idx) : ∃ pc ∈ ([⟨whole0_6, p⟩] : List (View.Piece (Elt F) S1x1x8 .f32)), y ∈ pc.1.set :=
  View.cover_of_tiledL [⟨whole0_6, p⟩] S1x1x8.size (by sl_kernel_rfl) y

/-- The branch of the body is taken when the inner grid coordinate is zero, -/
abbrev cond0_0 (i : grid0.Coords) : Prop := (Scalar.cmpi .ne (Scalar.extui (Scalar.cmpi .eq (BitVec.ofNat 32 (i 1).val) 0#32)) 0#32) = 1#1
/-- that is at every eighth point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

end Cert.KernelIdeal.Hand
-- ==== Proof.IdealPassOneA.lean ====
/- One case of the first call's body, run through its loads and stores. -/
module

public import proofs.«01_k».proof.Proof.IdealPassOne
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the branch is taken: the running sums start from zero. -/
theorem run0_A (c : Dev nD) (E : Set ℕ) (i : grid0.Coords) (arg2 : Memref sig .tc .vmem S1x64x256 .f32) (harg2 : arg2.IsWhole) (arg3 : Memref sig .tc .vmem S1x64x2048 .f32) (harg3 : arg3.IsWhole) (arg4 : Memref sig .tc .vmem S1x2048x3 .f32) (harg4 : arg4.IsWhole) (arg5 : Memref sig .tc .vmem S1x16x256 .f32) (harg5 : arg5.IsWhole) (arg6 : Memref sig .tc .vmem S1x16x256 .i32) (harg6 : arg6.IsWhole) (arg7 : Memref sig .tc .vmem S1x1x256 .f32) (harg7 : arg7.IsWhole) (arg8 : Memref sig .tc .vmem S1x1x8 .f32) (harg8 : arg8.IsWhole) (hc0 : cond0_0 i)
    (x0 : Vec F S1x64x256 .f32) (x1 : Vec F S1x64x2048 .f32) (x2 : Vec F S1x2048x3 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1) ∗ owns (c : Thread nD τ) arg6 fullShare (out0_4 x0 x1) ∗ owns (c : Thread nD τ) arg7 fullShare (out0_5 x0 x1) ∗ owns (c : Thread nD τ) arg8 fullShare (out0_6 zero0_6 x0 x1 x2)) -∗ K ⟨⟩))
      ⊢ wp frame (wpE (defs₀ (F := F)) Variants.none c none) E (cc0__pass1 i arg2 harg2 arg3 harg3 arg4 harg4 arg5 harg5 arg6 harg6 arg7 harg7 arg8 harg8) K := by
  simp only [cc0__pass1_eq_skeleton]; unfold cc0__pass1_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    simp only [pay18_eq, pay19_eq, pay20_eq, pay21_eq, pay1_eq, pay2_eq, pay3_eq, pay4_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq, pay63_eq, pay64_eq, pay65_eq, pay66_eq, pay67_eq, pay68_eq, pay69_eq, pay70_eq, pay71_eq, pay72_eq, pay73_eq, pay74_eq, pay75_eq, pay76_eq, pay77_eq, pay78_eq, pay79_eq, pay80_eq, pay81_eq, View.readAt_eq_ld, harg2.read_unread, harg3.read_unread]
    exact View.read_writes_eq_canon _ _ (valPieces (tile0 x0 x1)) (cover0_3 _)
  isplitl [H4]
  · iexists _; isplitr
    swap; · iexact H4
    ipureintro
    sl_unfold_words
    simp only [pay18_eq, pay19_eq, pay20_eq, pay21_eq, pay1_eq, pay2_eq, pay3_eq, pay4_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq, pay63_eq, pay64_eq, pay65_eq, pay66_eq, pay67_eq, pay68_eq, pay69_eq, pay70_eq, pay71_eq, pay72_eq, pay73_eq, pay74_eq, pay75_eq, pay76_eq, pay77_eq, pay78_eq, pay79_eq, pay80_eq, pay81_eq, View.readAt_eq_ld, harg2.read_unread, harg3.read_unread]
    exact View.read_writes_eq_canon _ _ (idxPieces (tile0 x0 x1)) (cover0_4 _)
  isplitl [H5]
  · iexists _; isplitr
    swap; · iexact H5
    ipureintro
    sl_unfold_words
    simp only [View.readAt_eq_ld, harg2.read_unread, harg3.read_unread]
    exact View.read_writes_eq_canon _ _ _ (cover0_5 _)
  iexists _; isplitr
  swap; · iexact H6
  ipureintro
  sl_unfold_words
  simp only [View.readAt_eq_ld, harg2.read_unread, harg3.read_unread, harg4.read_unread]
  rw [read_writes_overlay, View.read_writes_eq_canon _ _ _ (cover0_6 _)]
  simp only [View.readCov_eq_canon']
  rfl

end Cert.KernelIdeal.Hand
-- ==== Proof.IdealPassOneB.lean ====
/- One case of the first call's body, run through its loads and stores. -/
module

public import proofs.«01_k».proof.Proof.IdealPassOne
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the branch is not taken: the running sums go on from what they held. -/
theorem run0_B (c : Dev nD) (E : Set ℕ) (i : grid0.Coords) (arg2 : Memref sig .tc .vmem S1x64x256 .f32) (harg2 : arg2.IsWhole) (arg3 : Memref sig .tc .vmem S1x64x2048 .f32) (harg3 : arg3.IsWhole) (arg4 : Memref sig .tc .vmem S1x2048x3 .f32) (harg4 : arg4.IsWhole) (arg5 : Memref sig .tc .vmem S1x16x256 .f32) (harg5 : arg5.IsWhole) (arg6 : Memref sig .tc .vmem S1x16x256 .i32) (harg6 : arg6.IsWhole) (arg7 : Memref sig .tc .vmem S1x1x256 .f32) (harg7 : arg7.IsWhole) (arg8 : Memref sig .tc .vmem S1x1x8 .f32) (harg8 : arg8.IsWhole) (hc0 : ¬cond0_0 i)
    (x0 : Vec F S1x64x256 .f32) (x1 : Vec F S1x64x2048 .f32) (x2 : Vec F S1x2048x3 .f32) (xo6 : Vec F S1x1x8 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xo6
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1) ∗ owns (c : Thread nD τ) arg6 fullShare (out0_4 x0 x1) ∗ owns (c : Thread nD τ) arg7 fullShare (out0_5 x0 x1) ∗ owns (c : Thread nD τ) arg8 fullShare (out0_6 xo6 x0 x1 x2)) -∗ K ⟨⟩))
      ⊢ wp frame (wpE (defs₀ (F := F)) Variants.none c none) E (cc0__pass1 i arg2 harg2 arg3 harg3 arg4 harg4 arg5 harg5 arg6 harg6 arg7 harg7 arg8 harg8) K := by
  simp only [cc0__pass1_eq_skeleton]; unfold cc0__pass1_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, Hk⟩
  obtain rfl := harg2.eq_unread hf0; obtain rfl := harg3.eq_unread hf1; obtain rfl := harg4.eq_unread hf2; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    simp only [pay18_eq, pay19_eq, pay20_eq, pay21_eq, pay1_eq, pay2_eq, pay3_eq, pay4_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq, pay63_eq, pay64_eq, pay65_eq, pay66_eq, pay67_eq, pay68_eq, pay69_eq, pay70_eq, pay71_eq, pay72_eq, pay73_eq, pay74_eq, pay75_eq, pay76_eq, pay77_eq, pay78_eq, pay79_eq, pay80_eq, pay81_eq, View.readAt_eq_ld, harg2.read_unread, harg3.read_unread]
    exact View.read_writes_eq_canon _ _ (valPieces (tile0 x0 x1)) (cover0_3 _)
  isplitl [H4]
  · iexists _; isplitr
    swap; · iexact H4
    ipureintro
    sl_unfold_words
    simp only [pay18_eq, pay19_eq, pay20_eq, pay21_eq, pay1_eq, pay2_eq, pay3_eq, pay4_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq, pay63_eq, pay64_eq, pay65_eq, pay66_eq, pay67_eq, pay68_eq, pay69_eq, pay70_eq, pay71_eq, pay72_eq, pay73_eq, pay74_eq, pay75_eq, pay76_eq, pay77_eq, pay78_eq, pay79_eq, pay80_eq, pay81_eq, View.readAt_eq_ld, harg2.read_unread, harg3.read_unread]
    exact View.read_writes_eq_canon _ _ (idxPieces (tile0 x0 x1)) (cover0_4 _)
  isplitl [H5]
  · iexists _; isplitr
    swap; · iexact H5
    ipureintro
    sl_unfold_words
    simp only [View.readAt_eq_ld, harg2.read_unread, harg3.read_unread]
    exact View.read_writes_eq_canon _ _ _ (cover0_5 _)
  iexists _; isplitr
  swap; · iexact H6
  ipureintro
  sl_unfold_words
  simp only [View.readAt_eq_ld, harg2.read_unread, harg3.read_unread, harg4.read_unread, harg8.read_unread]
  rw [read_writes_overlay, View.writes_nil, harg8.read_unread]
  rfl

end Cert.KernelIdeal.Hand
-- ==== Proof.IdealPassTwo.lean ====
/- The second call of the program `KernelIdeal` (the fifteen rounds of greedy matching and the statistics), at arbitrary
   contents of the device's arrays on entry: what its body leaves in the output block, in closed form. -/
module

public import proofs.«01_k».proof.Proof.IdealPassOne

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes -/

abbrev whole1_0 : Rect S1x16x2048 := Rect.unit (s := S1x16x2048) ![0, 0, 0] S1x16x2048.size inb_S1x16x2048_S1x16x2048_0_0_0
abbrev whole1_2 : Rect S1x1x2048 := Rect.unit (s := S1x1x2048) ![0, 0, 0] S1x1x2048.size inb_S1x1x2048_S1x1x2048_0_0_0
abbrev whole1_3 : Rect S1x3x2048 := Rect.unit (s := S1x3x2048) ![0, 0, 0] S1x3x2048.size inb_S1x3x2048_S1x3x2048_0_0_0
abbrev lanes1_5 : Rect S1x1x8 := Rect.unit (s := S1x1x8) ![0, 0, 0] S1x1x3.size inb_S1x1x8_S1x1x3_0_0_0
abbrev whole1_6 : Rect S1x1x128 := Rect.unit (s := S1x1x128) ![0, 0, 0] S1x1x128.size inb_S1x1x128_S1x1x128_0_0_0

/-! ## The fifteen rounds -/

/-- The column numbers along a row of 2048. -/
abbrev lane1 : IVec S1x2048 32 := iota .tc S1x2048 32 [1] iota_S1x2048_d1_w32

/-- The column of the target the round picks: the smallest stored index among the best row's entries. -/
abbrev pick1 (v6 : Vec F S1x16x2048 .i32) (a : FVec F S16x2048 .f32) : BitVec 32 :=
  extractAt ![0, 0, 0] (k1_pay5 (k1_pay9 v6) lane1 a) inpos_S1x1x1_p0_0_0

/-- One round: the values struck out, and the picked source and target points written in column `k`. -/
def round1 (v6 : Vec F S1x16x2048 .i32) (v8 v10 : Vec F S1x3x2048 .f32) (k : Fin k1_t1_loop.trips) :
    FVec F S16x2048 .f32 × FVec F S3x16 .f32 × FVec F S3x16 .f32 → FVec F S16x2048 .f32 × FVec F S3x16 .f32 × FVec F S3x16 .f32 :=
  fun (a9, a10, a11) =>
    (k1_pay14 v6 a9 (k1_pay4 lane1 a9) (pick1 v6 a9),
     k1_pay12 a10 (Scf.iv 0#32 1#32 k) (k1_pay6 (k1_pay10 v8) lane1 a9),
     k1_pay13 v10 a11 (Scf.iv 0#32 1#32 k) (Scalar.ofBits .f32 0x00000000#32) (k1_pay7 (k1_pay9 v6) lane1 lane1 a9))

/-- The state after the fifteen rounds. -/
def matched1 (x0 : Vec F S1x16x2048 .f32) (x1 : Vec F S1x16x2048 .i32) (x2 : Vec F S1x1x2048 .f32) (x3 x4 : Vec F S1x3x2048 .f32) :
    FVec F S16x2048 .f32 × FVec F S3x16 .f32 × FVec F S3x16 .f32 :=
  Scf.fold (round1 (View.ld x1 whole1_0) (View.ld x3 whole1_3) (View.ld x4 whole1_3))
    (k1_pay8 (View.ld x0 whole1_0) (View.ld x2 whole1_2), k1_pay11 (F := F), k1_pay11 (F := F))

/-! ## The statistics -/

/-- The lane numbers of the result row. -/
abbrev lane128 : IVec S1x128 32 := iota .tc S1x128 32 [1] iota_S1x128_d1_w32

/-- The centred source points. -/
def centS (s : FVec F S3x16 .f32) : FVec F S3x16 .f32 := k1_pay20 (k1_pay17 s) k1_pay18 (k1_pay19 (F := F))
/-- The centred target points. -/
def centT (t : FVec F S3x16 .f32) : FVec F S3x16 .f32 := k1_pay21 t (k1_pay15 t) k1_pay16

/-- The statistics row from the picked points, the source means and the correspondence means. -/
def statRow (s t : FVec F S3x16 .f32) (v43 : FVec F S3x1 .f32) (v47 : FVec F S1x3 .f32) : FVec F S1x1x128 .f32 :=
  k1_pay1 v43 v47 lane128
    (k1_pay28 (centS s) (centT t) v43 v47 lane128
      (k1_pay26 (centS s) (centT t) lane128
        (k1_pay24 t (k1_pay15 t) k1_pay16 (k1_pay17 s) k1_pay18 (k1_pay19 (F := F)))
        (k1_pay25 t (k1_pay15 t) k1_pay16 (k1_pay17 s) k1_pay18 (k1_pay19 (F := F))))
      (k1_pay27 (centS s) (centT t)))
    (k1_pay29 lane128) (k1_pay30 v43)

/-- The output block after the body. -/
def out1_6 (x0 : Vec F S1x16x2048 .f32) (x1 : Vec F S1x16x2048 .i32) (x2 : Vec F S1x1x2048 .f32) (x3 : Vec F S1x3x2048 .f32) (x4 : Vec F S1x3x2048 .f32) (x5 : Vec F S1x1x8 .f32) : Vec F S1x1x128 .f32 :=
  View.canon [⟨whole1_6, statRow (matched1 x0 x1 x2 x3 x4).2.1 (matched1 x0 x1 x2 x3 x4).2.2
    (k1_pay22 (k1_pay10 (View.ld x3 whole1_3))) (k1_pay23 (View.ld x5 lanes1_5))⟩]

/-- Its one store covers the block. -/
theorem cover1_6 (p : Vec F S1x1x128 .f32) (y : S1x1x128.Idx) :
    ∃ pc ∈ ([⟨whole1_6, p⟩] : List (View.Piece (Elt F) S1x1x128 .f32)), y ∈ pc.1.set :=
  View.cover_of_tiled [⟨whole1_6, p⟩] S1x1x128.size (by rfl) y

/-- The printed loop is the fold of `round1`: its trips touch no memory. -/
theorem loop1_eq (i : grid1.Coords) (arg1 : Memref sig .tc .vmem S1x16x2048 .f32) (harg1 : arg1.IsWhole) (arg2 : Memref sig .tc .vmem S1x16x2048 .i32) (harg2 : arg2.IsWhole) (arg3 : Memref sig .tc .vmem S1x1x2048 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x1x8 .f32) (harg6 : arg6.IsWhole) (arg7 : Memref sig .tc .vmem S1x1x128 .f32) (harg7 : arg7.IsWhole) (v6 : Vec F S1x16x2048 .i32) (v8 v10 : Vec F S1x3x2048 .f32) (v12 v13 : IVec S1x2048 32) (h12 : v12 = lane1) (h13 : v13 = lane1)
    (s : FVec F S16x2048 .f32 × FVec F S3x16 .f32 × FVec F S3x16 .f32) :
    Scf.Loop.for k1_t1_loop k1_t1_ok s (k1_t1_body i arg1 harg1 arg2 harg2 arg3 harg3 arg4 harg4 arg5 harg5 arg6 harg6 arg7 harg7 v6 v8 v10 v12 v13) = .ret (Scf.fold (round1 v6 v8 v10) s) :=
  Scf.for_pure _ _ _ _ _ _ _ (fun k acc => by subst h12 h13; unfold k1_t1_body; rw [k1_part1_eq_skeleton]; rfl)

/-! ## The body -/

set_option maxHeartbeats 2000000 in
/-- The body, on whole staging buffers, leaves its inputs as they were and the statistics row in the output. -/
theorem run1 (c : Dev nD) (E : Set ℕ) (i : grid1.Coords) (arg1 : Memref sig .tc .vmem S1x16x2048 .f32) (harg1 : arg1.IsWhole) (arg2 : Memref sig .tc .vmem S1x16x2048 .i32) (harg2 : arg2.IsWhole) (arg3 : Memref sig .tc .vmem S1x1x2048 .f32) (harg3 : arg3.IsWhole) (arg4 : Memref sig .tc .vmem S1x3x2048 .f32) (harg4 : arg4.IsWhole) (arg5 : Memref sig .tc .vmem S1x3x2048 .f32) (harg5 : arg5.IsWhole) (arg6 : Memref sig .tc .vmem S1x1x8 .f32) (harg6 : arg6.IsWhole) (arg7 : Memref sig .tc .vmem S1x1x128 .f32) (harg7 : arg7.IsWhole) (x0 : Vec F S1x16x2048 .f32) (x1 : Vec F S1x16x2048 .i32) (x2 : Vec F S1x1x2048 .f32) (x3 : Vec F S1x3x2048 .f32) (x4 : Vec F S1x3x2048 .f32) (x5 : Vec F S1x1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__pass2 i arg1 harg1 arg2 harg2 arg3 harg3 arg4 harg4 arg5 harg5 arg6 harg6 arg7 harg7) K := by
  simp only [cc1__pass2_eq_skeleton]; unfold cc1__pass2_skel
  simp only [k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_unfold_words
  rw [loop1_eq i _ _ _ _ _ _ _ _ _ _ _ _ _ _ _ _ _ _ _ rfl rfl]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  exact View.read_writes_eq_canon _ _ _ (cover1_6 _)

end Cert.KernelIdeal.Hand
-- ==== Proof.IdealData.lean ====
/- The two calls of the program `KernelIdeal` as pipelines: the blocks each window reads, what each point leaves in the
   output buffers, and the obligation that the body meets this at every point. -/
module

public import proofs.«01_k».proof.Proof.IdealPassOneA
public import proofs.«01_k».proof.Proof.IdealPassOneB
public import proofs.«01_k».proof.Proof.IdealPassTwo

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the device's arrays when a call is entered
variable (V : (c : Dev nD) → (b : Ref sig .tc) → Buf (Elt F) ((c : Thread nD τ).loc b))

/-- Window `w`'s block at point `t` of call 0, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0 holds its block when the body runs, for proof data that leave it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of call 0 holds its block when the body runs, for proof data that leave it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 of call 0 holds its block when the body runs, for proof data that leave it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The running correspondence sums after `n` points: restarted at the first point of each batch. -/
def sums0 (c : Dev nD) : (n : ℕ) → n < cfg0.N → Vec F S1x1x8 .f32
  | 0, h => out0_6 zero0_6 (iblk0 V c 0 ⟨0, h⟩) (iblk0 V c 1 ⟨0, h⟩) (iblk0 V c 2 ⟨0, h⟩)
  | n + 1, h => out0_6 (if (n + 1) % 8 = 0 then zero0_6 else sums0 c n (Nat.lt_of_succ_lt h))
      (iblk0 V c 0 ⟨n + 1, h⟩) (iblk0 V c 1 ⟨n + 1, h⟩) (iblk0 V c 2 ⟨n + 1, h⟩)

theorem sums0_A (c : Dev nD) (t : Fin cfg0.N) (h0 : t.val % 8 = 0) :
    sums0 V c t.val t.isLt = out0_6 zero0_6 (iblk0 V c 0 t) (iblk0 V c 1 t) (iblk0 V c 2 t) := by
  obtain ⟨n, hn⟩ := t
  cases n with
  | zero => rfl
  | succ n => simp only [sums0]; rw [if_pos h0]

theorem sums0_B (c : Dev nD) (t : Fin cfg0.N) (h0 : ¬ t.val % 8 = 0) :
    sums0 V c t.val t.isLt = out0_6 (sums0 V c (t.val - 1) (Nat.lt_of_le_of_lt (Nat.sub_le _ _) t.isLt))
      (iblk0 V c 0 t) (iblk0 V c 1 t) (iblk0 V c 2 t) := by
  obtain ⟨n, hn⟩ := t
  cases n with
  | zero => exact absurd rfl h0
  | succ n => simp only [sums0]; rw [if_neg h0]; rfl

/-- The proof data of call 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => sums0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = sums0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- After the first point of a batch the sums' buffer holds what the point before left. -/
theorem before0_6_B (c : Dev nD) (t : Fin cfg0.N) (h0 : ¬t.val % 8 = 0) (d) :
    (dat0 V c).before 6 t d = sums0 V c (t.val - 1) (Nat.lt_of_le_of_lt (Nat.sub_le _ _) t.isLt) := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dat0]

abbrev ms0_0 (t : Fin cfg0.N) : Memref sig .tc .vmem S1x64x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8 .f32 := win0_6.stage (cfg0.slots t 6)
abbrev hs0_6 (t : Fin cfg0.N) : (ms0_6 t).IsWhole := hstage0_6 ((cfg0.slots t 6).cast nbuf0_6)

/-- What the body of call 0 is entered with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- What it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 800000 in
/-- The body of call 0 meets its obligation at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val % 8 = 0
  · rw [sums0_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run0_A c Set.univ (grid0.coords t) _ _ _ _ _ _ _ _ _ _ _ _ _ _ ((hcond0_0 t).mpr h0) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [sums0_B V c t h0]
    simp only [before0_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run0_B c Set.univ (grid0.coords t) _ _ _ _ _ _ _ _ _ _ _ _ _ _ (fun h => h0 ((hcond0_0 t).mp h)) (iblk0 V c 0 t) (iblk0 V c 1 t) (iblk0 V c 2 t) _ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row0 (t : Fin cfg0.N) :
    defs₀ (F := F) .tc cfg0.body (cfg0.bodyArgs t (cfg0.slots t)) = bodyAt0 t := by
  unfold defs₀; rw [Defs.onTc_tc]

/-- The pipeline's obligation for call 0. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## The second call -/

/-- Window `w`'s block at point `t` of call 1, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1 holds its block when the body runs, for proof data that leave it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of call 1 holds its block when the body runs, for proof data that leave it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of call 1 holds its block when the body runs, for proof data that leave it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of call 1 holds its block when the body runs, for proof data that leave it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 of call 1 holds its block when the body runs, for proof data that leave it in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 of call 1 holds its block when the body runs, for proof data that leave it in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of call 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body of call 1 is entered with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body of call 1 meets its obligation at every point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row1 (t : Fin cfg1.N) :
    defs₀ (F := F) .tc cfg1.body (cfg1.bodyArgs t (cfg1.slots t)) = bodyAt1 t := by
  unfold defs₀; rw [Defs.onTc_tc]

/-- The pipeline's obligation for call 1. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand
-- ==== Proof.IdealRun.lean ====
/- The run of `KernelIdeal`: the contents of the arrays at each boundary of the program, and what every execution ends with. -/
module

public import proofs.«01_k».proof.Proof.IdealData

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run: from the launch through the host transposes and the two calls to the return -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every execution ends, the arguments as launched, every counter at zero, and the whole memory known. -/
theorem full : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame claim: every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨(fun c =>
      ⟨(hr.1 c _ (mem_uc main_arg0 (by decide))).trans (W3_main_arg0 m ρ c),
       (hr.1 c _ (mem_uc main_arg1 (by decide))).trans (W3_main_arg1 m ρ c),
       (hr.1 c _ (mem_uc main_arg2 (by decide))).trans (W3_main_arg2 m ρ c),
       (hr.1 c _ (mem_uc main_arg3 (by decide))).trans (W3_main_arg3 m ρ c)⟩), hr.2⟩) (full m ρ)

/-- What every execution ends with: the arguments unchanged and the statistics array at what the second call leaves. -/
theorem result : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v3) = (dat1 (V2 m ρ) c).arrAt 6 cfg1.N)
      ∧ r.2.sem = fun _ => 0) :=
  (θ_run defs _ _).mono (fun _ hr => ⟨(fun c =>
      ⟨(hr.1 c _ (mem_uc main_arg0 (by decide))).trans (W3_main_arg0 m ρ c),
       (hr.1 c _ (mem_uc main_arg1 (by decide))).trans (W3_main_arg1 m ρ c),
       (hr.1 c _ (mem_uc main_arg2 (by decide))).trans (W3_main_arg2 m ρ c),
       (hr.1 c _ (mem_uc main_arg3 (by decide))).trans (W3_main_arg3 m ρ c),
       (hr.1 c _ (mem_uc main_v3 (by decide))).trans (W3_arr m ρ c 6)⟩), hr.2⟩) (full m ρ)

end Cert.KernelIdeal.Hand
-- ==== Proof.RefRun.lean ====
/-
  The reference program's run: what its loop and the operations after it leave alone, and its frame.
-/
module

public import proofs.«01_k».proof.Proof.Gen.ReferenceIdeal.Run
public import Idealize.ShloMosaic.Lib.Quiescent

@[expose] public section

set_option maxRecDepth 4000

noncomputable section

namespace Cert.ReferenceIdeal.Hand

open Idealize.ShloMosaic Idealize.ShloMosaic.TcCoe
open Idealize.ShloMosaic.StableHlo
open Idealize.SL.Sem
open Cert.ReferenceIdeal Cert.ReferenceIdeal.Gen Cert.ReferenceIdeal.Value

variable {F : FTy → Type} [FloatOps F]

/-- The buffers that one trip of the loop writes. -/
abbrev tripW : List (Ref sig .tc) := while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W ++ while0Ops0_11_W ++ while0Ops0_12_W

/-- The buffers that the operations after the loop write. -/
abbrev postW : List (Ref sig .tc) := [main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_cst_8, main_v40, main_v41, main_cst_9, main_v42, main_v43, main_v44, main_v45, main_cst_10, main_v46, main_v47, main_cst_11, main_v48, main_v49, main_v50, main_v51, main_v52, main_v53, main_v54, main_cst_12, main_v55, main_cst_13, main_v56, main_v57, main_cst_14, main_v58, main_cst_15, main_v59, main_v60, main_cst_16, main_v61, main_v62, main_v63]

/-- The operations after the loop write only the buffers listed. -/
theorem post_writes : (hostOps0_1 : List (HloOp τ sig (Elt F))).Forall fun op => op.writes ⊆ (postW.map (Proc.devRef (τ := τ) .tc)).toFinset :=
  StableHlo.forall_writes_sub_of_map rfl

/-- One trip leaves alone a buffer that it does not write. -/
theorem trip_keeps (V : Valuation τ sig (Elt F)) (b : Ref sig .tc) (h : b ∉ tripW) :
    afterL bodyI V (Proc.devRef .tc b) = V (Proc.devRef .tc b) := by
  simp only [tripW, List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  simp only [bodyI, afterL_cons, afterL_nil]
  rw [after_of_writes_sub while0Ops0_12 _ while0Ops0_12_writes h12]
  rw [after_of_writes_sub while0Ops0_11 _ while0Ops0_11_writes h11]
  rw [after_of_writes_sub while0Ops0_10 _ while0Ops0_10_writes h10]
  rw [after_of_writes_sub while0Ops0_9 _ while0Ops0_9_writes h9]
  rw [after_of_writes_sub while0Ops0_8 _ while0Ops0_8_writes h8]
  rw [after_of_writes_sub while0Ops0_7 _ while0Ops0_7_writes h7]
  rw [after_of_writes_sub while0Ops0_6 _ while0Ops0_6_writes h6]
  rw [after_of_writes_sub while0Ops0_5 _ while0Ops0_5_writes h5]
  rw [after_of_writes_sub while0Ops0_4 _ while0Ops0_4_writes h4]
  rw [after_of_writes_sub while0Ops0_3 _ while0Ops0_3_writes h3]
  rw [after_of_writes_sub while0Ops0_2 _ while0Ops0_2_writes h2]
  rw [after_of_writes_sub while0Ops0_1 _ while0Ops0_1_writes h1]
  rw [after_of_writes_sub while0Ops0 _ while0Ops0_writes h0]

/-- The loop leaves alone a buffer that neither a trip nor the condition writes. -/
theorem loop_keeps (m : (ℓ : Loc nD τ sig) → Buf (Elt F) ℓ) (c : Dev nD) (b : Ref sig .tc) (h : b ∉ tripW) (hc : b ∉ condOps_W) :
    ∀ k, atK m k c (Proc.devRef .tc b) = entryContents preI m c (Proc.devRef .tc b)
  | 0 => rfl
  | k + 1 => by
    rw [show atK m (k + 1) c = afterL bodyI (after condOps (atK m k c)) from rfl, trip_keeps _ b h,
      after_of_writes_sub condOps _ condOps_writes hc, loop_keeps m c b h hc k]

/-- The buffers just after the loop, when the condition has failed. -/
abbrev afterLoop (m : (ℓ : Loc nD τ sig) → Buf (Elt F) ℓ) (c : Dev nD) : Valuation τ sig (Elt F) := after condOps (atK m 15 c)

/-- What the whole program leaves is what the last operations make of the buffers after the loop. -/
theorem final_eq (m : (ℓ : Loc nD τ sig) → Buf (Elt F) ℓ) (c : Dev nD) (b : DevRef τ sig) :
    finalContents condOps preI bodyI postI 15 m c b = after hostOps0_1 (afterLoop m c) b := rfl

/-- A buffer that neither a trip nor the condition writes is, after the loop, as it was at the loop's entry. -/
theorem afterLoop_keeps (m : (ℓ : Loc nD τ sig) → Buf (Elt F) ℓ) (c : Dev nD) (b : Ref sig .tc) (h : b ∉ tripW) (hc : b ∉ condOps_W) :
    afterLoop m c (Proc.devRef .tc b) = entryContents preI m c (Proc.devRef .tc b) := by
  rw [afterLoop, after_of_writes_sub condOps _ condOps_writes hc, loop_keeps m c b h hc 15]

/-- A buffer that nothing writes ends as it was at launch. -/
theorem final_keeps (m : (ℓ : Loc nD τ sig) → Buf (Elt F) ℓ) (c : Dev nD) (b : Ref sig .tc) (h : b ∉ tripW) (hc : b ∉ condOps_W)
    (hp : b ∉ postW) (hh : b ∉ hostOps0_W) :
    finalContents condOps preI bodyI postI 15 m c (Proc.devRef .tc b) = m ((c.tc : Thread nD τ).loc b) := by
  rw [final_eq, after_of_writes_sub hostOps0_1 _ post_writes hp, afterLoop_keeps m c b h hc]
  simp only [entryContents, afterL_cons, afterL_nil]
  rw [after_of_writes_sub hostOps0 _ hostOps0_writes hh]

variable (m : (ℓ : Loc nD τ sig) → Buf (Elt F) ℓ) (ρ : Dev nD → PrngReg)

/-- The reference's run: the four arguments end unchanged, the result is what the last operations make of the buffers
    after the loop, and every counter is zero. -/
theorem result : θ_run (defs (F := F)) (onTc (τ := τ) (main (F := F))) ⟨m, fun _ => 0, ρ⟩ (fun r => (∀ c : Dev nD,
      r.2.mem ((c.tc : Thread nD τ).loc main_v63) = after hostOps0_1 (afterLoop m c) (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (run_fold m ρ).mono fun r h => ⟨fun c => ⟨?_, ?_, ?_, ?_, ?_⟩, sem_eq_zero_of_no_sems (by decide) _⟩
  · rw [h c main_v63 (by decide +kernel)]; rfl
  · rw [h c main_arg0 (by decide +kernel), final_keeps m c main_arg0 (by decide +kernel) (by decide +kernel) (by decide +kernel) (by decide +kernel)]
  · rw [h c main_arg1 (by decide +kernel), final_keeps m c main_arg1 (by decide +kernel) (by decide +kernel) (by decide +kernel) (by decide +kernel)]
  · rw [h c main_arg2 (by decide +kernel), final_keeps m c main_arg2 (by decide +kernel) (by decide +kernel) (by decide +kernel) (by decide +kernel)]
  · rw [h c main_arg3 (by decide +kernel), final_keeps m c main_arg3 (by decide +kernel) (by decide +kernel) (by decide +kernel) (by decide +kernel)]

/-- The reference's frame. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (result m ρ).mono fun _ h => ⟨fun c => (h.1 c).2, h.2⟩

end Cert.ReferenceIdeal.Hand

end
-- ==== Proof.RefBody.lean ====
/- What each stretch of the reference's loop body computes, as a function of the buffers it reads, and what a whole trip
   makes of the table and of the list of picks. -/
module

public import proofs.«01_k».proof.Proof.RefRun
public import Idealize.ShloMosaic.Lib.Routing.Words

@[expose] public section

set_option maxRecDepth 4000

noncomputable section

namespace Cert.ReferenceIdeal.Hand

open Idealize.ShloMosaic Idealize.ShloMosaic.TcCoe
open Idealize.ShloMosaic.StableHlo
open Idealize.SL.Sem
open Cert.ReferenceIdeal Cert.ReferenceIdeal.Gen Cert.ReferenceIdeal.Value

/-- The table as one long row per batch, -/
def flatTable (P : FVec Ideal S8x2048x2048 .f32) : FVec Ideal S8x4194304 .f32 := shapeCast S8x4194304 P shapeCasts_S8x2048x2048_S8x4194304
/-- the position of the first largest entry along an axis, -/
def firstPlace {s t u : Shape} {axes : List (Fin s.rank)} (d : Fin s.rank) (ix : FVec Ideal u .f32) (iy : IVec u 32) (h : s.ReducesTo axes t)
    (hu : 0 < u.numel) (x : FVec Ideal s .f32) : IVec t 32 := fun j =>
  (Host.argReduce (reducer_argmax_f32_i32 (F := Ideal)) x (iotaInDim s 32 d) ix iy h hu j).2
/-- and of the long row, -/
def place (x : FVec Ideal S8x4194304 .f32) : IVec S8 32 :=
  firstPlace 1 (constant (F := Ideal) S_ .f32 0xFF800000#32) (constantI S_ 32 0#32) reducesTo_S8x4194304_S8_d1 h_S_ x
/-- its row and its column, -/
def rowAt (x : IVec S8 32) : IVec S8 32 := Routing.pyDiv bcast_S_S8 x (constantI S_ 32 2048#32)
def colOfPlace (x : IVec S8 32) : IVec S8 32 := Routing.pyRem bcast_S_S8 x (constantI S_ 32 2048#32)
/-- a number per batch spread over the table, -/
def spreadWord (x : IVec S8 32) : IVec S8x2048x2048 32 :=
  broadcastInDim S8x2048x2048 ![0, 1, 2] bcast_S8x1x1_S8x2048x2048_0_1_2 (broadcastInDim S8x1x1 ![0] bcast_S8_S8x1x1_0 x)
/-- the table with the marked places set to zero, -/
def zeroed (msk : IVec S8x2048x2048 1) (P : FVec Ideal S8x2048x2048 .f32) : FVec Ideal S8x2048x2048 .f32 :=
  select msk (broadcastInDim S8x2048x2048 ![] bcast_S_S8x2048x2048 (constant (F := Ideal) S_ .f32 0x00000000#32)) P
/-- the pair of row and column, -/
def pairUp (r c : IVec S8 32) : IVec S8x2 32 :=
  concatenate S8x2 1 [⟨S8x1, broadcastInDim S8x1 ![0] bcast_S8_S8x1_0 r⟩, ⟨S8x1, broadcastInDim S8x1 ![0] bcast_S8_S8x1_0 c⟩] concatenates_S8x1_S8x1_S8x2_d1
/-- and that pair written at one position of the list of picks. -/
def put (x : IVec S15x8x2 32) (u : IVec S8x2 32) (i : Fin 3 → ℤ) : IVec S15x8x2 32 :=
  Host.dynamicUpdateSlice x (broadcastInDim S1x8x2 ![1, 2] bcast_S8x2_S1x8x2_1_2 u) i updateFits_S15x8x2_S1x8x2

variable (V : Valuation τ sig (Elt Ideal))

theorem r0_v64 : after while0Ops0 V (Proc.devRef .tc main_while0b_v64) = iotaInDim S8x2048x2048 32 1 := by
  after_reads_simp
theorem r0_v65 : after while0Ops0 V (Proc.devRef .tc main_while0b_v65) = iotaInDim S8x2048x2048 32 2 := by
  after_reads_simp
theorem r0_v66 : after while0Ops0 V (Proc.devRef .tc main_while0b_v66) = flatTable (V (Proc.devRef .tc main_v18_1)) := by
  after_reads_simp
  unfold flatTable
  rfl
theorem r1_v67 : after while0Ops0_1 V (Proc.devRef .tc main_while0b_v67) = place (V (Proc.devRef .tc main_while0b_v66)) := by
  after_reads_simp
  unfold place
  rfl
theorem r2_c : after while0Ops0_2 V (Proc.devRef .tc main_while0b_c_19) = constantI S_ 32 2048#32 := by
  after_reads_simp
theorem r3_v68 (h : V (Proc.devRef .tc main_while0b_c_19) = constantI S_ 32 2048#32) :
    after while0Ops0_3 V (Proc.devRef .tc main_while0b_v68) = rowAt (V (Proc.devRef .tc main_while0b_v67)) := by
  after_reads_simp
  unfold rowAt Routing.pyDiv
  rw [← h]
  rfl
theorem r4_c : after while0Ops0_4 V (Proc.devRef .tc main_while0b_c_20) = constantI S_ 32 2048#32 := by
  after_reads_simp
theorem r5_v69 (h : V (Proc.devRef .tc main_while0b_c_20) = constantI S_ 32 2048#32) :
    after while0Ops0_5 V (Proc.devRef .tc main_while0b_v69) = colOfPlace (V (Proc.devRef .tc main_while0b_v67)) := by
  after_reads_simp
  simp only [TRef.ofBuf_toBuf, id]
  unfold colOfPlace Routing.pyRem Routing.divGuard
  rw [← h]
  rfl
theorem r6_v72 : after while0Ops0_6 V (Proc.devRef .tc main_while0b_v72) = cmpi .eq (V (Proc.devRef .tc main_while0b_v64)) (spreadWord (V (Proc.devRef .tc main_while0b_v68))) := by
  after_reads_simp
  unfold spreadWord
  rfl
theorem r6_cst : after while0Ops0_6 V (Proc.devRef .tc main_while0b_cst_21) = constant (F := Ideal) S_ .f32 0x00000000#32 := by
  after_reads_simp
theorem r7_v73 (h : V (Proc.devRef .tc main_while0b_cst_21) = constant (F := Ideal) S_ .f32 0x00000000#32) :
    after while0Ops0_7 V (Proc.devRef .tc main_while0b_v73) = zeroed (V (Proc.devRef .tc main_while0b_v72)) (V (Proc.devRef .tc main_v18_1)) := by
  after_reads_simp
  unfold zeroed
  rw [← h]
  rfl
theorem r8_v76 : after while0Ops0_8 V (Proc.devRef .tc main_while0b_v76) = cmpi .eq (V (Proc.devRef .tc main_while0b_v65)) (spreadWord (V (Proc.devRef .tc main_while0b_v69))) := by
  after_reads_simp
  unfold spreadWord
  rfl
theorem r8_cst : after while0Ops0_8 V (Proc.devRef .tc main_while0b_cst_22) = constant (F := Ideal) S_ .f32 0x00000000#32 := by
  after_reads_simp
theorem r9_v77 (h : V (Proc.devRef .tc main_while0b_cst_22) = constant (F := Ideal) S_ .f32 0x00000000#32) :
    after while0Ops0_9 V (Proc.devRef .tc main_while0b_v77) = zeroed (V (Proc.devRef .tc main_while0b_v76)) (V (Proc.devRef .tc main_while0b_v73)) := by
  after_reads_simp
  unfold zeroed
  rw [← h]
  rfl
theorem r10_v80 : after while0Ops0_10 V (Proc.devRef .tc main_while0b_v80) = pairUp (V (Proc.devRef .tc main_while0b_v68)) (V (Proc.devRef .tc main_while0b_v69)) := by
  after_reads_simp
  unfold pairUp
  rfl
theorem r11_v81 (k : ℤ) (h : ∀ i, ((V (Proc.devRef .tc main_v18_0) : S_.Idx → BitVec 32) i).toInt = k) : after while0Ops0_11 V (Proc.devRef .tc main_while0b_v81)
    = put (V (Proc.devRef .tc main_v18_2)) (V (Proc.devRef .tc main_while0b_v80)) ![k, 0, 0] := by
  after_results_simp_entrywise
  unfold put
  refine congrArg (fun i => Host.dynamicUpdateSlice _ _ i _) ?_
  funext a
  fin_cases a
  · exact h _
  · rfl
  · rfl
theorem r12_t : after while0Ops0_12 V (Proc.devRef .tc main_v18_1) = V (Proc.devRef .tc main_while0b_v77) := by
  after_reads_simp
  rfl
theorem r12_p : after while0Ops0_12 V (Proc.devRef .tc main_v18_2) = V (Proc.devRef .tc main_while0b_v81) := by
  after_reads_simp
  rfl

end Cert.ReferenceIdeal.Hand
-- ==== Proof.Match.lean ====
/- The greedy matching of a table of positive scores, free of vectors: picking the largest remaining entry (the first one
   in row-major order among equals), and why keeping the fifteen largest entries of each row is enough for fifteen picks. -/
module

public import Mathlib.Data.EReal.Operations
public import Mathlib.Data.Fintype.Card
public import Mathlib.Order.Fin.Basic

@[expose] public section

namespace Cert.Match

variable {N : ℕ}

/-- The entry `x` of the table is its largest one, and the first such in row-major order. -/
def IsPick (Q : Fin N → Fin N → EReal) (x : Fin N × Fin N) : Prop :=
  (∀ n m, Q n m ≤ Q x.1 x.2) ∧ ∀ n m, Q n m = Q x.1 x.2 → x.1 < n ∨ (x.1 = n ∧ x.2 ≤ m)

/-- There is at most one pick. -/
theorem IsPick.unique {Q : Fin N → Fin N → EReal} {x y : Fin N × Fin N} (hx : IsPick Q x) (hy : IsPick Q y) : x = y := by
  have e : Q x.1 x.2 = Q y.1 y.2 := le_antisymm (hy.1 _ _) (hx.1 _ _)
  have h1 := hx.2 y.1 y.2 e.symm
  have h2 := hy.2 x.1 x.2 e
  refine Prod.ext ?_ ?_
  · rcases h1 with h1 | ⟨h1, -⟩
    · rcases h2 with h2 | ⟨h2, -⟩
      · exact absurd h1 (lt_asymm h2)
      · exact h2.symm
    · exact h1
  · rcases h1 with h1 | ⟨h1, h1'⟩
    · rcases h2 with h2 | ⟨h2, -⟩
      · exact absurd h1 (lt_asymm h2)
      · exact absurd h1 (by rw [h2]; exact lt_irrefl _)
    · rcases h2 with h2 | ⟨h2, h2'⟩
      · exact absurd h2 (by rw [h1]; exact lt_irrefl _)
      · exact le_antisymm h1' h2'

/-- The pick of a table. -/
noncomputable def pickOf [NeZero N] (Q : Fin N → Fin N → EReal) : Fin N × Fin N :=
  haveI : Nonempty (Fin N × Fin N) := ⟨(0, 0)⟩
  Classical.epsilon (IsPick Q)

theorem IsPick.eq_pickOf [NeZero N] {Q : Fin N → Fin N → EReal} {x : Fin N × Fin N} (hx : IsPick Q x) : pickOf Q = x :=
  haveI : Nonempty (Fin N × Fin N) := ⟨(0, 0)⟩
  IsPick.unique (Classical.epsilon_spec (p := IsPick Q) ⟨x, hx⟩) hx

/-- The table with the rows `R` and the columns `C` set to zero. -/
noncomputable def masked (P : Fin N → Fin N → EReal) (R C : Finset (Fin N)) (n m : Fin N) : EReal :=
  if n ∈ R ∨ m ∈ C then 0 else P n m

/-- The rows and columns used up after `j` picks. -/
noncomputable def used [NeZero N] (P : Fin N → Fin N → EReal) : ℕ → Finset (Fin N) × Finset (Fin N)
  | 0 => (∅, ∅)
  | j + 1 => (insert (pickOf (masked P (used P j).1 (used P j).2)).1 (used P j).1,
      insert (pickOf (masked P (used P j).1 (used P j).2)).2 (used P j).2)

/-- The `j`-th pick. -/
noncomputable def pick [NeZero N] (P : Fin N → Fin N → EReal) (j : ℕ) : Fin N × Fin N :=
  pickOf (masked P (used P j).1 (used P j).2)

theorem used_succ [NeZero N] (P : Fin N → Fin N → EReal) (j : ℕ) :
    used P (j + 1) = (insert (pick P j).1 (used P j).1, insert (pick P j).2 (used P j).2) := rfl

theorem card_used [NeZero N] (P : Fin N → Fin N → EReal) (j : ℕ) : (used P j).1.card ≤ j ∧ (used P j).2.card ≤ j := by
  induction j with
  | zero => exact ⟨le_rfl, le_rfl⟩
  | succ j ih =>
    rw [used_succ]
    exact ⟨(Finset.card_insert_le _ _).trans (Nat.succ_le_succ ih.1), (Finset.card_insert_le _ _).trans (Nat.succ_le_succ ih.2)⟩

/-- Striking one more row and column out of the masked table. -/
theorem masked_insert (P : Fin N → Fin N → EReal) (R C : Finset (Fin N)) (x : Fin N × Fin N) (n m : Fin N) :
    (if m = x.2 then 0 else if n = x.1 then 0 else masked P R C n m) = masked P (insert x.1 R) (insert x.2 C) n m := by
  unfold masked
  simp only [Finset.mem_insert]
  split_ifs <;> simp_all

/-- The first largest entry in the row-major listing is the pick. -/
theorem IsPick.of_flat {Q : Fin N → Fin N → EReal} {x : Fin N × Fin N} (h1 : ∀ n m, Q n m ≤ Q x.1 x.2)
    (h2 : ∀ n m, Q n m = Q x.1 x.2 → x.1.val * N + x.2.val ≤ n.val * N + m.val) : IsPick Q x := by
  refine ⟨h1, fun n m e => ?_⟩
  have h := h2 n m e
  rcases lt_trichotomy x.1 n with hl | he | hg
  · exact .inl hl
  · right; refine ⟨he, ?_⟩; subst he; exact Fin.le_def.2 (by omega)
  · exfalso
    have hg' : n.val + 1 ≤ x.1.val := hg
    have := Nat.mul_le_mul_right N hg'
    have hm := m.isLt
    rw [Nat.add_mul] at this
    omega

/-! ## The fifteen largest entries of a row -/

/-- `ci` lists the entries of the row `f` from the largest down, the first one among equals: entry `k` is the first largest
    once the earlier ones are set to −1. -/
def Lists (f : Fin N → EReal) (ci : ℕ → Fin N) : Prop :=
  ∀ k < 15, (∀ m, (if ∃ j < k, ci j = m then -1 else f m) ≤ (if ∃ j < k, ci j = ci k then -1 else f (ci k))) ∧
    ∀ m, (if ∃ j < k, ci j = m then -1 else f m) = (if ∃ j < k, ci j = ci k then -1 else f (ci k)) → ci k ≤ m

theorem neg_one_lt_zero : (-1 : EReal) < 0 := by
  have : ((-1 : ℝ) : EReal) < ((0 : ℝ) : EReal) := EReal.coe_lt_coe_iff.2 (by norm_num)
  simpa using this

/-- A set with fewer elements than the type misses one. -/
theorem exists_free {S : Finset (Fin N)} (h : S.card < N) : ∃ m, m ∉ S := by
  by_contra hc
  push Not at hc
  have := Finset.card_le_card (show (Finset.univ : Finset (Fin N)) ⊆ S from fun m _ => hc m)
  simp at this; omega

/-- The listed entries are distinct. -/
theorem Lists.fresh {f : Fin N → EReal} {ci : ℕ → Fin N} (h : Lists f ci) (hN : 15 ≤ N) (hf : ∀ m, 0 < f m) {k : ℕ}
    (hk : k < 15) : ¬ ∃ j < k, ci j = ci k := by
  intro hc
  obtain ⟨m, hm⟩ := exists_free (S := (Finset.range k).image ci)
    (lt_of_le_of_lt Finset.card_image_le (by rw [Finset.card_range]; omega))
  have h1 := (h k hk).1 m
  rw [if_pos hc, if_neg (fun ⟨j, hj, e⟩ => hm (Finset.mem_image.2 ⟨j, Finset.mem_range.2 hj, e⟩))] at h1
  exact absurd (lt_of_lt_of_le (hf m) h1) (not_lt.2 neg_one_lt_zero.le)

/-- With at most fourteen columns struck out, the first largest remaining entry of the row is listed. -/
theorem Lists.first {f : Fin N → EReal} {ci : ℕ → Fin N} (h : Lists f ci) (hN : 15 ≤ N) (hf : ∀ m, 0 < f m)
    (C : Finset (Fin N)) (hC : C.card ≤ 14) :
    ∃ k < 15, ci k ∉ C ∧ (∀ m, m ∉ C → f m ≤ f (ci k)) ∧ ∀ m, m ∉ C → f m = f (ci k) → ci k ≤ m := by
  have hex : ∃ k, k < 15 ∧ ci k ∉ C := by
    by_contra hc
    push Not at hc
    have hinj : Set.InjOn ci (Finset.range 15 : Finset ℕ) := by
      intro a ha b hb e
      have ha' := Finset.mem_range.1 (Finset.mem_coe.1 ha)
      have hb' := Finset.mem_range.1 (Finset.mem_coe.1 hb)
      rcases lt_trichotomy a b with hl | he | hg
      · exact absurd ⟨a, hl, e⟩ (h.fresh hN hf hb')
      · exact he
      · exact absurd ⟨b, hg, e.symm⟩ (h.fresh hN hf ha')
    have := Finset.card_le_card_of_injOn ci (fun k hk => hc k (Finset.mem_range.1 hk)) hinj
    rw [Finset.card_range] at this
    omega
  classical
  obtain ⟨hk, hkC⟩ := Nat.find_spec hex
  have hmin : ∀ j < Nat.find hex, ci j ∈ C := fun j hj => by
    by_contra hc
    exact Nat.find_min hex hj ⟨lt_trans hj hk, hc⟩
  refine ⟨Nat.find hex, hk, hkC, fun m hm => ?_, fun m hm e => ?_⟩
  all_goals
    have hne : ¬ ∃ j < Nat.find hex, ci j = m := fun ⟨j, hj, e⟩ => hm (e ▸ hmin j hj)
    have hfr := h.fresh hN hf hk
    have hh := h _ hk
  · have := hh.1 m
    rwa [if_neg hne, if_neg hfr] at this
  · have := hh.2 m
    rw [if_neg hne, if_neg hfr] at this
    exact this e

/-! ## One round on the lists -/

/-- The lists of one round: entry `(k, n)` is −1 once its row or its column is used up, else its first value. -/
noncomputable def listed (V0 : Fin 16 → Fin N → EReal) (ci : Fin N → ℕ → Fin N) (R C : Finset (Fin N)) (k : Fin 16) (n : Fin N) : EReal :=
  if n ∈ R then -1 else if k.val < 15 ∧ ci n k.val ∈ C then -1 else V0 k n

/-- The column numbers stored with the lists; the sixteenth row stores `N`. -/
def colOf (ci : Fin N → ℕ → Fin N) (k : Fin 16) (n : Fin N) : ℕ := if k.val < 15 then (ci n k.val).val else N

/-- One round of the matching on the lists makes the pick of the masked table. -/
theorem round_pick {P : Fin N → Fin N → EReal} {ci : Fin N → ℕ → Fin N} {V0 : Fin 16 → Fin N → EReal}
    (hN : 15 ≤ N) (hP : ∀ n m, 0 < P n m) (hL : ∀ n, Lists (P n) (ci n))
    (hV : ∀ (k : Fin 16) n, k.val < 15 → V0 k n = P n (ci n k.val)) (hpad : ∀ (k : Fin 16) n, ¬ k.val < 15 → V0 k n < 0)
    {R C : Finset (Fin N)} (hR : R.card ≤ 14) (hC : C.card ≤ 14) {s : EReal} {nn : Fin N} {c : Fin N}
    (hs : ∀ k n, listed V0 ci R C k n ≤ s)
    (hn : ∃ k, listed V0 ci R C k nn = s) (hn' : ∀ n, (∃ k, listed V0 ci R C k n = s) → nn ≤ n)
    (hc : ∃ k, listed V0 ci R C k nn = s ∧ colOf ci k nn = c.val) (hc' : ∀ k, listed V0 ci R C k nn = s → c.val ≤ colOf ci k nn) :
    IsPick (masked P R C) (nn, c) := by
  -- the first largest entry of a free row, and that it is in the list
  have key : ∀ n, n ∉ R → ∃ k : Fin 16, k.val < 15 ∧ ci n k.val ∉ C ∧ listed V0 ci R C k n = P n (ci n k.val) ∧
      (∀ m, m ∉ C → P n m ≤ P n (ci n k.val)) ∧ ∀ m, m ∉ C → P n m = P n (ci n k.val) → ci n k.val ≤ m := by
    intro n hnR
    obtain ⟨k, hk, hkC, h1, h2⟩ := (hL n).first hN (hP n) C hC
    refine ⟨⟨k, by omega⟩, hk, hkC, ?_, h1, h2⟩
    rw [listed, if_neg hnR, if_neg (fun h => hkC h.2), hV _ _ hk]
  have spos : 0 < s := by
    obtain ⟨n, hnR⟩ := exists_free (S := R) (by omega)
    obtain ⟨k, -, -, e, -⟩ := key n hnR
    exact lt_of_lt_of_le (hP _ _) (e ▸ hs k n)
  -- what an entry equal to the largest says
  have hit : ∀ k n, listed V0 ci R C k n = s → n ∉ R ∧ k.val < 15 ∧ ci n k.val ∉ C ∧ P n (ci n k.val) = s := by
    intro k n e
    unfold listed at e
    split_ifs at e with a b
    · exact absurd (e ▸ spos) (not_lt.2 neg_one_lt_zero.le)
    · exact absurd (e ▸ spos) (not_lt.2 neg_one_lt_zero.le)
    · by_cases hk : k.val < 15
      · exact ⟨a, hk, fun hm => b ⟨hk, hm⟩, (hV k n hk) ▸ e⟩
      · exact absurd (e ▸ spos) (not_lt.2 (hpad k n hk).le)
  obtain ⟨k0, hk0, hcol⟩ := hc
  obtain ⟨hnR, hk15, hkC, hPs⟩ := hit _ _ hk0
  have hcc : ci nn k0.val = c := Fin.ext (by rw [← hcol, colOf, if_pos hk15])
  rw [hcc] at hkC hPs
  have hQ : masked P R C nn c = s := by rw [masked, if_neg (by tauto), hPs]
  refine ⟨fun n m => ?_, fun n m e => ?_⟩
  · show masked P R C n m ≤ masked P R C nn c
    rw [hQ]
    unfold masked
    split_ifs with h
    · exact spos.le
    · push Not at h
      obtain ⟨k, -, -, e, h1, -⟩ := key n h.1
      exact (h1 m h.2).trans (e ▸ hs k n)
  · change masked P R C n m = masked P R C nn c at e
    rw [hQ] at e
    unfold masked at e
    split_ifs at e with h
    · exact absurd e (ne_of_lt spos)
    push Not at h
    obtain ⟨k, hk, hkC', e', h1, h2⟩ := key n h.1
    have es : listed V0 ci R C k n = s := le_antisymm (hs k n) (by rw [e', ← e]; exact h1 m h.2)
    have hle := hn' n ⟨k, es⟩
    rcases lt_or_eq_of_le hle with hl | he
    · exact .inl hl
    · right
      refine ⟨he, ?_⟩
      subst he
      have a := hc' k es
      rw [colOf, if_pos hk] at a
      exact le_trans (Fin.le_def.2 a) (h2 m h.2 (by rw [e, ← es, e']))

/-- Striking one more row and column out of the lists. -/
theorem listed_insert (V0 : Fin 16 → Fin N → EReal) (ci : Fin N → ℕ → Fin N) (R C : Finset (Fin N)) (x : Fin N × Fin N)
    (k : Fin 16) (n : Fin N) :
    (if n = x.1 then -1 else if colOf ci k n = x.2.val then -1 else listed V0 ci R C k n)
      = listed V0 ci (insert x.1 R) (insert x.2 C) k n := by
  unfold listed colOf
  have hx := x.2.isLt
  simp only [Finset.mem_insert]
  by_cases hk : k.val < 15
  · simp only [hk, if_true, true_and, Fin.val_inj]
    split_ifs <;> simp_all
  · have : ¬ N = x.2.val := by omega
    simp only [hk, if_false, false_and, this]
    split_ifs <;> simp_all

end Cert.Match
-- ==== Proof.Fold.lean ====
/- The constants of the two programs as extended reals, and what a maximum, a minimum of small words and a masked sum
   along an axis are worth. -/
module

public import proofs.«01_k».proof.Proof.Match
public import Idealize.ShloMosaic.Lib.Pointwise
public import Idealize.ShloMosaic.Lib.Pointwise.Select

@[expose] public section

noncomputable section

namespace Cert.Match

open Idealize.ShloMosaic

/-! ## Constants -/

/-- The pattern of one eighth. -/
theorem word_eighth : Ideal.ofBits .f32 0x3E000000#32 = ((1 / 8 : ℝ) : EReal) := by
  simp [Ideal.ofBits, Ideal.ieee, -EReal.coe_mul]; norm_num
/-- The pattern of eight. -/
theorem word_eight : Ideal.ofBits .f32 0x41000000#32 = ((8 : ℝ) : EReal) := by
  simp [Ideal.ofBits, Ideal.ieee, -EReal.coe_mul]; norm_num
/-- The pattern of 1/2048. -/
theorem word_inv2048 : Ideal.ofBits .f32 0x3A000000#32 = ((1 / 2048 : ℝ) : EReal) := by
  simp [Ideal.ofBits, Ideal.ieee, -EReal.coe_mul]; norm_num
/-- The pattern of 2048. -/
theorem word_2048 : Ideal.ofBits .f32 0x45000000#32 = ((2048 : ℝ) : EReal) := by
  simp [Ideal.ofBits, Ideal.ieee, -EReal.coe_mul]; norm_num
/-- The pattern of fifteen. -/
theorem word_15 : Ideal.ofBits .f32 0x41700000#32 = ((15 : ℝ) : EReal) := by
  simp [Ideal.ofBits, Ideal.ieee, -EReal.coe_mul]; norm_num
/-- The pattern of minus one. -/
theorem word_neg_one : Ideal.ofBits .f32 0xBF800000#32 = (-1 : EReal) := by
  simp [Ideal.ofBits, Ideal.ieee, -EReal.coe_mul]; norm_num
/-- The pattern of minus infinity. -/
theorem word_bot : Ideal.ofBits .f32 0xFF800000#32 = (⊥ : EReal) := by
  simp [Ideal.ofBits, Ideal.ieee, -EReal.coe_mul]
/-- The pattern of plus infinity. -/
theorem word_top : Ideal.ofBits .f32 0x7F800000#32 = (⊤ : EReal) := by
  simp [Ideal.ofBits, Ideal.ieee, -EReal.coe_mul]

/-! ## Folds -/

variable {ι : Type*} [Fintype ι]

/-- A maximum along an axis is an upper bound, -/
theorem le_foldMax (f : ι → EReal) (x : ι) : f x ≤ Finset.fold max ⊥ f Finset.univ :=
  (Finset.le_fold_max _).2 (Or.inr ⟨x, Finset.mem_univ x, le_rfl⟩)

/-- and it is attained. -/
theorem exists_foldMax [Nonempty ι] (f : ι → EReal) : ∃ x, Finset.fold max ⊥ f Finset.univ = f x := by
  obtain ⟨x, -, hx⟩ := Finset.exists_max_image Finset.univ f Finset.univ_nonempty
  refine ⟨x, le_antisymm ?_ (le_foldMax f x)⟩
  exact (Finset.fold_max_le _).2 ⟨bot_le, fun y _ => hx y (Finset.mem_univ y)⟩

/-- A maximum is the value that bounds the family and is taken. -/
theorem foldMax_eq (f : ι → EReal) (s : EReal) (h : ∀ x, f x ≤ s) (h' : ∃ x, f x = s) :
    Finset.fold max ⊥ f Finset.univ = s := by
  obtain ⟨x, rfl⟩ := h'
  exact le_antisymm ((Finset.fold_max_le _).2 ⟨bot_le, fun y _ => h y⟩) (le_foldMax f x)

/-- The signed minimum of two small words is the word of the smaller number. -/
theorem minsi_ofNat (a b : ℕ) (ha : a < 2 ^ 31) (hb : b < 2 ^ 31) :
    IntOp.minsi (BitVec.ofNat 32 a) (BitVec.ofNat 32 b) = BitVec.ofNat 32 (min a b) := by
  have ta : (BitVec.ofNat 32 a).toInt = a := by
    rw [BitVec.toInt_eq_toNat_of_lt] <;> rw [BitVec.toNat_ofNat, Nat.mod_eq_of_lt (by omega)] ; omega
  have tb : (BitVec.ofNat 32 b).toInt = b := by
    rw [BitVec.toInt_eq_toNat_of_lt] <;> rw [BitVec.toNat_ofNat, Nat.mod_eq_of_lt (by omega)] ; omega
  have h : (BitVec.ofNat 32 a).slt (BitVec.ofNat 32 b) = decide (a < b) := by
    rw [BitVec.slt_eq_decide, ta, tb]; simp
  have h' : (BitVec.ofNat 32 a).sle (BitVec.ofNat 32 b) = decide (a ≤ b) := by
    rw [BitVec.sle_eq_decide, ta, tb]; simp
  unfold IntOp.minsi
  rcases lt_or_ge a b with hab | hab
  · rw [min_eq_left hab.le]; simp [h, h', hab, hab.le]
  · rw [min_eq_right hab]
    by_cases he : a = b
    · subst he; simp
    · simp [h, h', show ¬ a < b by omega, show ¬ a ≤ b by omega]

/-- The signed minimum of words of small numbers is the word of their minimum. -/
theorem foldMin_ofNat [Nonempty ι] (f : ι → BitVec 32) (g : ι → ℕ) (hg : ∀ x, g x < 2 ^ 31) (hf : ∀ x, f x = BitVec.ofNat 32 (g x))
    (v : ℕ) (h : ∀ x, v ≤ g x) (h' : ∃ x, g x = v) :
    Finset.fold IntOp.minsi 2147483647#32 f Finset.univ = BitVec.ofNat 32 v := by
  classical
  obtain ⟨x₀, hx₀⟩ := h'
  have key : ∀ s : Finset ι, ∃ w, w < 2 ^ 31 ∧ Finset.fold IntOp.minsi 2147483647#32 f s = BitVec.ofNat 32 w ∧
      (∀ x ∈ s, w ≤ g x) ∧ (w = 2147483647 ∨ ∃ x ∈ s, w = g x) := by
    intro s
    induction s using Finset.induction_on with
    | empty => exact ⟨2147483647, by norm_num, by simp, by simp, Or.inl rfl⟩
    | insert a s ha ih =>
      obtain ⟨w, hw, he, hle, hor⟩ := ih
      refine ⟨min (g a) w, by have := hg a; omega, ?_, ?_, ?_⟩
      · rw [Finset.fold_insert ha, he, hf a, minsi_ofNat _ _ (hg a) hw]
      · intro x hx
        rcases Finset.mem_insert.1 hx with rfl | hx
        · exact min_le_left _ _
        · exact (min_le_right _ _).trans (hle x hx)
      · rcases le_total (g a) w with hl | hl
        · exact Or.inr ⟨a, Finset.mem_insert_self _ _, min_eq_left hl⟩
        · rw [min_eq_right hl]
          rcases hor with h1 | ⟨x, hx, h1⟩
          · exact Or.inl h1
          · exact Or.inr ⟨x, Finset.mem_insert_of_mem hx, h1⟩
  obtain ⟨w, hw, he, hle, hor⟩ := key Finset.univ
  rw [he]
  congr 1
  have h1 := hle x₀ (Finset.mem_univ _)
  rcases hor with h2 | ⟨x, -, h2⟩
  · have := hg x₀; omega
  · have := h x; omega

/-- A sum of words in which one position only contributes. -/
theorem foldAdd_single [DecidableEq ι] (f : ι → BitVec 32) (x₀ : ι) (h : ∀ x, x ≠ x₀ → f x = 0#32) :
    Finset.fold IntOp.addi 0#32 f Finset.univ = f x₀ := by
  have : ∀ s : Finset ι, Finset.fold IntOp.addi 0#32 f s = if x₀ ∈ s then f x₀ else 0#32 := by
    intro s
    induction s using Finset.induction_on with
    | empty => simp
    | insert a s ha ih =>
      rw [Finset.fold_insert ha, ih]
      by_cases e : a = x₀
      · subst e; simp [ha, IntOp.addi]
      · rw [h a e]; simp [IntOp.addi, Finset.mem_insert, Ne.symm e]
  rw [this]; simp

/-! ## Striking out the largest entries -/

variable {N : ℕ}

/-- The first position of the largest entry. -/
def firstMax [NeZero N] (f : Fin N → EReal) : Fin N :=
  Classical.epsilon fun c => (∀ m, f m ≤ f c) ∧ ∀ m, f m = f c → c ≤ m

theorem firstMax_spec [NeZero N] (f : Fin N → EReal) :
    (∀ m, f m ≤ f (firstMax f)) ∧ ∀ m, f m = f (firstMax f) → firstMax f ≤ m := by
  classical
  have hex : ∃ c, (∀ m, f m ≤ f c) ∧ ∀ m, f m = f c → c ≤ m := ?_
  · exact Classical.epsilon_spec hex
  obtain ⟨x, -, hx⟩ := Finset.exists_max_image Finset.univ f ⟨0, Finset.mem_univ _⟩
  obtain ⟨c, hc, hc'⟩ := Finset.exists_min_image (Finset.univ.filter fun m => f m = f x) id ⟨x, by simp⟩
  have e : f c = f x := (Finset.mem_filter.1 hc).2
  exact ⟨c, fun m => e ▸ hx m (Finset.mem_univ m), fun m hm => hc' m (Finset.mem_filter.2 ⟨Finset.mem_univ _, hm.trans e⟩)⟩

theorem firstMax_eq [NeZero N] (f : Fin N → EReal) (c : Fin N) (h : ∀ m, f m ≤ f c) (h' : ∀ m, f m = f c → c ≤ m) :
    firstMax f = c := by
  obtain ⟨h1, h2⟩ := firstMax_spec f
  have e : f c = f (firstMax f) := le_antisymm (h1 c) (h _)
  exact le_antisymm (h2 c e) (h' _ e.symm)

/-- The entries after `k` first maxima have been replaced by −1. -/
def struck [NeZero N] (f : Fin N → EReal) : ℕ → Fin N → EReal
  | 0 => f
  | k + 1 => fun m => if m = firstMax (struck f k) then -1 else struck f k m

/-- The position struck out in step `k`. -/
def colAt [NeZero N] (f : Fin N → EReal) (k : ℕ) : Fin N := firstMax (struck f k)

theorem struck_eq [NeZero N] (f : Fin N → EReal) (k : ℕ) (m : Fin N) :
    struck f k m = if ∃ j < k, colAt f j = m then -1 else f m := by
  induction k with
  | zero => simp [struck]
  | succ k ih =>
    simp only [struck]
    have e : (∃ j < k + 1, colAt f j = m) ↔ m = colAt f k ∨ ∃ j < k, colAt f j = m := by
      constructor
      · rintro ⟨j, hj, rfl⟩
        by_cases h : j = k
        · subst h; exact Or.inl rfl
        · exact Or.inr ⟨j, by omega, rfl⟩
      · rintro (rfl | ⟨j, hj, rfl⟩)
        · exact ⟨k, by omega, rfl⟩
        · exact ⟨j, by omega, rfl⟩
    by_cases h : m = colAt f k
    · rw [if_pos (show m = firstMax (struck f k) from h), if_pos (e.2 (Or.inl h))]
    · rw [if_neg (show ¬ m = firstMax (struck f k) from h), ih]
      by_cases h' : ∃ j < k, colAt f j = m
      · rw [if_pos h', if_pos (e.2 (Or.inr h'))]
      · rw [if_neg h', if_neg (fun hh => (e.1 hh).elim h h')]

/-- The positions struck out list the entries in order. -/
theorem lists_colAt [NeZero N] (f : Fin N → EReal) : Lists f (colAt f) := by
  intro k hk
  obtain ⟨h1, h2⟩ := firstMax_spec (struck f k)
  refine ⟨fun m => ?_, fun m hm => ?_⟩
  · have := h1 m
    rw [struck_eq, struck_eq] at this
    exact this
  · refine h2 m ?_
    rw [struck_eq, struck_eq]
    exact hm

/-- The entry struck out in step `k` is still the original one. -/
theorem struck_colAt [NeZero N] (f : Fin N → EReal) (hN : 15 ≤ N) (hf : ∀ m, 0 < f m) {k : ℕ} (hk : k < 15) :
    struck f k (colAt f k) = f (colAt f k) := by
  rw [struck_eq, if_neg]
  exact (lists_colAt f).fresh hN hf hk

end Cert.Match
-- ==== Proof.Score.lean ====
/- The match scores of one batch entry: the scaled products of the embeddings, their exponentials after the row maximum
   is taken off, the row sums, and the probabilities.  For finite embeddings all of them but the first are positive reals. -/
module

public import proofs.«01_k».proof.Proof.Fold

@[expose] public section

noncomputable section

namespace Cert.Match

open Idealize.ShloMosaic

/-- A positive real, as an extended real. -/
def PosReal (x : EReal) : Prop := ∃ r : ℝ, 0 < r ∧ x = (r : EReal)

theorem PosReal.pos {x : EReal} (h : PosReal x) : 0 < x := by
  obtain ⟨r, hr, rfl⟩ := h; exact_mod_cast hr

/-- A finite sum of reals is a real. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes through a finite sum of extended reals. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

section
variable (A B : Fin 64 → Fin 2048 → EReal)

/-- The scaled product of the embeddings of source point `n` and target point `m`, -/
def logit (n m : Fin 2048) : EReal := (∑ d, A d n * B d m) * ((1 / 8 : ℝ) : EReal)
/-- its exponential after the row maximum is taken off, -/
def expo (n m : Fin 2048) : EReal := Ideal.exp (logit A B n m - Finset.fold max ⊥ (fun x => logit A B n x) Finset.univ)
/-- the sum of a row, -/
def rowSum (n : Fin 2048) : EReal := ∑ m, expo A B n m
/-- and the probability of a match. -/
def prob (n m : Fin 2048) : EReal := Ideal.div (expo A B n m) (rowSum A B n)

/-- The embeddings are finite. -/
def Fin2 : Prop := (∀ d n, ∃ r : ℝ, A d n = (r : EReal)) ∧ ∀ d n, ∃ r : ℝ, B d n = (r : EReal)

variable {A B}

theorem logit_real (h : Fin2 A B) (n m : Fin 2048) : ∃ r : ℝ, logit A B n m = (r : EReal) := by
  choose a ha using h.1
  choose b hb using h.2
  refine ⟨(∑ d, a d n * b d m) * (1 / 8), ?_⟩
  unfold logit
  simp only [ha, hb, ← EReal.coe_mul, sum_coe]

theorem expo_posReal (h : Fin2 A B) (n m : Fin 2048) : PosReal (expo A B n m) := by
  obtain ⟨x, hx⟩ := exists_foldMax (fun x => logit A B n x)
  obtain ⟨r, hr⟩ := logit_real h n m
  obtain ⟨q, hq⟩ := logit_real h n x
  refine ⟨Real.exp (r - q), Real.exp_pos _, ?_⟩
  unfold expo
  rw [hx, hr, hq, ← EReal.coe_sub, Ideal.exp_coe]

theorem rowSum_posReal (h : Fin2 A B) (n : Fin 2048) : PosReal (rowSum A B n) := by
  choose e he he' using expo_posReal h n
  refine ⟨∑ m, e m, Finset.sum_pos (fun m _ => he m) Finset.univ_nonempty, ?_⟩
  unfold rowSum
  simp only [he', sum_coe]

/-- A row sum is a positive real whose reciprocal turns the exponentials into probabilities. -/
theorem prob_scale (h : Fin2 A B) (n : Fin 2048) :
    ∃ r : ℝ, 0 < r ∧ Ideal.div 1 (rowSum A B n) = (r : EReal) ∧ (∀ x, Ideal.div x (rowSum A B n) = (r : EReal) * x) ∧
      ∀ m, prob A B n m = (r : EReal) * expo A B n m := by
  obtain ⟨s, hs, he⟩ := rowSum_posReal h n
  have key : ∀ x, Ideal.div x (rowSum A B n) = ((1 / s : ℝ) : EReal) * x := fun x => by
    rw [he, Ideal.div_coe hs.ne', mul_comm]
  exact ⟨1 / s, by positivity, by rw [key, mul_one], key, fun m => key _⟩

theorem prob_pos (h : Fin2 A B) (n m : Fin 2048) : 0 < prob A B n m := by
  obtain ⟨r, hr, -, -, hp⟩ := prob_scale h n
  obtain ⟨e, he, he'⟩ := expo_posReal h n m
  rw [hp, he', ← EReal.coe_mul]
  exact_mod_cast mul_pos hr he

/-- The positions listed for the exponentials of a row list its probabilities too. -/
theorem lists_prob (h : Fin2 A B) (n : Fin 2048) : Lists (prob A B n) (colAt (expo A B n)) := by
  have hE := lists_colAt (expo A B n)
  have hpos : ∀ m, 0 < expo A B n m := fun m => (expo_posReal h n m).pos
  obtain ⟨r, hr, -, -, hp⟩ := prob_scale h n
  have hr0 : (0 : EReal) < r := by exact_mod_cast hr
  intro k hk
  have hfr := hE.fresh (by norm_num) hpos hk
  obtain ⟨h1, h2⟩ := hE k hk
  rw [if_neg hfr] at h1 h2 ⊢
  refine ⟨fun m => ?_, fun m hm => ?_⟩
  · by_cases hs : ∃ j < k, colAt (expo A B n) j = m
    · rw [if_pos hs]
      exact neg_one_lt_zero.le.trans (prob_pos h n _).le
    · have := h1 m
      rw [if_neg hs] at this ⊢
      rw [hp, hp]
      exact mul_le_mul_of_nonneg_left this hr0.le
  · by_cases hs : ∃ j < k, colAt (expo A B n) j = m
    · rw [if_pos hs] at hm
      exact absurd hm (neg_one_lt_zero.trans (prob_pos h n _)).ne
    · refine h2 m ?_
      rw [if_neg hs] at hm ⊢
      obtain ⟨e, he, he'⟩ := expo_posReal h n m
      obtain ⟨e2, he2, he2'⟩ := expo_posReal h n (colAt (expo A B n) k)
      rw [hp, hp, he', he2', ← EReal.coe_mul, ← EReal.coe_mul, EReal.coe_eq_coe_iff] at hm
      rw [he', he2', mul_left_cancel₀ hr.ne' hm]
end

end Cert.Match
-- ==== Proof.RefEntry.lean ====
/- The reference's values when its loop is entered: the transposed points and the match probabilities. -/
module

public import proofs.«01_k».proof.Proof.RefRun
public import proofs.«01_k».proof.Proof.Score

@[expose] public section

set_option maxRecDepth 4000

noncomputable section

namespace Cert.ReferenceIdeal.Hand

open Idealize.ShloMosaic Idealize.ShloMosaic.TcCoe
open Idealize.ShloMosaic.StableHlo
open Idealize.SL.Sem
open Cert.ReferenceIdeal Cert.ReferenceIdeal.Gen Cert.ReferenceIdeal.Value Cert.Match

variable (m : (ℓ : Loc nD τ sig) → Buf (Elt Ideal) ℓ) (c : Dev nD)

/-- The source embeddings of batch entry `b`, -/
def embA (b : Fin 8) (d : Fin 64) (n : Fin 2048) : EReal := (m ((c : Thread nD τ).loc main_arg0) : S8x64x2048.Idx → EReal) (ix3 b d n)
/-- its target embeddings, -/
def embB (b : Fin 8) (d : Fin 64) (n : Fin 2048) : EReal := (m ((c : Thread nD τ).loc main_arg1) : S8x64x2048.Idx → EReal) (ix3 b d n)
/-- the coordinates of its source points -/
def srcP (b : Fin 8) (i : Fin 3) (n : Fin 2048) : EReal := (m ((c : Thread nD τ).loc main_arg2) : S8x2048x3.Idx → EReal) (ix3 b n i)
/-- and of its target points. -/
def tgtP (b : Fin 8) (i : Fin 3) (n : Fin 2048) : EReal := (m ((c : Thread nD τ).loc main_arg3) : S8x2048x3.Idx → EReal) (ix3 b n i)

theorem launch_arg0 (b : Fin 8) (d : Fin 64) (n : Fin 2048) :
    (launchContents m c (Proc.devRef .tc main_arg0) : S8x64x2048.Idx → EReal) (ix3 b d n) = embA m c b d n := rfl
theorem launch_arg1 (b : Fin 8) (d : Fin 64) (n : Fin 2048) :
    (launchContents m c (Proc.devRef .tc main_arg1) : S8x64x2048.Idx → EReal) (ix3 b d n) = embB m c b d n := rfl
theorem launch_arg2 (b : Fin 8) (i : Fin 3) (n : Fin 2048) :
    (launchContents m c (Proc.devRef .tc main_arg2) : S8x2048x3.Idx → EReal) (ix3 b n i) = srcP m c b i n := rfl
theorem launch_arg3 (b : Fin 8) (i : Fin 3) (n : Fin 2048) :
    (launchContents m c (Proc.devRef .tc main_arg3) : S8x2048x3.Idx → EReal) (ix3 b n i) = tgtP m c b i n := rfl

theorem entry_v0 (b : Fin 8) (i : Fin 3) (n : Fin 2048) :
    (entryContents (F := Ideal) preI m c (Proc.devRef .tc main_v0) : S8x3x2048.Idx → EReal) (ix3 b i n) = srcP m c b i n := by
  simp only [entryContents, afterL_cons, afterL_nil]
  after_reads_simp
  pointwise
  exact launch_arg2 m c b i n

theorem entry_v1 (b : Fin 8) (i : Fin 3) (n : Fin 2048) :
    (entryContents (F := Ideal) preI m c (Proc.devRef .tc main_v1) : S8x3x2048.Idx → EReal) (ix3 b i n) = tgtP m c b i n := by
  simp only [entryContents, afterL_cons, afterL_nil]
  after_reads_simp
  pointwise
  exact launch_arg3 m c b i n

theorem div_eight (x : EReal) : Ideal.div x (Ideal.ofBits FTy.f32 0x41000000#32) = x * ((1 / 8 : ℝ) : EReal) := by
  rw [word_eight, Ideal.div_coe (by norm_num)]

/-- The products of the embeddings, -/
def dots (x0 x1 : FVec Ideal S8x64x2048 .f32) : FVec Ideal S8x2048x2048 .f32 :=
  Host.dotGeneral (F := Ideal) dot_S8x2048x64_S8x64x2048_S8x2048x2048_2_1_1_2_0_0 none
      (transpose S8x2048x64 [0, 2, 1] x0 transposes_S8x64x2048_S8x2048x64_0_2_1) x1
/-- scaled, -/
def scaled (d : FVec Ideal S8x2048x2048 .f32) : FVec Ideal S8x2048x2048 .f32 :=
  Host.divf d (broadcastInDim S8x2048x2048 ![] bcast_S_S8x2048x2048 (constant S_ FTy.f32 0x41000000#32))
/-- the maximum of each row, -/
def rowMaxes (v : FVec Ideal S8x2048x2048 .f32) : FVec Ideal S8x2048 .f32 :=
  Host.reduce FloatOps.maximumf v (constant S_ FTy.f32 0xFF800000#32) reducesTo_S8x2048x2048_S8x2048_d2 h_S_
/-- not below the least value, -/
def rowMaxes' (v : FVec Ideal S8x2048 .f32) : FVec Ideal S8x2048 .f32 :=
  maximumf (broadcastInDim S8x2048 ![] bcast_S_S8x2048 (constant S_ FTy.f32 0xFF800000#32)) v
/-- a value for each row spread over the row, -/
def spread (v : FVec Ideal S8x2048 .f32) : FVec Ideal S8x2048x2048 .f32 :=
  broadcastInDim S8x2048x2048 ![0, 1, 2] bcast_S8x2048x1_S8x2048x2048_0_1_2
      (broadcastInDim S8x2048x1 ![0, 1] bcast_S8x2048_S8x2048x1_0_1 v)
/-- the sum of each row, -/
def rowSums (v : FVec Ideal S8x2048x2048 .f32) : FVec Ideal S8x2048 .f32 :=
  Host.reduceAdd v (constant S_ FTy.f32 0x00000000#32) reducesTo_S8x2048x2048_S8x2048_d2 h_S_
/-- the scaled products, -/
def logits (x0 x1 : FVec Ideal S8x64x2048 .f32) : FVec Ideal S8x2048x2048 .f32 := scaled (dots x0 x1)
/-- their exponentials after the row maximum is taken off, -/
def expos (v : FVec Ideal S8x2048x2048 .f32) : FVec Ideal S8x2048x2048 .f32 :=
  Host.exp (subf v (spread (rowMaxes' (rowMaxes v))))
/-- and the probabilities, as the reference computes them. -/
def probs (e : FVec Ideal S8x2048x2048 .f32) : FVec Ideal S8x2048x2048 .f32 :=
  Host.divf e (spread (rowSums e))

theorem dots_apply (x0 x1 : FVec Ideal S8x64x2048 .f32) (b : Fin 8) (n k : Fin 2048) :
    dots x0 x1 (ix3 b n k) = ∑ d, x0 (ix3 b d n) * x1 (ix3 b d k) := by
  unfold dots
  pointwise

theorem scaled_apply (d : FVec Ideal S8x2048x2048 .f32) (b : Fin 8) (n k : Fin 2048) :
    scaled d (ix3 b n k) = d (ix3 b n k) * ((1 / 8 : ℝ) : EReal) := by
  unfold scaled
  pointwise
  exact div_eight _

theorem rowMaxes_apply (v : FVec Ideal S8x2048x2048 .f32) (b : Fin 8) (n : Fin 2048) :
    rowMaxes v (ix2 b n) = Finset.fold max ⊥ (fun x => v (ix3 b n x)) Finset.univ := by
  unfold rowMaxes
  pointwise
  rw [word_bot]

theorem rowMaxes'_apply (v : FVec Ideal S8x2048 .f32) (b : Fin 8) (n : Fin 2048) :
    rowMaxes' v (ix2 b n) = v (ix2 b n) := by
  unfold rowMaxes'
  pointwise
  rw [word_bot, max_bot_left]

theorem spread_apply (v : FVec Ideal S8x2048 .f32) (b : Fin 8) (n k : Fin 2048) :
    spread v (ix3 b n k) = v (ix2 b n) := by
  unfold spread
  pointwise

theorem rowSums_apply (v : FVec Ideal S8x2048x2048 .f32) (b : Fin 8) (n : Fin 2048) :
    rowSums v (ix2 b n) = ∑ x, v (ix3 b n x) := by
  unfold rowSums
  pointwise

theorem logits_apply (x0 x1 : FVec Ideal S8x64x2048 .f32) (b : Fin 8) (n k : Fin 2048) :
    logits x0 x1 (ix3 b n k) = (∑ d, x0 (ix3 b d n) * x1 (ix3 b d k)) * ((1 / 8 : ℝ) : EReal) := by
  unfold logits
  rw [scaled_apply, dots_apply]

theorem expos_apply (v : FVec Ideal S8x2048x2048 .f32) (b : Fin 8) (n k : Fin 2048) :
    expos v (ix3 b n k) = Ideal.exp (v (ix3 b n k) - Finset.fold max ⊥ (fun x => v (ix3 b n x)) Finset.univ) := by
  unfold expos
  pointwise [spread_apply, rowMaxes'_apply, rowMaxes_apply]

theorem probs_apply (e : FVec Ideal S8x2048x2048 .f32) (b : Fin 8) (n k : Fin 2048) :
    probs e (ix3 b n k) = Ideal.div (e (ix3 b n k)) (∑ x, e (ix3 b n x)) := by
  unfold probs
  pointwise [spread_apply, rowSums_apply]

theorem entry_v16_eq :
    entryContents (F := Ideal) preI m c (Proc.devRef .tc main_v16)
      = probs (expos (logits (launchContents m c (Proc.devRef .tc main_arg0)) (launchContents m c (Proc.devRef .tc main_arg1)))) := by
  simp only [entryContents, afterL_cons, afterL_nil]
  after_reads_simp
  unfold probs expos logits scaled dots rowMaxes' rowMaxes spread rowSums
  with_reducible rfl

theorem entry_v16 (b : Fin 8) (n k : Fin 2048) :
    (entryContents (F := Ideal) preI m c (Proc.devRef .tc main_v16) : S8x2048x2048.Idx → EReal) (ix3 b n k)
      = prob (embA m c b) (embB m c b) n k := by
  rw [entry_v16_eq]
  unfold prob rowSum
  have hE : ∀ x, expos (logits (launchContents m c (Proc.devRef .tc main_arg0)) (launchContents m c (Proc.devRef .tc main_arg1))) (ix3 b n x)
      = expo (embA m c b) (embB m c b) n x := by
    intro x
    unfold expo logit
    rw [expos_apply]
    simp only [logits_apply]
    rfl
  refine (probs_apply _ _ _ _).trans ?_
  simp only [hE]

end Cert.ReferenceIdeal.Hand
-- ==== Proof.RefTrip.lean ====
/- One trip of the reference's loop: the flat position of the first largest entry, its row and its column, the table with
   both set to zero, and the pick written in the list of picks. -/
module

public import proofs.«01_k».proof.Proof.RefEntry
public import Idealize.ShloMosaic.Lib.Routing.Words

@[expose] public section

set_option maxRecDepth 4000

noncomputable section

namespace Cert.ReferenceIdeal.Hand

open Idealize.ShloMosaic Idealize.ShloMosaic.TcCoe
open Idealize.ShloMosaic.StableHlo
open Idealize.SL.Sem
open Cert.ReferenceIdeal Cert.ReferenceIdeal.Gen Cert.ReferenceIdeal.Value Cert.Match

/-! ## The first largest entry of a list -/

/-- The two-operand step on a running pair and a new one, the places being small numbers. -/
theorem reducer_apply (a b : EReal) (p q : ℕ) (hp : p < 2 ^ 31) (hq : q < 2 ^ 31) :
    reducer_argmax_f32_i32 (F := Ideal) (a, BitVec.ofNat 32 p) (b, BitVec.ofNat 32 q)
      = if b < a ∨ (a = b ∧ p < q) then (a, BitVec.ofNat 32 p) else (b, BitVec.ofNat 32 q) := by
  have hlt : IntOp.cmpi .slt (BitVec.ofNat 32 p) (BitVec.ofNat 32 q) = BitVec.ofBool (decide (p < q)) := by
    rw [show (IntOp.cmpi .slt (BitVec.ofNat 32 p) (BitVec.ofNat 32 q)) = _ from WordCmp.cmpi_slt_ofNat (w := 32) hp hq]
  unfold reducer_argmax_f32_i32
  dsimp only
  rw [hlt]
  simp only [Ideal.cmpf_def, Ideal.cmp]
  rcases lt_trichotomy a b with h | h | h
  · have h1 : ¬ b < a := not_lt.2 h.le
    have h2 : a ≠ b := h.ne
    simp [h1, h2, Scalar.select, IntOp.ori, IntOp.andi]
  · subst h
    by_cases h3 : p < q
    · simp [h3, Scalar.select, IntOp.ori, IntOp.andi]
    · simp [h3, Scalar.select, IntOp.ori, IntOp.andi]
  · have h2 : a ≠ b := h.ne'
    simp [h, h2, Scalar.select, IntOp.ori, IntOp.andi]

/-- The fold of that step over a list of places ends at a place of the list that holds its largest value, the smallest such. -/
theorem foldl_reducer {ι : Type} (x : ι → EReal) (g : ι → ℕ) (hg : ∀ i, g i < 2 ^ 31) (hx : ∀ i, ⊥ < x i) :
    ∀ l : List ι, l ≠ [] → ∃ i ∈ l, (l.map fun i => (x i, BitVec.ofNat 32 (g i))).foldl (reducer_argmax_f32_i32 (F := Ideal)) (⊥, 0#32)
        = (x i, BitVec.ofNat 32 (g i)) ∧ (∀ j ∈ l, x j ≤ x i) ∧ ∀ j ∈ l, x j = x i → g i ≤ g j := by
  intro l
  induction l using List.reverseRecOn with
  | nil => intro h; exact absurd rfl h
  | append_singleton l j ih =>
    intro _
    rw [List.map_append, List.foldl_append]
    by_cases hl : l = []
    · subst hl
      refine ⟨j, by simp, ?_, by simp, by simp⟩
      show reducer_argmax_f32_i32 (F := Ideal) (⊥, BitVec.ofNat 32 0) (x j, BitVec.ofNat 32 (g j)) = _
      rw [reducer_apply _ _ _ _ (by norm_num) (hg j), if_neg]
      rintro (h | ⟨h, -⟩)
      · exact not_lt_bot h
      · exact (hx j).ne h
    · obtain ⟨i, hi, he, h1, h2⟩ := ih hl
      rw [he]
      show ∃ i_1 ∈ _, reducer_argmax_f32_i32 (F := Ideal) (x i, BitVec.ofNat 32 (g i)) (x j, BitVec.ofNat 32 (g j)) = _ ∧ _
      rw [reducer_apply _ _ _ _ (hg i) (hg j)]
      split_ifs with hc
      · refine ⟨i, by simp [hi], rfl, ?_, ?_⟩
        · intro k hk
          rcases List.mem_append.1 hk with hk | hk
          · exact h1 k hk
          · rw [List.mem_singleton.1 hk]
            rcases hc with hc | ⟨hc, -⟩
            · exact hc.le
            · exact hc.ge
        · intro k hk e
          rcases List.mem_append.1 hk with hk | hk
          · exact h2 k hk e
          · rw [List.mem_singleton.1 hk] at e ⊢
            rcases hc with hc | ⟨-, hc⟩
            · exact absurd e hc.ne
            · exact hc.le
      · push Not at hc
        refine ⟨j, by simp, rfl, ?_, ?_⟩
        · intro k hk
          rcases List.mem_append.1 hk with hk | hk
          · exact (h1 k hk).trans hc.1
          · rw [List.mem_singleton.1 hk]
        · intro k hk e
          rcases List.mem_append.1 hk with hk | hk
          · have e2 : x i = x j := le_antisymm hc.1 (e ▸ h1 k hk)
            exact (hc.2 e2).trans (h2 k hk (e.trans e2.symm))
          · rw [List.mem_singleton.1 hk]

/-- The place the arg-max returns. -/
theorem argReduce_spec {s t u : Shape} {axes : List (Fin s.rank)} (x : FVec Ideal s .f32) (g : s.Idx → ℕ) (hg : ∀ i, g i < 2 ^ 31)
    (ix : u.Idx → EReal) (iy : u.Idx → BitVec 32) (h : s.ReducesTo axes t) (hu : 0 < u.numel) (hix : ix (Shape.Idx.first hu) = ⊥)
    (hiy : iy (Shape.Idx.first hu) = 0#32) (j : t.Idx) (i0 : s.Idx) (hi0 : h.drop i0 = j) (hx : ∀ i, ⊥ < x i) :
    ∃ i, h.drop i = j ∧ (Host.argReduce (reducer_argmax_f32_i32 (F := Ideal)) x (fun i => BitVec.ofNat 32 (g i)) ix iy h hu j).2 = BitVec.ofNat 32 (g i) ∧
      (∀ k, h.drop k = j → x k ≤ x i) ∧ ∀ k, h.drop k = j → x k = x i → g i ≤ g k := by
  rw [Ideal.argReduce_eq_reduce2, Host.reduce2_eq_foldl_fiber, hix, hiy]
  have hmem : ∀ k, k ∈ (((List.finRange s.numel).filter fun n => h.drop (s.rowMajor.symm n) = j).map s.rowMajor.symm) ↔ h.drop k = j := by
    intro k
    simp only [List.mem_map, List.mem_filter, List.mem_finRange, true_and, decide_eq_true_eq]
    constructor
    · rintro ⟨n, hn, rfl⟩; exact hn
    · intro hk; exact ⟨s.rowMajor k, by simpa using hk, by simp⟩
  have hfib : Host.argReduceFiber x (fun i => BitVec.ofNat 32 (g i)) h j
      = (((List.finRange s.numel).filter fun n => h.drop (s.rowMajor.symm n) = j).map s.rowMajor.symm).map fun i => (x i, BitVec.ofNat 32 (g i)) := by
    rw [Host.argReduceFiber, List.map_map]; rfl
  rw [hfib]
  generalize (((List.finRange s.numel).filter fun n => h.drop (s.rowMajor.symm n) = j).map s.rowMajor.symm) = l at hmem ⊢
  have hne : l ≠ [] := List.ne_nil_of_mem ((hmem i0).2 hi0)
  obtain ⟨i, hi, he, h1, h2⟩ := foldl_reducer x g hg hx l hne
  exact ⟨i, (hmem i).1 hi, by rw [he], fun k hk => h1 k ((hmem k).2 hk), fun k hk => h2 k ((hmem k).2 hk)⟩

theorem argReduce_spec_iota {s t u : Shape} {axes : List (Fin s.rank)} (x : FVec Ideal s .f32) (d : Fin s.rank) (hg : ∀ i : s.Idx, (i d).val < 2 ^ 31)
    (ix : u.Idx → EReal) (iy : u.Idx → BitVec 32) (h : s.ReducesTo axes t) (hu : 0 < u.numel) (hix : ix (Shape.Idx.first hu) = ⊥)
    (hiy : iy (Shape.Idx.first hu) = 0#32) (j : t.Idx) (i0 : s.Idx) (hi0 : h.drop i0 = j) (hx : ∀ i, ⊥ < x i) :
    ∃ i, h.drop i = j ∧ (Host.argReduce (reducer_argmax_f32_i32 (F := Ideal)) x (iotaInDim s 32 d) ix iy h hu j).2 = BitVec.ofNat 32 (i d).val ∧
      (∀ k, h.drop k = j → x k ≤ x i) ∧ ∀ k, h.drop k = j → x k = x i → (i d).val ≤ (k d).val := by
  have e : iotaInDim s 32 d = fun i => BitVec.ofNat 32 (i d).val := rfl
  rw [e]
  exact argReduce_spec x (fun i => (i d).val) hg ix iy h hu hix hiy j i0 hi0 hx

end Cert.ReferenceIdeal.Hand
-- ==== Proof.RefStep.lean ====
/- One trip of the reference's loop read at an index: the pick of the table, the table with its row and column set to zero,
   and the pick in the list. -/
module

public import proofs.«01_k».proof.Proof.RefBody
public import proofs.«01_k».proof.Proof.RefTrip
public import Idealize.ShloMosaic.Lib.Pipeline.Value

@[expose] public section

set_option maxRecDepth 4000

noncomputable section

namespace Cert.ReferenceIdeal.Hand

open Idealize.ShloMosaic Idealize.ShloMosaic.TcCoe
open Idealize.ShloMosaic.StableHlo
open Idealize.SL.Sem
open Cert.ReferenceIdeal Cert.ReferenceIdeal.Gen Cert.ReferenceIdeal.Value Cert.Match

/-- The long row at a position is the table at its row and column. -/
theorem flatTable_apply (P : FVec Ideal S8x2048x2048 .f32) (b : Fin 8) (q : Fin 4194304) (n m : Fin 2048) (h : q.val = n.val * 2048 + m.val) :
    flatTable P (ix2 b q) = P (ix3 b n m) := by
  unfold flatTable
  refine shapeCast_apply _ _ _ _ ?_
  rw [Shape.rowMajor_val_three, Shape.rowMajor_val_two]
  show (b.val * 2048 + n.val) * 2048 + m.val = b.val * 4194304 + q.val
  omega

theorem drop_flat (i : S8x4194304.Idx) (b : Fin 8) : reducesTo_S8x4194304_S8_d1.drop i = ix1 b ↔ i 0 = b := by
  constructor
  · intro h; exact congrFun h 0
  · intro h; subst h; funext a; fin_cases a; rfl

theorem lt_flat (i : S8x4194304.Idx) : (i 1).val < 4194304 := (i 1).isLt

theorem lt_flat' (i : S8x4194304.Idx) : (i 1).val < 2 ^ 31 := lt_trans (lt_flat i) (by norm_num)

theorem start_val : constant (F := Ideal) S_ .f32 0xFF800000#32 (Shape.Idx.first h_S_) = (⊥ : EReal) := word_bot

theorem start_pos : constantI S_ 32 0#32 (Shape.Idx.first h_S_) = 0#32 := rfl

/-- The flat position of a row and a column. -/
def flatPos (n m : Fin 2048) : Fin 4194304 := ⟨n.val * 2048 + m.val, by omega⟩

theorem idx_flat (i : S8x4194304.Idx) (b : Fin 8) (hb : i 0 = b) :
    i = ix2 b (flatPos ⟨(i 1).val / 2048, by have := lt_flat i; omega⟩ ⟨(i 1).val % 2048, by omega⟩) := by
  funext a; fin_cases a
  · exact hb
  · apply Fin.ext
    show (i 1).val = (i 1).val / 2048 * 2048 + (i 1).val % 2048
    omega

theorem firstPlace_spec {s t u : Shape} {axes : List (Fin s.rank)} (x : FVec Ideal s .f32) (d : Fin s.rank) (hg : ∀ i : s.Idx, (i d).val < 2 ^ 31)
    (ix : FVec Ideal u .f32) (iy : IVec u 32) (h : s.ReducesTo axes t) (hu : 0 < u.numel) (hix : ix (Shape.Idx.first hu) = (⊥ : EReal))
    (hiy : iy (Shape.Idx.first hu) = 0#32) (j : t.Idx) (i0 : s.Idx) (hi0 : h.drop i0 = j) (hx : ∀ i, (⊥ : EReal) < x i) :
    ∃ i, h.drop i = j ∧ firstPlace d ix iy h hu x j = BitVec.ofNat 32 (i d).val ∧
      (∀ k, h.drop k = j → (x k : EReal) ≤ x i) ∧ ∀ k, h.drop k = j → x k = x i → (i d).val ≤ (k d).val :=
  argReduce_spec_iota x d hg ix iy h hu hix hiy j i0 hi0 hx

theorem place_first (x : FVec Ideal S8x4194304 .f32) (b : Fin 8) (hx : ∀ i, ⊥ < x i) :
    ∃ i, reducesTo_S8x4194304_S8_d1.drop i = ix1 b ∧ place x (ix1 b) = BitVec.ofNat 32 (i 1).val ∧
      (∀ k, reducesTo_S8x4194304_S8_d1.drop k = ix1 b → x k ≤ x i) ∧ ∀ k, reducesTo_S8x4194304_S8_d1.drop k = ix1 b → x k = x i → (i 1).val ≤ (k 1).val := by
  unfold place
  exact firstPlace_spec x 1 lt_flat' _ _ reducesTo_S8x4194304_S8_d1 h_S_ start_val start_pos (ix1 b) (ix2 b (flatPos 0 0)) ((drop_flat _ _).2 rfl) hx

theorem place_exists (x : FVec Ideal S8x4194304 .f32) (b : Fin 8) (hx : ∀ i, ⊥ < x i) :
    ∃ n m : Fin 2048, place x (ix1 b) = BitVec.ofNat 32 (flatPos n m).val ∧ (∀ n' m', x (ix2 b (flatPos n' m')) ≤ x (ix2 b (flatPos n m))) ∧
      ∀ n' m', x (ix2 b (flatPos n' m')) = x (ix2 b (flatPos n m)) → (flatPos n m).val ≤ (flatPos n' m').val := by
  obtain ⟨i, hi, he, h1, h2⟩ := place_first x b hx
  have hb := (drop_flat _ _).1 hi
  have ei := idx_flat i b hb
  generalize (⟨(i 1).val / 2048, _⟩ : Fin 2048) = n at ei
  generalize (⟨(i 1).val % 2048, _⟩ : Fin 2048) = m at ei
  subst ei
  exact ⟨n, m, he, fun n' m' => h1 _ ((drop_flat _ _).2 rfl), fun n' m' => h2 _ ((drop_flat _ _).2 rfl)⟩

/-- The place found is the flat position of the pick. -/
theorem place_spec (P : FVec Ideal S8x2048x2048 .f32) (b : Fin 8) (hP : ∀ i, ⊥ < P i) :
    place (flatTable P) (ix1 b) = BitVec.ofNat 32 ((pickOf fun n m => P (ix3 b n m)).1.val * 2048 + (pickOf fun n m => P (ix3 b n m)).2.val) := by
  have hflat : ∀ i, ⊥ < flatTable P i := fun i => hP _
  obtain ⟨n, m, he, h1, h2⟩ := place_exists (flatTable P) b hflat
  have hk : ∀ n m : Fin 2048, flatTable P (ix2 b (flatPos n m)) = P (ix3 b n m) := fun n m => flatTable_apply P b _ n m rfl
  simp only [hk] at h1 h2
  have hpick : IsPick (fun n m => P (ix3 b n m)) (n, m) := IsPick.of_flat h1 h2
  rw [hpick.eq_pickOf]
  exact he

theorem rowAt_apply (x : IVec S8 32) (b : Fin 8) (r c : Fin 2048) (h : x (ix1 b) = BitVec.ofNat 32 (r.val * 2048 + c.val)) :
    rowAt x (ix1 b) = BitVec.ofNat 32 r.val := by
  unfold rowAt
  refine (Routing.pyDiv_ap _ x _ (ix1 b) (b := 2048) h rfl (by omega) (by omega) (by omega)).trans (congrArg _ ?_)
  omega

theorem colOfPlace_apply (x : IVec S8 32) (b : Fin 8) (r c : Fin 2048) (h : x (ix1 b) = BitVec.ofNat 32 (r.val * 2048 + c.val)) :
    colOfPlace x (ix1 b) = BitVec.ofNat 32 c.val := by
  unfold colOfPlace
  refine (Routing.pyRem_ap _ x _ (ix1 b) (b := 2048) h rfl (by omega) (by omega) (by omega)).trans (congrArg _ ?_)
  omega

theorem spreadWord_apply (x : IVec S8 32) (b : Fin 8) (n m : Fin 2048) : spreadWord x (ix3 b n m) = x (ix1 b) := by
  unfold spreadWord
  pointwise

theorem zeroed_apply (msk : IVec S8x2048x2048 1) (P : FVec Ideal S8x2048x2048 .f32) (b : Fin 8) (n m : Fin 2048) :
    zeroed msk P (ix3 b n m) = Scalar.select (msk (ix3 b n m)) 0 (P (ix3 b n m)) := by
  unfold zeroed
  pointwise

theorem sel_small {a b : ℕ} (ha : a < 4096) (hb : b < 4096) (x y : EReal) :
    Scalar.select (IntOp.cmpi .eq (BitVec.ofNat 32 a) (BitVec.ofNat 32 b)) x y = if a = b then x else y := by
  have h : (BitVec.ofNat 32 a = BitVec.ofNat 32 b) ↔ a = b := by
    constructor
    · intro e
      have := congrArg BitVec.toNat e
      simp only [BitVec.toNat_ofNat] at this
      omega
    · rintro rfl; rfl
  by_cases e : a = b
  · subst e; simp [Scalar.select, IntOp.cmpi]
  · have e2 : ¬ (BitVec.ofNat 32 a = BitVec.ofNat 32 b) := fun q => e (h.1 q)
    have e3 : (BitVec.ofNat 32 a == BitVec.ofNat 32 b) = false := by simpa using e2
    simp [Scalar.select, IntOp.cmpi, e, e3]

/-- The next table. -/
def nextTable (P : FVec Ideal S8x2048x2048 .f32) (r c : IVec S8 32) : FVec Ideal S8x2048x2048 .f32 :=
  zeroed (cmpi .eq (iotaInDim S8x2048x2048 32 2) (spreadWord c)) (zeroed (cmpi .eq (iotaInDim S8x2048x2048 32 1) (spreadWord r)) P)

theorem nextTable_apply (P : FVec Ideal S8x2048x2048 .f32) (r c : IVec S8 32) (b : Fin 8) (x y : Fin 2048) (hr : r (ix1 b) = BitVec.ofNat 32 x.val)
    (hc : c (ix1 b) = BitVec.ofNat 32 y.val) (n m : Fin 2048) :
    nextTable P r c (ix3 b n m) = if m = y then 0 else if n = x then 0 else P (ix3 b n m) := by
  unfold nextTable
  rw [zeroed_apply, zeroed_apply]
  pointwise [spreadWord_apply]
  rw [hr, hc, sel_small (by omega) (by omega), sel_small (by omega) (by omega)]
  simp only [Fin.ext_iff]

theorem pairUp_apply (r c : IVec S8 32) (b : Fin 8) (i : Fin 2) : pairUp r c (ix2 b i) = if i.val = 0 then r (ix1 b) else c (ix1 b) := by
  unfold pairUp
  fin_cases i
  · show concatenate _ _ _ _ (ix2 b 0) = _
    pointwise
    try rfl
  · show concatenate _ _ _ _ (ix2 b 1) = _
    pointwise
    try rfl

theorem put_apply (x : IVec S15x8x2 32) (u : IVec S8x2 32) (k : Fin 15) (j : Fin 15) (b : Fin 8) (i : Fin 2) :
    put x u ![(k.val : ℤ), 0, 0] (ix3 j b i) = if j = k then u (ix2 b i) else x (ix3 j b i) := by
  unfold put
  pointwise
  have c0 : ∀ h, Host.clampedStart S15x8x2 S1x8x2 h ![(k.val : ℤ), 0, 0] 0 = k.val := fun h => Host.clampedStart_of_le h _ _ _ rfl k.isLt
  have c1 : ∀ h, Host.clampedStart S15x8x2 S1x8x2 h ![(k.val : ℤ), 0, 0] 1 = 0 := fun h => Host.clampedStart_of_le h _ _ _ rfl (le_refl 8)
  have c2 : ∀ h, Host.clampedStart S15x8x2 S1x8x2 h ![(k.val : ℤ), 0, 0] 2 = 0 := fun h => Host.clampedStart_of_le h _ _ _ rfl (le_refl 2)
  simp only [c0, c1, c2, Nat.sub_zero, Nat.zero_le, and_true]
  by_cases e : j = k
  · subst e
    rw [dif_pos ⟨le_refl _, Nat.lt_succ_self _⟩, if_pos rfl]
  · rw [dif_neg (fun h => e (Fin.ext (by omega))), if_neg e]

end Cert.ReferenceIdeal.Hand
-- ==== Proof.RefLoop.lean ====
/- The reference's loop: what one trip does to the table and to the list of picks, and what fifteen trips leave. -/
module

public import proofs.«01_k».proof.Proof.RefStep
public import proofs.«01_k».proof.Proof.RefEntry

@[expose] public section

set_option maxRecDepth 4000

noncomputable section

namespace Cert.ReferenceIdeal.Hand

open Idealize.ShloMosaic Idealize.ShloMosaic.TcCoe
open Idealize.ShloMosaic.StableHlo
open Idealize.SL.Sem
open Cert.ReferenceIdeal Cert.ReferenceIdeal.Gen Cert.ReferenceIdeal.Value Cert.Match

/-- One trip: the pick's row and column of the table become zero, and the pick is written into the list. -/
theorem trip_reads (V : Valuation τ sig (Elt Ideal)) (k : ℤ) (hn : ∀ i, ((V (Proc.devRef .tc main_v18_0) : S_.Idx → BitVec 32) i).toInt = k) :
    afterL bodyI V (Proc.devRef .tc main_v18_1)
      = nextTable (V (Proc.devRef .tc main_v18_1)) (rowAt (place (flatTable (V (Proc.devRef .tc main_v18_1))))) (colOfPlace (place (flatTable (V (Proc.devRef .tc main_v18_1)))))
    ∧ afterL bodyI V (Proc.devRef .tc main_v18_2)
      = put (V (Proc.devRef .tc main_v18_2)) (pairUp (rowAt (place (flatTable (V (Proc.devRef .tc main_v18_1))))) (colOfPlace (place (flatTable (V (Proc.devRef .tc main_v18_1)))))) ![k, 0, 0] := by
  simp only [bodyI, afterL_cons, afterL_nil]
  obtain ⟨X0, hX0⟩ : ∃ X, X = after while0Ops0 V := ⟨_, rfl⟩
  rw [← hX0]
  have a0_v64 := (congrFun hX0 (Proc.devRef .tc main_while0b_v64)).trans (r0_v64 V)
  have a0_v65 := (congrFun hX0 (Proc.devRef .tc main_while0b_v65)).trans (r0_v65 V)
  have a0_v66 := (congrFun hX0 (Proc.devRef .tc main_while0b_v66)).trans (r0_v66 V)
  have a0_t := ((congrFun hX0 (Proc.devRef .tc main_v18_1)).trans (after_of_writes_sub while0Ops0 V while0Ops0_writes (show main_v18_1 ∉ while0Ops0_W by decide +kernel)))
  have a0_p := ((congrFun hX0 (Proc.devRef .tc main_v18_2)).trans (after_of_writes_sub while0Ops0 V while0Ops0_writes (show main_v18_2 ∉ while0Ops0_W by decide +kernel)))
  have a0_n := ((congrFun hX0 (Proc.devRef .tc main_v18_0)).trans (after_of_writes_sub while0Ops0 V while0Ops0_writes (show main_v18_0 ∉ while0Ops0_W by decide +kernel)))
  obtain ⟨X1, hX1⟩ : ∃ X, X = after while0Ops0_1 X0 := ⟨_, rfl⟩
  rw [← hX1]
  have a1_v67 := (congrFun hX1 (Proc.devRef .tc main_while0b_v67)).trans ((r1_v67 X0).trans (congrArg place a0_v66))
  have a1_v64 := ((congrFun hX1 (Proc.devRef .tc main_while0b_v64)).trans (after_of_writes_sub while0Ops0_1 X0 while0Ops0_1_writes (show main_while0b_v64 ∉ while0Ops0_1_W by decide +kernel))).trans a0_v64
  have a1_v65 := ((congrFun hX1 (Proc.devRef .tc main_while0b_v65)).trans (after_of_writes_sub while0Ops0_1 X0 while0Ops0_1_writes (show main_while0b_v65 ∉ while0Ops0_1_W by decide +kernel))).trans a0_v65
  have a1_t := ((congrFun hX1 (Proc.devRef .tc main_v18_1)).trans (after_of_writes_sub while0Ops0_1 X0 while0Ops0_1_writes (show main_v18_1 ∉ while0Ops0_1_W by decide +kernel))).trans a0_t
  have a1_p := ((congrFun hX1 (Proc.devRef .tc main_v18_2)).trans (after_of_writes_sub while0Ops0_1 X0 while0Ops0_1_writes (show main_v18_2 ∉ while0Ops0_1_W by decide +kernel))).trans a0_p
  have a1_n := ((congrFun hX1 (Proc.devRef .tc main_v18_0)).trans (after_of_writes_sub while0Ops0_1 X0 while0Ops0_1_writes (show main_v18_0 ∉ while0Ops0_1_W by decide +kernel))).trans a0_n
  obtain ⟨X2, hX2⟩ : ∃ X, X = after while0Ops0_2 X1 := ⟨_, rfl⟩
  rw [← hX2]
  have a2_c := (congrFun hX2 (Proc.devRef .tc main_while0b_c_19)).trans (r2_c X1)
  have a2_v67 := ((congrFun hX2 (Proc.devRef .tc main_while0b_v67)).trans (after_of_writes_sub while0Ops0_2 X1 while0Ops0_2_writes (show main_while0b_v67 ∉ while0Ops0_2_W by decide +kernel))).trans a1_v67
  have a2_v64 := ((congrFun hX2 (Proc.devRef .tc main_while0b_v64)).trans (after_of_writes_sub while0Ops0_2 X1 while0Ops0_2_writes (show main_while0b_v64 ∉ while0Ops0_2_W by decide +kernel))).trans a1_v64
  have a2_v65 := ((congrFun hX2 (Proc.devRef .tc main_while0b_v65)).trans (after_of_writes_sub while0Ops0_2 X1 while0Ops0_2_writes (show main_while0b_v65 ∉ while0Ops0_2_W by decide +kernel))).trans a1_v65
  have a2_t := ((congrFun hX2 (Proc.devRef .tc main_v18_1)).trans (after_of_writes_sub while0Ops0_2 X1 while0Ops0_2_writes (show main_v18_1 ∉ while0Ops0_2_W by decide +kernel))).trans a1_t
  have a2_p := ((congrFun hX2 (Proc.devRef .tc main_v18_2)).trans (after_of_writes_sub while0Ops0_2 X1 while0Ops0_2_writes (show main_v18_2 ∉ while0Ops0_2_W by decide +kernel))).trans a1_p
  have a2_n := ((congrFun hX2 (Proc.devRef .tc main_v18_0)).trans (after_of_writes_sub while0Ops0_2 X1 while0Ops0_2_writes (show main_v18_0 ∉ while0Ops0_2_W by decide +kernel))).trans a1_n
  obtain ⟨X3, hX3⟩ : ∃ X, X = after while0Ops0_3 X2 := ⟨_, rfl⟩
  rw [← hX3]
  have a3_v68 := (congrFun hX3 (Proc.devRef .tc main_while0b_v68)).trans ((r3_v68 X2 a2_c).trans (congrArg rowAt a2_v67))
  have a3_v67 := ((congrFun hX3 (Proc.devRef .tc main_while0b_v67)).trans (after_of_writes_sub while0Ops0_3 X2 while0Ops0_3_writes (show main_while0b_v67 ∉ while0Ops0_3_W by decide +kernel))).trans a2_v67
  have a3_v64 := ((congrFun hX3 (Proc.devRef .tc main_while0b_v64)).trans (after_of_writes_sub while0Ops0_3 X2 while0Ops0_3_writes (show main_while0b_v64 ∉ while0Ops0_3_W by decide +kernel))).trans a2_v64
  have a3_v65 := ((congrFun hX3 (Proc.devRef .tc main_while0b_v65)).trans (after_of_writes_sub while0Ops0_3 X2 while0Ops0_3_writes (show main_while0b_v65 ∉ while0Ops0_3_W by decide +kernel))).trans a2_v65
  have a3_t := ((congrFun hX3 (Proc.devRef .tc main_v18_1)).trans (after_of_writes_sub while0Ops0_3 X2 while0Ops0_3_writes (show main_v18_1 ∉ while0Ops0_3_W by decide +kernel))).trans a2_t
  have a3_p := ((congrFun hX3 (Proc.devRef .tc main_v18_2)).trans (after_of_writes_sub while0Ops0_3 X2 while0Ops0_3_writes (show main_v18_2 ∉ while0Ops0_3_W by decide +kernel))).trans a2_p
  have a3_n := ((congrFun hX3 (Proc.devRef .tc main_v18_0)).trans (after_of_writes_sub while0Ops0_3 X2 while0Ops0_3_writes (show main_v18_0 ∉ while0Ops0_3_W by decide +kernel))).trans a2_n
  obtain ⟨X4, hX4⟩ : ∃ X, X = after while0Ops0_4 X3 := ⟨_, rfl⟩
  rw [← hX4]
  have a4_c := (congrFun hX4 (Proc.devRef .tc main_while0b_c_20)).trans (r4_c X3)
  have a4_v68 := ((congrFun hX4 (Proc.devRef .tc main_while0b_v68)).trans (after_of_writes_sub while0Ops0_4 X3 while0Ops0_4_writes (show main_while0b_v68 ∉ while0Ops0_4_W by decide +kernel))).trans a3_v68
  have a4_v67 := ((congrFun hX4 (Proc.devRef .tc main_while0b_v67)).trans (after_of_writes_sub while0Ops0_4 X3 while0Ops0_4_writes (show main_while0b_v67 ∉ while0Ops0_4_W by decide +kernel))).trans a3_v67
  have a4_v64 := ((congrFun hX4 (Proc.devRef .tc main_while0b_v64)).trans (after_of_writes_sub while0Ops0_4 X3 while0Ops0_4_writes (show main_while0b_v64 ∉ while0Ops0_4_W by decide +kernel))).trans a3_v64
  have a4_v65 := ((congrFun hX4 (Proc.devRef .tc main_while0b_v65)).trans (after_of_writes_sub while0Ops0_4 X3 while0Ops0_4_writes (show main_while0b_v65 ∉ while0Ops0_4_W by decide +kernel))).trans a3_v65
  have a4_t := ((congrFun hX4 (Proc.devRef .tc main_v18_1)).trans (after_of_writes_sub while0Ops0_4 X3 while0Ops0_4_writes (show main_v18_1 ∉ while0Ops0_4_W by decide +kernel))).trans a3_t
  have a4_p := ((congrFun hX4 (Proc.devRef .tc main_v18_2)).trans (after_of_writes_sub while0Ops0_4 X3 while0Ops0_4_writes (show main_v18_2 ∉ while0Ops0_4_W by decide +kernel))).trans a3_p
  have a4_n := ((congrFun hX4 (Proc.devRef .tc main_v18_0)).trans (after_of_writes_sub while0Ops0_4 X3 while0Ops0_4_writes (show main_v18_0 ∉ while0Ops0_4_W by decide +kernel))).trans a3_n
  obtain ⟨X5, hX5⟩ : ∃ X, X = after while0Ops0_5 X4 := ⟨_, rfl⟩
  rw [← hX5]
  have a5_v69 := (congrFun hX5 (Proc.devRef .tc main_while0b_v69)).trans ((r5_v69 X4 a4_c).trans (congrArg colOfPlace a4_v67))
  have a5_v68 := ((congrFun hX5 (Proc.devRef .tc main_while0b_v68)).trans (after_of_writes_sub while0Ops0_5 X4 while0Ops0_5_writes (show main_while0b_v68 ∉ while0Ops0_5_W by decide +kernel))).trans a4_v68
  have a5_v64 := ((congrFun hX5 (Proc.devRef .tc main_while0b_v64)).trans (after_of_writes_sub while0Ops0_5 X4 while0Ops0_5_writes (show main_while0b_v64 ∉ while0Ops0_5_W by decide +kernel))).trans a4_v64
  have a5_v65 := ((congrFun hX5 (Proc.devRef .tc main_while0b_v65)).trans (after_of_writes_sub while0Ops0_5 X4 while0Ops0_5_writes (show main_while0b_v65 ∉ while0Ops0_5_W by decide +kernel))).trans a4_v65
  have a5_t := ((congrFun hX5 (Proc.devRef .tc main_v18_1)).trans (after_of_writes_sub while0Ops0_5 X4 while0Ops0_5_writes (show main_v18_1 ∉ while0Ops0_5_W by decide +kernel))).trans a4_t
  have a5_p := ((congrFun hX5 (Proc.devRef .tc main_v18_2)).trans (after_of_writes_sub while0Ops0_5 X4 while0Ops0_5_writes (show main_v18_2 ∉ while0Ops0_5_W by decide +kernel))).trans a4_p
  have a5_n := ((congrFun hX5 (Proc.devRef .tc main_v18_0)).trans (after_of_writes_sub while0Ops0_5 X4 while0Ops0_5_writes (show main_v18_0 ∉ while0Ops0_5_W by decide +kernel))).trans a4_n
  obtain ⟨X6, hX6⟩ : ∃ X, X = after while0Ops0_6 X5 := ⟨_, rfl⟩
  rw [← hX6]
  have a6_v72 := (congrFun hX6 (Proc.devRef .tc main_while0b_v72)).trans ((r6_v72 X5).trans (congrArg₂ (fun x y => cmpi .eq x (spreadWord y)) a5_v64 a5_v68))
  have a6_z := (congrFun hX6 (Proc.devRef .tc main_while0b_cst_21)).trans (r6_cst X5)
  have a6_v69 := ((congrFun hX6 (Proc.devRef .tc main_while0b_v69)).trans (after_of_writes_sub while0Ops0_6 X5 while0Ops0_6_writes (show main_while0b_v69 ∉ while0Ops0_6_W by decide +kernel))).trans a5_v69
  have a6_v68 := ((congrFun hX6 (Proc.devRef .tc main_while0b_v68)).trans (after_of_writes_sub while0Ops0_6 X5 while0Ops0_6_writes (show main_while0b_v68 ∉ while0Ops0_6_W by decide +kernel))).trans a5_v68
  have a6_v65 := ((congrFun hX6 (Proc.devRef .tc main_while0b_v65)).trans (after_of_writes_sub while0Ops0_6 X5 while0Ops0_6_writes (show main_while0b_v65 ∉ while0Ops0_6_W by decide +kernel))).trans a5_v65
  have a6_t := ((congrFun hX6 (Proc.devRef .tc main_v18_1)).trans (after_of_writes_sub while0Ops0_6 X5 while0Ops0_6_writes (show main_v18_1 ∉ while0Ops0_6_W by decide +kernel))).trans a5_t
  have a6_p := ((congrFun hX6 (Proc.devRef .tc main_v18_2)).trans (after_of_writes_sub while0Ops0_6 X5 while0Ops0_6_writes (show main_v18_2 ∉ while0Ops0_6_W by decide +kernel))).trans a5_p
  have a6_n := ((congrFun hX6 (Proc.devRef .tc main_v18_0)).trans (after_of_writes_sub while0Ops0_6 X5 while0Ops0_6_writes (show main_v18_0 ∉ while0Ops0_6_W by decide +kernel))).trans a5_n
  obtain ⟨X7, hX7⟩ : ∃ X, X = after while0Ops0_7 X6 := ⟨_, rfl⟩
  rw [← hX7]
  have a7_v73 := (congrFun hX7 (Proc.devRef .tc main_while0b_v73)).trans ((r7_v73 X6 a6_z).trans (congrArg₂ zeroed a6_v72 a6_t))
  have a7_v69 := ((congrFun hX7 (Proc.devRef .tc main_while0b_v69)).trans (after_of_writes_sub while0Ops0_7 X6 while0Ops0_7_writes (show main_while0b_v69 ∉ while0Ops0_7_W by decide +kernel))).trans a6_v69
  have a7_v68 := ((congrFun hX7 (Proc.devRef .tc main_while0b_v68)).trans (after_of_writes_sub while0Ops0_7 X6 while0Ops0_7_writes (show main_while0b_v68 ∉ while0Ops0_7_W by decide +kernel))).trans a6_v68
  have a7_v65 := ((congrFun hX7 (Proc.devRef .tc main_while0b_v65)).trans (after_of_writes_sub while0Ops0_7 X6 while0Ops0_7_writes (show main_while0b_v65 ∉ while0Ops0_7_W by decide +kernel))).trans a6_v65
  have a7_p := ((congrFun hX7 (Proc.devRef .tc main_v18_2)).trans (after_of_writes_sub while0Ops0_7 X6 while0Ops0_7_writes (show main_v18_2 ∉ while0Ops0_7_W by decide +kernel))).trans a6_p
  have a7_n := ((congrFun hX7 (Proc.devRef .tc main_v18_0)).trans (after_of_writes_sub while0Ops0_7 X6 while0Ops0_7_writes (show main_v18_0 ∉ while0Ops0_7_W by decide +kernel))).trans a6_n
  obtain ⟨X8, hX8⟩ : ∃ X, X = after while0Ops0_8 X7 := ⟨_, rfl⟩
  rw [← hX8]
  have a8_v76 := (congrFun hX8 (Proc.devRef .tc main_while0b_v76)).trans ((r8_v76 X7).trans (congrArg₂ (fun x y => cmpi .eq x (spreadWord y)) a7_v65 a7_v69))
  have a8_z := (congrFun hX8 (Proc.devRef .tc main_while0b_cst_22)).trans (r8_cst X7)
  have a8_v73 := ((congrFun hX8 (Proc.devRef .tc main_while0b_v73)).trans (after_of_writes_sub while0Ops0_8 X7 while0Ops0_8_writes (show main_while0b_v73 ∉ while0Ops0_8_W by decide +kernel))).trans a7_v73
  have a8_v69 := ((congrFun hX8 (Proc.devRef .tc main_while0b_v69)).trans (after_of_writes_sub while0Ops0_8 X7 while0Ops0_8_writes (show main_while0b_v69 ∉ while0Ops0_8_W by decide +kernel))).trans a7_v69
  have a8_v68 := ((congrFun hX8 (Proc.devRef .tc main_while0b_v68)).trans (after_of_writes_sub while0Ops0_8 X7 while0Ops0_8_writes (show main_while0b_v68 ∉ while0Ops0_8_W by decide +kernel))).trans a7_v68
  have a8_p := ((congrFun hX8 (Proc.devRef .tc main_v18_2)).trans (after_of_writes_sub while0Ops0_8 X7 while0Ops0_8_writes (show main_v18_2 ∉ while0Ops0_8_W by decide +kernel))).trans a7_p
  have a8_n := ((congrFun hX8 (Proc.devRef .tc main_v18_0)).trans (after_of_writes_sub while0Ops0_8 X7 while0Ops0_8_writes (show main_v18_0 ∉ while0Ops0_8_W by decide +kernel))).trans a7_n
  obtain ⟨X9, hX9⟩ : ∃ X, X = after while0Ops0_9 X8 := ⟨_, rfl⟩
  rw [← hX9]
  have a9_v77 := (congrFun hX9 (Proc.devRef .tc main_while0b_v77)).trans ((r9_v77 X8 a8_z).trans (congrArg₂ zeroed a8_v76 a8_v73))
  have a9_v69 := ((congrFun hX9 (Proc.devRef .tc main_while0b_v69)).trans (after_of_writes_sub while0Ops0_9 X8 while0Ops0_9_writes (show main_while0b_v69 ∉ while0Ops0_9_W by decide +kernel))).trans a8_v69
  have a9_v68 := ((congrFun hX9 (Proc.devRef .tc main_while0b_v68)).trans (after_of_writes_sub while0Ops0_9 X8 while0Ops0_9_writes (show main_while0b_v68 ∉ while0Ops0_9_W by decide +kernel))).trans a8_v68
  have a9_p := ((congrFun hX9 (Proc.devRef .tc main_v18_2)).trans (after_of_writes_sub while0Ops0_9 X8 while0Ops0_9_writes (show main_v18_2 ∉ while0Ops0_9_W by decide +kernel))).trans a8_p
  have a9_n := ((congrFun hX9 (Proc.devRef .tc main_v18_0)).trans (after_of_writes_sub while0Ops0_9 X8 while0Ops0_9_writes (show main_v18_0 ∉ while0Ops0_9_W by decide +kernel))).trans a8_n
  obtain ⟨X10, hX10⟩ : ∃ X, X = after while0Ops0_10 X9 := ⟨_, rfl⟩
  rw [← hX10]
  have a10_v80 := (congrFun hX10 (Proc.devRef .tc main_while0b_v80)).trans ((r10_v80 X9).trans (congrArg₂ pairUp a9_v68 a9_v69))
  have a10_v77 := ((congrFun hX10 (Proc.devRef .tc main_while0b_v77)).trans (after_of_writes_sub while0Ops0_10 X9 while0Ops0_10_writes (show main_while0b_v77 ∉ while0Ops0_10_W by decide +kernel))).trans a9_v77
  have a10_p := ((congrFun hX10 (Proc.devRef .tc main_v18_2)).trans (after_of_writes_sub while0Ops0_10 X9 while0Ops0_10_writes (show main_v18_2 ∉ while0Ops0_10_W by decide +kernel))).trans a9_p
  have a10_n := ((congrFun hX10 (Proc.devRef .tc main_v18_0)).trans (after_of_writes_sub while0Ops0_10 X9 while0Ops0_10_writes (show main_v18_0 ∉ while0Ops0_10_W by decide +kernel))).trans a9_n
  obtain ⟨X11, hX11⟩ : ∃ X, X = after while0Ops0_11 X10 := ⟨_, rfl⟩
  rw [← hX11]
  have a11_v81 := (congrFun hX11 (Proc.devRef .tc main_while0b_v81)).trans ((r11_v81 X10 k (fun i => (congrArg BitVec.toInt (congrFun a10_n i)).trans (hn i))).trans (congrArg₂ (fun x y => put x y ![k, 0, 0]) a10_p a10_v80))
  have a11_v77 := ((congrFun hX11 (Proc.devRef .tc main_while0b_v77)).trans (after_of_writes_sub while0Ops0_11 X10 while0Ops0_11_writes (show main_while0b_v77 ∉ while0Ops0_11_W by decide +kernel))).trans a10_v77
  exact ⟨(r12_t X11).trans a11_v77, (r12_p X11).trans a11_v81⟩

variable (m : (ℓ : Loc nD τ sig) → Buf (Elt Ideal) ℓ) (c : Dev nD)

theorem counter_toInt : ∀ k < 15, (Scf.iv 0#32 1#32 k).toInt = (k : ℤ) := by decide

/-- Before trip `k` the table has the rows and columns of the picks so far at zero, and the list holds those picks. -/
theorem loop_holds (hf : ∀ b, Fin2 (embA m c b) (embB m c b)) : ∀ k, k ≤ 15 →
    (∀ b n y, (atK m k c (Proc.devRef .tc main_v18_1) : S8x2048x2048.Idx → EReal) (ix3 b n y)
      = masked (prob (embA m c b) (embB m c b)) (used (prob (embA m c b) (embB m c b)) k).1 (used (prob (embA m c b) (embB m c b)) k).2 n y) ∧
    ∀ j : Fin 15, j.val < k → ∀ (b : Fin 8) (i : Fin 2), (atK m k c (Proc.devRef .tc main_v18_2) : S15x8x2.Idx → BitVec 32) (ix3 j b i)
      = if i.val = 0 then BitVec.ofNat 32 (pick (prob (embA m c b) (embB m c b)) j.val).1.val
        else BitVec.ofNat 32 (pick (prob (embA m c b) (embB m c b)) j.val).2.val
  | 0, _ => by
    refine ⟨fun b n y => ?_, fun j hj => absurd hj (Nat.not_lt_zero _)⟩
    have e : atK m 0 c (Proc.devRef .tc main_v18_1) = entryContents (F := Ideal) preI m c (Proc.devRef .tc main_v16) := by
      show entryContents (F := Ideal) preI m c (Proc.devRef .tc main_v18_1) = _
      simp only [entryContents, afterL_cons, afterL_nil]
      after_reads_simp
      simp only [id]
    refine (congrFun e _).trans ((entry_v16 m c b n y).trans ?_)
    unfold masked
    rw [if_neg]
    rintro (h | h) <;> exact absurd h (Finset.notMem_empty _)
  | k + 1, hk => by
    obtain ⟨hT, hL⟩ := loop_holds hf k (by omega)
    obtain ⟨V, hV⟩ : ∃ V, V = after condOps (atK m k c) := ⟨_, rfl⟩
    have e1 : V (Proc.devRef .tc main_v18_1) = atK m k c (Proc.devRef .tc main_v18_1) :=
      (congrFun hV _).trans (after_of_writes_sub condOps _ condOps_writes (by decide +kernel))
    have e2 : V (Proc.devRef .tc main_v18_2) = atK m k c (Proc.devRef .tc main_v18_2) :=
      (congrFun hV _).trans (after_of_writes_sub condOps _ condOps_writes (by decide +kernel))
    have e0 : V (Proc.devRef .tc main_v18_0) = fun _ => Scf.iv 0#32 1#32 k :=
      (congrFun hV _).trans ((ctr_cond _).trans (atK_ctr m c k))
    have hstep : atK m (k + 1) c = afterL bodyI V := by rw [hV]; rfl
    obtain ⟨t1, t2⟩ := trip_reads V k (fun i => (congrArg BitVec.toInt (congrFun e0 i)).trans (counter_toInt k hk))
    rw [← hstep] at t1 t2
    have hT' : ∀ b n y, (V (Proc.devRef .tc main_v18_1) : S8x2048x2048.Idx → EReal) (ix3 b n y)
        = masked (prob (embA m c b) (embB m c b)) (used (prob (embA m c b) (embB m c b)) k).1 (used (prob (embA m c b) (embB m c b)) k).2 n y :=
      fun b n y => (congrFun e1 _).trans (hT b n y)
    have hL' : ∀ (j : Fin 15), j.val < k → ∀ (b : Fin 8) (i : Fin 2), (V (Proc.devRef .tc main_v18_2) : S15x8x2.Idx → BitVec 32) (ix3 j b i) = _ :=
      fun j hj b i => (congrFun e2 _).trans (hL j hj b i)
    generalize (V (Proc.devRef .tc main_v18_1) : S8x2048x2048.Idx → EReal) = T at t1 t2 hT'
    generalize (V (Proc.devRef .tc main_v18_2) : S15x8x2.Idx → BitVec 32) = L at t2 hL'
    have hpos : ∀ i : S8x2048x2048.Idx, (⊥ : EReal) < T i := by
      intro i
      have ei : i = ix3 (i 0) (i 1) (i 2) := by idx_ext
      rw [ei]
      refine lt_of_lt_of_eq ?_ (hT' (i 0) (i 1) (i 2)).symm
      unfold masked
      split_ifs
      · exact EReal.bot_lt_zero
      · exact EReal.bot_lt_zero.trans (prob_pos (hf _) _ _)
    have hpick : ∀ b, pickOf (fun n y => T (ix3 b n y)) = pick (prob (embA m c b) (embB m c b)) k := by
      intro b
      unfold pick
      exact congrArg pickOf (funext fun n => funext fun y => hT' b n y)
    have hplace := fun b => place_spec T b hpos
    simp only [hpick] at hplace
    have hr := fun b => rowAt_apply (place (flatTable T)) b _ _ (hplace b)
    have hc := fun b => colOfPlace_apply (place (flatTable T)) b _ _ (hplace b)
    constructor
    · intro b n y
      refine (congrFun t1 _).trans ((nextTable_apply T _ _ b _ _ (hr b) (hc b) n y).trans ?_)
      rw [hT', used_succ]
      exact masked_insert _ _ _ _ _ _
    · intro j hj b i
      refine (congrFun t2 _).trans ((put_apply L _ ⟨k, hk⟩ j b i).trans ?_)
      by_cases ej : j = ⟨k, hk⟩
      · rw [if_pos ej, pairUp_apply, hr, hc, ej]
      · rw [if_neg ej]
        exact hL' j (by have : j.val ≠ k := fun h => ej (Fin.ext h); omega) b i

end Cert.ReferenceIdeal.Hand
-- ==== Proof.RefPost.lean ====
/- What the reference does after its loop: the operations grouped, and each group read at an index. -/
module

public import proofs.«01_k».proof.Proof.RefEntry
public import proofs.«01_k».proof.Proof.RefTrip
public import Idealize.ShloMosaic.Lib.Pipeline.Value

@[expose] public section

set_option maxRecDepth 8000

noncomputable section

namespace Cert.ReferenceIdeal.Hand

open Idealize.ShloMosaic Idealize.ShloMosaic.TcCoe
open Idealize.ShloMosaic.StableHlo
open Idealize.SL.Sem
open Cert.ReferenceIdeal Cert.ReferenceIdeal.Gen Cert.ReferenceIdeal.Value Cert.Match

/-- The rows of the picks, batch entry by batch entry, -/
def rowsOf (p : IVec S15x8x2 32) : IVec S8x15 32 :=
  shapeCast S8x15 (extractStridedSlice S8x15x1 ![0, 0, 0] (transpose S8x15x2 [1, 0, 2] p transposes_S15x8x2_S8x15x2_1_0_2) slices_S8x15x2_S8x15x1_0_0_0) shapeCasts_S8x15x1_S8x15
/-- and the columns; -/
def colsOf (p : IVec S15x8x2 32) : IVec S8x15 32 :=
  shapeCast S8x15 (extractStridedSlice S8x15x1 ![0, 0, 1] (transpose S8x15x2 [1, 0, 2] p transposes_S15x8x2_S8x15x2_1_0_2) slices_S8x15x2_S8x15x1_0_0_1) shapeCasts_S8x15x1_S8x15
/-- numbers below zero counted from the end; -/
def wrapped (r : IVec S8x15 32) : IVec S8x15x1 32 :=
  broadcastInDim S8x15x1 ![0, 1] bcast_S8x15_S8x15x1_0_1
    (select (cmpi .slt r (broadcastInDim S8x15 ![] bcast_S_S8x15 (constantI S_ 32 0#32)))
      (addi r (broadcastInDim S8x15 ![] bcast_S_S8x15 (constantI S_ 32 2048#32))) r)
/-- the points at those numbers; -/
def gathered (v : FVec Ideal S8x3x2048 .f32) (w : IVec S8x15x1 32) : FVec Ideal S8x3x15 .f32 :=
  Host.gather gather_S8x3x2048_S8x15x1_S8x3x15_1_2_0_0_2_2_131 v w
/-- their means, -/
def meanFifteen (g : FVec Ideal S8x3x15 .f32) : FVec Ideal S8x3x1 .f32 :=
  Host.divf (broadcastInDim S8x3x1 ![0, 1] bcast_S8x3_S8x3x1_0_1 (Host.reduceAdd g (constant S_ .f32 0x00000000#32) reducesTo_S8x3x15_S8x3_d2 h_S_))
    (broadcastInDim S8x3x1 ![] bcast_S_S8x3x1 (constant S_ .f32 0x41700000#32))
/-- and the points with the mean taken off; -/
def offMean (g : FVec Ideal S8x3x15 .f32) : FVec Ideal S8x3x15 .f32 :=
  subf g (broadcastInDim S8x3x15 ![0, 1, 2] bcast_S8x3x1_S8x3x15_0_1_2 (meanFifteen g))
/-- the sums of products of the coordinates, -/
def products (a t : FVec Ideal S8x3x15 .f32) : FVec Ideal S8x3x3 .f32 :=
  Host.dotGeneral dot_S8x3x15_S8x15x3_S8x3x3_2_1_1_2_0_0 none a (transpose S8x15x3 [0, 2, 1] t transposes_S8x3x15_S8x15x3_0_2_1)
/-- laid in a row; -/
def row9 (a : FVec Ideal S8x3x3 .f32) : FVec Ideal S8x9 .f32 := shapeCast S8x9 a shapeCasts_S8x3x3_S8x9
/-- the mean of all points; -/
def meanAll (v : FVec Ideal S8x3x2048 .f32) : FVec Ideal S8x3 .f32 :=
  Host.divf (Host.reduceAdd v (constant S_ .f32 0x00000000#32) reducesTo_S8x3x2048_S8x3_d2 h_S_)
    (broadcastInDim S8x3 ![] bcast_S_S8x3 (constant S_ .f32 0x45000000#32))
/-- the target points weighted by the probabilities; -/
def weighted (v : FVec Ideal S8x3x2048 .f32) (P : FVec Ideal S8x2048x2048 .f32) : FVec Ideal S8x3x2048 .f32 :=
  Host.dotGeneral dot_S8x3x2048_S8x2048x2048_S8x3x2048_2_1_1_2_0_0 none v (transpose S8x2048x2048 [0, 2, 1] P transposes_S8x2048x2048_S8x2048x2048_0_2_1)
/-- the four parts of the result side by side, -/
def side (a : FVec Ideal S8x9 .f32) (b c : FVec Ideal S8x3 .f32) (d : FVec Ideal S8x113 .f32) : FVec Ideal S8x128 .f32 :=
  concatenate S8x128 1 [⟨S8x9, a⟩, ⟨S8x3, b⟩, ⟨S8x3, c⟩, ⟨S8x113, d⟩] concatenates_S8x9_S8x3_S8x3_S8x113_S8x128_d1
/-- and the result. -/
def laid (x : FVec Ideal S8x128 .f32) : FVec Ideal S8x1x128 .f32 := shapeCast S8x1x128 x shapeCasts_S8x128_S8x1x128
/-- The lanes that stay zero. -/
def rest : FVec Ideal S8x113 .f32 := broadcastInDim S8x113 ![] bcast_S_S8x113 (constant S_ .f32 0x00000000#32)

theorem rowsOf_apply (p : IVec S15x8x2 32) (b : Fin 8) (k : Fin 15) : rowsOf p (ix2 b k) = p (ix3 k b 0) := by
  unfold rowsOf
  refine (shapeCast_apply _ _ _ (ix3 b k 0) ?_).trans ?_
  · rw [Shape.rowMajor_val_three, Shape.rowMajor_val_two]
    show (b.val * 15 + k.val) * 1 + 0 = b.val * 15 + k.val
    omega
  · pointwise

theorem colsOf_apply (p : IVec S15x8x2 32) (b : Fin 8) (k : Fin 15) : colsOf p (ix2 b k) = p (ix3 k b 1) := by
  unfold colsOf
  refine (shapeCast_apply _ _ _ (ix3 b k 0) ?_).trans ?_
  · rw [Shape.rowMajor_val_three, Shape.rowMajor_val_two]
    show (b.val * 15 + k.val) * 1 + 0 = b.val * 15 + k.val
    omega
  · pointwise

theorem wrapped_apply (r : IVec S8x15 32) (b : Fin 8) (k : Fin 15) (n : Fin 2048) (h : r (ix2 b k) = BitVec.ofNat 32 n.val) :
    wrapped r (ix3 b k 0) = BitVec.ofNat 32 n.val := by
  unfold wrapped
  pointwise
  rw [h]
  have e : IntOp.cmpi .slt (BitVec.ofNat 32 n.val) 0#32 = 0#1 := by
    rw [show (IntOp.cmpi .slt (BitVec.ofNat 32 n.val) (BitVec.ofNat 32 0)) = _ from WordCmp.cmpi_slt_ofNat (w := 32) (lt_trans n.isLt (by norm_num)) (by norm_num)]
    simp
  rw [e]
  rfl

theorem gathered_apply (v : FVec Ideal S8x3x2048 .f32) (w : IVec S8x15x1 32) (b : Fin 8) (i : Fin 3) (k : Fin 15) (n : Fin 2048)
    (h : w (ix3 b k 0) = BitVec.ofNat 32 n.val) : gathered v w (ix3 b i k) = v (ix3 b i n) := by
  unfold gathered Host.gather
  refine congrArg v (funext fun a => Fin.ext ?_)
  fin_cases a
  · show GatherDims.start _ (ix3 b i k) w 0 + b.val + 0 = b.val
    unfold GatherDims.start
    rw [dif_neg (by decide)]
    omega
  · show GatherDims.start _ (ix3 b i k) w 1 + 0 + i.val = i.val
    unfold GatherDims.start
    rw [dif_neg (by decide)]
    omega
  · show GatherDims.start _ (ix3 b i k) w 2 + 0 + 0 = n.val
    unfold GatherDims.start
    rw [dif_pos (by decide)]
    have hs : GatherDims.siIdx gather_S8x3x2048_S8x15x1_S8x3x15_1_2_0_0_2_2_131 (ix3 b i k)
        ⟨List.idxOf 2 gather_S8x3x2048_S8x15x1_S8x3x15_1_2_0_0_2_2_131.startIndexMap, by decide⟩ = ix3 b k 0 := by
      funext q
      fin_cases q <;> rfl
    rw [hs, h]
    have ht : (BitVec.ofNat 32 n.val).toInt.toNat = n.val := by
      rw [BitVec.toInt_eq_toNat_of_lt (by rw [BitVec.toNat_ofNat]; omega), BitVec.toNat_ofNat, Int.toNat_natCast]
      omega
    rw [ht]
    show min n.val 2047 + 0 + 0 = n.val
    omega

theorem meanFifteen_apply (g : FVec Ideal S8x3x15 .f32) (b : Fin 8) (i : Fin 3) :
    meanFifteen g (ix3 b i 0) = (∑ x, g (ix3 b i x)) * ((1 / 15 : ℝ) : EReal) := by
  unfold meanFifteen
  pointwise
  rw [word_15, Ideal.div_coe (by norm_num)]

theorem offMean_apply (g : FVec Ideal S8x3x15 .f32) (b : Fin 8) (i : Fin 3) (k : Fin 15) :
    offMean g (ix3 b i k) = g (ix3 b i k) - (∑ x, g (ix3 b i x)) * ((1 / 15 : ℝ) : EReal) := by
  unfold offMean
  pointwise [meanFifteen_apply]

theorem products_apply (a t : FVec Ideal S8x3x15 .f32) (b : Fin 8) (i j : Fin 3) :
    products a t (ix3 b i j) = ∑ k, a (ix3 b i k) * t (ix3 b j k) := by
  unfold products
  pointwise

theorem row9_apply (a : FVec Ideal S8x3x3 .f32) (b : Fin 8) (l : Fin 9) :
    row9 a (ix2 b l) = a (ix3 b ⟨l.val / 3, by omega⟩ ⟨l.val % 3, by omega⟩) := by
  unfold row9
  refine shapeCast_apply _ _ _ _ ?_
  rw [Shape.rowMajor_val_three, Shape.rowMajor_val_two]
  show (b.val * 3 + l.val / 3) * 3 + l.val % 3 = b.val * 9 + l.val
  omega

theorem meanAll_apply (v : FVec Ideal S8x3x2048 .f32) (b : Fin 8) (i : Fin 3) :
    meanAll v (ix2 b i) = (∑ x, v (ix3 b i x)) * ((1 / 2048 : ℝ) : EReal) := by
  unfold meanAll
  pointwise
  rw [word_2048, Ideal.div_coe (by norm_num)]

theorem weighted_apply (v : FVec Ideal S8x3x2048 .f32) (P : FVec Ideal S8x2048x2048 .f32) (b : Fin 8) (i : Fin 3) (n : Fin 2048) :
    weighted v P (ix3 b i n) = ∑ m, v (ix3 b i m) * P (ix3 b n m) := by
  unfold weighted
  pointwise

theorem laid_apply (x : FVec Ideal S8x128 .f32) (b : Fin 8) (l : Fin 128) : laid x (ix3 b 0 l) = x (ix2 b l) := by
  unfold laid
  refine shapeCast_apply _ _ _ _ ?_
  rw [Shape.rowMajor_val_three, Shape.rowMajor_val_two]
  show b.val * 128 + l.val = (b.val * 1 + 0) * 128 + l.val
  omega

theorem rest_apply (b : Fin 8) (l : Fin 113) : rest (ix2 b l) = 0 := by
  unfold rest
  pointwise

theorem side_apply (a : FVec Ideal S8x9 .f32) (x y : FVec Ideal S8x3 .f32) (b : Fin 8) (l : Fin 128) :
    side a x y rest (ix2 b l) = if h : l.val < 9 then a (ix2 b ⟨l.val, h⟩)
      else if h : l.val < 12 then x (ix2 b ⟨l.val - 9, by omega⟩)
      else if h : l.val < 15 then y (ix2 b ⟨l.val - 12, by omega⟩) else 0 := by
  unfold side
  pointwise [rest_apply]
  by_cases h1 : l.val < 9
  · rw [dif_pos h1, dif_pos h1]
  · rw [dif_neg h1, dif_neg h1]
    by_cases h2 : l.val < 12
    · rw [dif_pos (by omega), dif_pos h2]
    · rw [dif_neg (by omega), dif_neg h2]
      by_cases h3 : l.val < 15
      · rw [dif_pos (by omega), dif_pos h3]
        exact congrArg y (congrArg (ix2 b) (Fin.ext (Nat.sub_sub _ 9 3)))
      · rw [dif_neg (by omega), dif_neg h3]

/-- The operations after the loop, grouped. -/
theorem post_eq (X : Valuation τ sig (Elt Ideal)) : after hostOps0_1 X (Proc.devRef .tc main_v63)
    = laid (side (row9 (products (offMean (gathered (X (Proc.devRef .tc main_v0)) (wrapped (rowsOf (X (Proc.devRef .tc main_v18_2))))))
        (offMean (gathered (X (Proc.devRef .tc main_v1)) (wrapped (colsOf (X (Proc.devRef .tc main_v18_2))))))))
      (meanAll (X (Proc.devRef .tc main_v0))) (meanAll (weighted (X (Proc.devRef .tc main_v1)) (X (Proc.devRef .tc main_v16)))) rest) := by
  after_reads_simp
  unfold laid side row9 products offMean meanFifteen gathered wrapped rowsOf colsOf meanAll weighted rest
  rfl

end Cert.ReferenceIdeal.Hand
-- ==== Proof.StatRef.lean ====
/- One row of the result as the mathematics states it. -/
module

public import proofs.«01_k».proof.Proof.Score

@[expose] public section

noncomputable section

namespace Cert.Match

open Idealize.ShloMosaic

/-- A point with the mean of fifteen points taken off. -/
def offMeanAt (p : Fin 15 → EReal) (k : Fin 15) : EReal := p k - (∑ x, p x) * ((1 / 15 : ℝ) : EReal)

/-- The nine products of the centred picks, the mean source point, the mean of the weighted target points, and zeros. -/
def refOf (A B : Fin 64 → Fin 2048 → EReal) (src tgt : Fin 3 → Fin 2048 → EReal) (l : Fin 128) : EReal :=
  if h : l.val < 9 then ∑ k : Fin 15, offMeanAt (fun k => src ⟨l.val / 3, by omega⟩ (pick (prob A B) k.val).1) k
      * offMeanAt (fun k => tgt ⟨l.val % 3, by omega⟩ (pick (prob A B) k.val).2) k
  else if h : l.val < 12 then (∑ n, src ⟨l.val - 9, by omega⟩ n) * ((1 / 2048 : ℝ) : EReal)
  else if h : l.val < 15 then (∑ n, ∑ m, tgt ⟨l.val - 12, by omega⟩ m * prob A B n m) * ((1 / 2048 : ℝ) : EReal)
  else 0

end Cert.Match
-- ==== Proof.RefFinal.lean ====
/- The reference's result at every index. -/
module

public import proofs.«01_k».proof.Proof.RefLoop
public import proofs.«01_k».proof.Proof.RefPost
public import proofs.«01_k».proof.Proof.StatRef

@[expose] public section

set_option maxRecDepth 8000

noncomputable section

namespace Cert.ReferenceIdeal.Hand

open Idealize.ShloMosaic Idealize.ShloMosaic.TcCoe
open Idealize.ShloMosaic.StableHlo
open Idealize.SL.Sem
open Cert.ReferenceIdeal Cert.ReferenceIdeal.Gen Cert.ReferenceIdeal.Value Cert.Match

variable (m : (ℓ : Loc nD τ sig) → Buf (Elt Ideal) ℓ) (c : Dev nD)

theorem after_v0 (b : Fin 8) (i : Fin 3) (n : Fin 2048) :
    (afterLoop m c (Proc.devRef .tc main_v0) : S8x3x2048.Idx → EReal) (ix3 b i n) = srcP m c b i n :=
  (congrFun (afterLoop_keeps m c main_v0 (by decide +kernel) (by decide +kernel)) _).trans (entry_v0 m c b i n)

theorem after_v1 (b : Fin 8) (i : Fin 3) (n : Fin 2048) :
    (afterLoop m c (Proc.devRef .tc main_v1) : S8x3x2048.Idx → EReal) (ix3 b i n) = tgtP m c b i n :=
  (congrFun (afterLoop_keeps m c main_v1 (by decide +kernel) (by decide +kernel)) _).trans (entry_v1 m c b i n)

theorem after_v16 (b : Fin 8) (n k : Fin 2048) :
    (afterLoop m c (Proc.devRef .tc main_v16) : S8x2048x2048.Idx → EReal) (ix3 b n k) = prob (embA m c b) (embB m c b) n k :=
  (congrFun (afterLoop_keeps m c main_v16 (by decide +kernel) (by decide +kernel)) _).trans (entry_v16 m c b n k)

theorem after_picks (hf : ∀ b, Fin2 (embA m c b) (embB m c b)) (j : Fin 15) (b : Fin 8) (i : Fin 2) :
    (afterLoop m c (Proc.devRef .tc main_v18_2) : S15x8x2.Idx → BitVec 32) (ix3 j b i)
      = if i.val = 0 then BitVec.ofNat 32 (pick (prob (embA m c b) (embB m c b)) j.val).1.val
        else BitVec.ofNat 32 (pick (prob (embA m c b) (embB m c b)) j.val).2.val :=
  (congrFun (after_of_writes_sub condOps _ condOps_writes (by decide +kernel)) _).trans ((loop_holds m c hf 15 le_rfl).2 j j.isLt b i)

/-- The reference's result. -/
theorem value (hf : ∀ b, Fin2 (embA m c b) (embB m c b)) (b : Fin 8) (l : Fin 128) :
    (after hostOps0_1 (afterLoop m c) (Proc.devRef .tc main_v63) : S8x1x128.Idx → EReal) (ix3 b 0 l)
      = refOf (embA m c b) (embB m c b) (srcP m c b) (tgtP m c b) l := by
  have h0 := after_v0 m c b
  have h1 := after_v1 m c b
  have h16 := after_v16 m c b
  have hp := fun j i => after_picks m c hf j b i
  refine (congrFun (post_eq (afterLoop m c)) _).trans ?_
  generalize (afterLoop m c (Proc.devRef .tc main_v0) : S8x3x2048.Idx → EReal) = S at h0 ⊢
  generalize (afterLoop m c (Proc.devRef .tc main_v1) : S8x3x2048.Idx → EReal) = T at h1 ⊢
  generalize (afterLoop m c (Proc.devRef .tc main_v16) : S8x2048x2048.Idx → EReal) = P at h16 ⊢
  generalize (afterLoop m c (Proc.devRef .tc main_v18_2) : S15x8x2.Idx → BitVec 32) = L at hp ⊢
  have hr : ∀ k : Fin 15, wrapped (rowsOf L) (ix3 b k 0) = BitVec.ofNat 32 (pick (prob (embA m c b) (embB m c b)) k.val).1.val :=
    fun k => wrapped_apply _ b k _ ((rowsOf_apply L b k).trans ((hp k 0).trans (if_pos rfl)))
  have hc : ∀ k : Fin 15, wrapped (colsOf L) (ix3 b k 0) = BitVec.ofNat 32 (pick (prob (embA m c b) (embB m c b)) k.val).2.val :=
    fun k => wrapped_apply _ b k _ ((colsOf_apply L b k).trans ((hp k 1).trans (if_neg (by decide))))
  have gs : ∀ i k, gathered S (wrapped (rowsOf L)) (ix3 b i k) = srcP m c b i (pick (prob (embA m c b) (embB m c b)) k.val).1 :=
    fun i k => (gathered_apply S _ b i k _ (hr k)).trans (h0 i _)
  have gt : ∀ i k, gathered T (wrapped (colsOf L)) (ix3 b i k) = tgtP m c b i (pick (prob (embA m c b) (embB m c b)) k.val).2 :=
    fun i k => (gathered_apply T _ b i k _ (hc k)).trans (h1 i _)
  generalize gathered S (wrapped (rowsOf L)) = gS at gs ⊢
  generalize gathered T (wrapped (colsOf L)) = gT at gt ⊢
  refine (laid_apply _ b l).trans ((side_apply _ _ _ b l).trans ?_)
  unfold refOf offMeanAt
  split_ifs with e1 e2 e3
  · rw [row9_apply, products_apply]
    simp only [offMean_apply, gs, gt]
  · rw [meanAll_apply]
    simp only [h0]
  · rw [meanAll_apply]
    simp only [weighted_apply, h1, h16]
  · rfl

end Cert.ReferenceIdeal.Hand
-- ==== Proof.IdealValueOne.lean ====
/- What the first call leaves in its blocks over the extended reals: the listed exponentials and their positions, the
   row sums, and the running sums of corresponding target points. -/
module

public import proofs.«01_k».proof.Proof.IdealPassOne
public import proofs.«01_k».proof.Proof.Score
public import Idealize.ShloMosaic.Lib.Pipeline.Value

@[expose] public section

set_option maxRecDepth 16384

noncomputable section

namespace Cert.KernelIdeal.Hand

open Cert.KernelIdeal Cert.KernelIdeal.Gen Cert.Match
open Idealize.ShloMosaic Idealize.ShloMosaic.TcCoe

/-! ## The strike-outs -/

/-- The maximum of a column of the tile, -/
theorem pay13_apply (w : FVec Ideal S2048x256 .f32) (n : Fin 256) :
    k0_pay13 (F := Ideal) w (ix2 0 n) = w (ix2 (firstMax fun m => w (ix2 m n)) n) := by
  unfold k0_pay13
  pointwise
  rw [word_bot]
  exact foldMax_eq _ _ (firstMax_spec fun m => w (ix2 m n)).1 ⟨_, rfl⟩

/-- and the first row it is met in. -/
theorem pay14_apply (w : FVec Ideal S2048x256 .f32) (n : Fin 256) :
    k0_pay14 (F := Ideal) w (ix2 0 n) = BitVec.ofNat 32 (firstMax fun m => w (ix2 m n)).val := by
  unfold k0_pay14
  pointwise
  rw [pay13_apply]
  obtain ⟨h1, h2⟩ := firstMax_spec fun m => w (ix2 m n)
  refine foldMin_ofNat _ (fun m : Fin 2048 => if w (ix2 m n) = w (ix2 (firstMax fun m => w (ix2 m n)) n) then m.val else 2048) ?_ ?_ _ ?_ ?_
  · intro m; have := m.isLt; split_ifs <;> omega
  · intro m; split_ifs <;> rfl
  · intro m
    split_ifs with h
    · exact h2 m h
    · exact (firstMax fun m => w (ix2 m n)).isLt.le
  · exact ⟨firstMax fun m => w (ix2 m n), if_pos rfl⟩

/-- Two words of small numbers are equal when the numbers are. -/
theorem ofNat_inj_small {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A choice by equality of two small words. -/
theorem select_eq_ofNat {α : Type} {a b : ℕ} (ha : a < 2 ^ 32) (hb : b < 2 ^ 32) (x y : α) :
    Scalar.select (IntOp.cmpi .eq (BitVec.ofNat 32 a) (BitVec.ofNat 32 b)) x y = if a = b then x else y := by
  by_cases h : a = b
  · subst h; simp [Scalar.select, IntOp.cmpi]
  · have : ¬ BitVec.ofNat 32 a = BitVec.ofNat 32 b := fun e => h ((ofNat_inj_small ha hb).1 e)
    have hb' : (BitVec.ofNat 32 a == BitVec.ofNat 32 b) = false := by simpa using this
    simp [Scalar.select, IntOp.cmpi, h, hb']

/-- One strike-out. -/
theorem pay17_apply (w : FVec Ideal S2048x256 .f32) (m : Fin 2048) (n : Fin 256) :
    k0_pay17 (F := Ideal) w (ix2 m n) = if m = firstMax (fun m => w (ix2 m n)) then -1 else w (ix2 m n) := by
  unfold k0_pay17
  pointwise
  rw [pay14_apply, word_neg_one, select_eq_ofNat (by omega) (by omega)]
  simp only [Fin.ext_iff]

/-- The tile after `k` strike-outs. -/
theorem tileAt_apply (w : FVec Ideal S2048x256 .f32) (n : Fin 256) :
    ∀ (k : ℕ) (m : Fin 2048), tileAt (F := Ideal) w k (ix2 m n) = struck (fun m => w (ix2 m n)) k m
  | 0, m => rfl
  | k + 1, m => by
    have e : (fun m => tileAt (F := Ideal) w k (ix2 m n)) = struck (fun m => w (ix2 m n)) k := funext fun m => tileAt_apply w n k m
    show k0_pay17 (F := Ideal) (tileAt (F := Ideal) w k) (ix2 m n) = _
    rw [pay17_apply, e, tileAt_apply w n k m]
    rfl

/-- The maximum of a column after `k` strike-outs, -/
theorem pay15_apply (w : FVec Ideal S2048x256 .f32) (k : ℕ) (n : Fin 256) :
    k0_pay15 (F := Ideal) (tileAt (F := Ideal) w k) (ix3 0 0 n)
      = struck (fun m => w (ix2 m n)) k (colAt (fun m => w (ix2 m n)) k) := by
  unfold k0_pay15
  pointwise
  rw [pay13_apply, tileAt_apply]
  simp only [tileAt_apply]
  rfl

/-- and its row. -/
theorem pay16_apply (w : FVec Ideal S2048x256 .f32) (k : ℕ) (n : Fin 256) :
    k0_pay16 (F := Ideal) (tileAt (F := Ideal) w k) (ix3 0 0 n) = BitVec.ofNat 32 (colAt (fun m => w (ix2 m n)) k).val := by
  unfold k0_pay16
  pointwise
  rw [pay14_apply]
  simp only [tileAt_apply]
  rfl

/-! ## The rows stored one at a time -/

/-- Contents given row by row, as a function of the block's index. -/
def rowsOf {α : Type} (P : ℕ → S1x1x256.Idx → α) (y : S1x16x256.Idx) : α := P (y 1).val (ix3 (0 : Fin 1) (0 : Fin 1) (y 2 : Fin 256))

theorem row_piece {α : Type} (P : ℕ → S1x1x256.Idx → α) (k : ℕ) (hk : k < 16) (inb) (x : S1x1x256.Idx) :
    P k x = rowsOf P ((Rect.unit (s := S1x16x256) ![0, k, 0] S1x1x256.size inb).emb x) := by
  unfold rowsOf
  have h1 : ((Rect.unit (s := S1x16x256) ![0, k, 0] S1x1x256.size inb).emb x 1).val = k := by
    have : (x 1).val < 1 := (x 1).isLt
    show k + 1 * (x 1).val = k; omega
  rw [h1]
  congr 1
  funext a; apply Fin.ext
  fin_cases a
  · have : (x 0).val < 1 := (x 0).isLt
    show (x 0).val = 0; omega
  · have : (x 1).val < 1 := (x 1).isLt
    show (x 1).val = 0; omega
  · show (x 2).val = 0 + 1 * (x 2).val; omega

/-- Sixteen rows stored one at a time, read back. -/
theorem canon_rows {e : EltTy} (P : ℕ → S1x1x256.Idx → Elt Ideal e) (L : List (View.Piece (Elt Ideal) S1x16x256 e))
    (hL : L = [⟨row0_15, P 15⟩, ⟨row0_14, P 14⟩, ⟨row0_13, P 13⟩, ⟨row0_12, P 12⟩, ⟨row0_11, P 11⟩, ⟨row0_10, P 10⟩, ⟨row0_9, P 9⟩, ⟨row0_8, P 8⟩, ⟨row0_7, P 7⟩, ⟨row0_6, P 6⟩, ⟨row0_5, P 5⟩, ⟨row0_4, P 4⟩, ⟨row0_3, P 3⟩, ⟨row0_2, P 2⟩, ⟨row0_1, P 1⟩, ⟨row0_0, P 0⟩])
    (hc : ∀ y, ∃ pc ∈ L, y ∈ pc.1.set) (k : Fin 16) (n : Fin 256) : View.canon L (ix3 0 k n) = P k.val (ix3 0 0 n) := by
  refine (View.canon_apply_of_pieces (rowsOf P) L ?_ _ (hc _)).trans rfl
  subst hL
  intro p hp
  simp only [List.mem_cons, List.not_mem_nil, or_false] at hp
  rcases hp with rfl | rfl | rfl | rfl | rfl | rfl | rfl | rfl | rfl | rfl | rfl | rfl | rfl | rfl | rfl | rfl
  · exact row_piece P 15 (by norm_num) inb_S1x16x256_S1x1x256_0_15_0
  · exact row_piece P 14 (by norm_num) inb_S1x16x256_S1x1x256_0_14_0
  · exact row_piece P 13 (by norm_num) inb_S1x16x256_S1x1x256_0_13_0
  · exact row_piece P 12 (by norm_num) inb_S1x16x256_S1x1x256_0_12_0
  · exact row_piece P 11 (by norm_num) inb_S1x16x256_S1x1x256_0_11_0
  · exact row_piece P 10 (by norm_num) inb_S1x16x256_S1x1x256_0_10_0
  · exact row_piece P 9 (by norm_num) inb_S1x16x256_S1x1x256_0_9_0
  · exact row_piece P 8 (by norm_num) inb_S1x16x256_S1x1x256_0_8_0
  · exact row_piece P 7 (by norm_num) inb_S1x16x256_S1x1x256_0_7_0
  · exact row_piece P 6 (by norm_num) inb_S1x16x256_S1x1x256_0_6_0
  · exact row_piece P 5 (by norm_num) inb_S1x16x256_S1x1x256_0_5_0
  · exact row_piece P 4 (by norm_num) inb_S1x16x256_S1x1x256_0_4_0
  · exact row_piece P 3 (by norm_num) inb_S1x16x256_S1x1x256_0_3_0
  · exact row_piece P 2 (by norm_num) inb_S1x16x256_S1x1x256_0_2_0
  · exact row_piece P 1 (by norm_num) inb_S1x16x256_S1x1x256_0_1_0
  · exact row_piece P 0 (by norm_num) inb_S1x16x256_S1x1x256_0_0_0

/-- The block of values, at a row and a column: the column's maximum after that many strike-outs, and −1 in the last row. -/
theorem canon_val (w : FVec Ideal S2048x256 .f32) (k : Fin 16) (n : Fin 256) :
    View.canon (valPieces (F := Ideal) w) (ix3 0 k n)
      = if k.val < 15 then struck (fun m => w (ix2 m n)) k.val (colAt (fun m => w (ix2 m n)) k.val) else (-1 : EReal) := by
  rw [canon_rows (e := .f32) (fun j => if j < 15 then k0_pay15 (F := Ideal) (tileAt (F := Ideal) w j) else k0_pay5 (F := Ideal)) (valPieces (F := Ideal) w) rfl
    (cover0_3 w) k n]
  split_ifs with h
  · exact pay15_apply w k.val n
  · unfold k0_pay5; pointwise; exact word_neg_one

/-- The block of positions, and 2048 in the last row. -/
theorem canon_idx (w : FVec Ideal S2048x256 .f32) (k : Fin 16) (n : Fin 256) :
    View.canon (idxPieces (F := Ideal) w) (ix3 0 k n)
      = if k.val < 15 then BitVec.ofNat 32 (colAt (fun m => w (ix2 m n)) k.val).val else BitVec.ofNat 32 2048 := by
  rw [canon_rows (e := .i32) (fun j => if j < 15 then k0_pay16 (F := Ideal) (tileAt (F := Ideal) w j) else k0_pay6) (idxPieces (F := Ideal) w) rfl
    (cover0_4 w) k n]
  split_ifs with h
  · exact pay16_apply w k.val n
  · unfold k0_pay6; pointwise; try rfl

/-! ## The blocks, from the embeddings -/

section
variable {A B : Fin 64 → Fin 2048 → EReal} {pos : Fin 256 → Fin 2048}
  {x0 : Vec Ideal S1x64x256 .f32} {x1 : Vec Ideal S1x64x2048 .f32}

/-- The two blocks hold these embeddings: the tile's source points are those at `pos`. -/
def Reads (A B : Fin 64 → Fin 2048 → EReal) (pos : Fin 256 → Fin 2048) (x0 : Vec Ideal S1x64x256 .f32) (x1 : Vec Ideal S1x64x2048 .f32) : Prop :=
  (∀ d n, x0 (ix3 0 d n) = A d (pos n)) ∧ ∀ d m, x1 (ix3 0 d m) = B d m

/-- The tile of exponentials, -/
theorem pay7_apply (h : Reads A B pos x0 x1) (m : Fin 2048) (n : Fin 256) :
    k0_pay7 (F := Ideal) (View.ld x0 whole0_0) (View.ld x1 whole0_1) (ix2 m n) = expo A B (pos n) m := by
  unfold k0_pay7
  pointwise
  simp only [h.1, h.2, word_bot, word_eighth]
  unfold expo logit
  simp only [mul_comm (A _ _)]

theorem tile0_apply (h : Reads A B pos x0 x1) (m : Fin 2048) (n : Fin 256) :
    tile0 (F := Ideal) x0 x1 (ix2 m n) = expo A B (pos n) m := pay7_apply h m n

/-- the listed values, -/
theorem out3_apply (h : Reads A B pos x0 x1) (hf : Fin2 A B) (k : Fin 16) (n : Fin 256) :
    out0_3 (F := Ideal) x0 x1 (ix3 0 k n)
      = if k.val < 15 then expo A B (pos n) (colAt (expo A B (pos n)) k.val) else -1 := by
  unfold out0_3
  rw [canon_val]
  have e : (fun m => tile0 (F := Ideal) x0 x1 (ix2 m n)) = expo A B (pos n) := funext fun m => tile0_apply h m n
  rw [e]
  split_ifs with hk
  · rw [struck_colAt _ (by norm_num) (fun m => (expo_posReal hf _ m).pos) hk]
  · rfl

/-- their positions, -/
theorem out4_apply (h : Reads A B pos x0 x1) (k : Fin 16) (n : Fin 256) :
    out0_4 (F := Ideal) x0 x1 (ix3 0 k n)
      = if k.val < 15 then BitVec.ofNat 32 (colAt (expo A B (pos n)) k.val).val else BitVec.ofNat 32 2048 := by
  unfold out0_4
  rw [canon_idx]
  have e : (fun m => tile0 (F := Ideal) x0 x1 (ix2 m n)) = expo A B (pos n) := funext fun m => tile0_apply h m n
  rw [e]

theorem pay8_apply (h : Reads A B pos x0 x1) (n : Fin 256) :
    k0_pay8 (F := Ideal) (View.ld x0 whole0_0) (View.ld x1 whole0_1) (ix2 0 n) = rowSum A B (pos n) := by
  unfold k0_pay8
  pointwise
  exact Finset.sum_congr rfl fun m _ => pay7_apply h m n

/-- the row sums, -/
theorem out5_apply (h : Reads A B pos x0 x1) (n : Fin 256) :
    out0_5 (F := Ideal) x0 x1 (ix3 0 0 n) = rowSum A B (pos n) := by
  unfold out0_5
  rw [View.canon_unit_zero (by funext a; fin_cases a <;> rfl)]
  unfold k0_pay9
  pointwise
  exact pay8_apply h n

/-- The first three lanes are laid over the running sums. -/
theorem lanes_overlay (f : S1x1x8.Idx → EReal) (g : S1x1x3.Idx → EReal) (l : Fin 8) :
    lanes0_6.overlay f g (ix3 (0 : Fin 1) (0 : Fin 1) l) = if h : l.val < 3 then g (ix3 0 0 ⟨l.val, h⟩) else f (ix3 0 0 l) := by
  split_ifs with h
  · have e : (ix3 (0 : Fin 1) (0 : Fin 1) l : S1x1x8.Idx) = lanes0_6.emb (ix3 (0 : Fin 1) (0 : Fin 1) (⟨l.val, h⟩ : Fin 3)) := by
      funext a; apply Fin.ext
      fin_cases a
      · show 0 = 0 + 1 * 0; omega
      · show 0 = 0 + 1 * 0; omega
      · show l.val = 0 + 1 * l.val; omega
    rw [e, Rect.overlay_emb]
  · refine Rect.overlay_of_not_mem _ _ _ fun hm => ?_
    obtain ⟨i, hi, he⟩ := (LoadRect.mem_set _).mp hm (2 : Fin 3)
    have hi1 : i < 3 := hi
    have he' : l.val = 0 + 1 * i := he
    omega

/-- and the running sums of corresponding target points after one more tile. -/
theorem out6_apply (h : Reads A B pos x0 x1) {x2 : Vec Ideal S1x2048x3 .f32} {T : Fin 2048 → Fin 3 → EReal}
    (h2 : ∀ m i, x2 (ix3 0 m i) = T m i) (prev : Vec Ideal S1x1x8 .f32) (i : Fin 3) :
    out0_6 (F := Ideal) prev x0 x1 x2 (ix3 0 0 (i.castLE (by norm_num)))
      = prev (ix3 0 0 (i.castLE (by norm_num))) + ∑ n, Ideal.div 1 (rowSum A B (pos n)) * ∑ m, expo A B (pos n) m * T m i := by
  unfold out0_6
  refine (lanes_overlay _ _ _).trans ?_
  rw [dif_pos (show (i.castLE (by norm_num : 3 ≤ 8)).val < 3 from i.isLt)]
  unfold k0_pay12 k0_pay11
  pointwise
  simp only [h2, pay7_apply h, pay8_apply h]
  rfl

end

end Cert.KernelIdeal.Hand
-- ==== Proof.IdealRound.lean ====
/- The second call over the extended reals, one round: what each of its values is at a place. -/
module

public import proofs.«01_k».proof.Proof.IdealPassTwo
public import proofs.«01_k».proof.Proof.IdealValueOne

@[expose] public section

set_option maxRecDepth 16384

noncomputable section

namespace Cert.KernelIdeal.Hand

open Cert.KernelIdeal Cert.KernelIdeal.Gen Cert.Match
open Idealize.ShloMosaic Idealize.ShloMosaic.TcCoe

/-- The largest entry of each column, -/
theorem pay2_apply (a : FVec Ideal S16x2048 .f32) (n : Fin 2048) :
    k1_pay2 (F := Ideal) a (ix2 0 n) = Finset.fold max ⊥ (fun k : Fin 16 => a (ix2 k n)) Finset.univ := by
  unfold k1_pay2
  pointwise
  rw [word_bot]

/-- the largest of all, -/
theorem k1_pay3_eq (a : FVec Ideal S16x2048 .f32) (s : EReal) (h : ∀ k n, a (ix2 k n) ≤ s) (h' : ∃ k n, a (ix2 k n) = s) :
    k1_pay3 (F := Ideal) a = s := by
  have h2 : ∀ n, k1_pay2 (F := Ideal) a (ix2 0 n) ≤ s := by
    intro n
    rw [pay2_apply]
    exact (Finset.fold_max_le _).2 ⟨bot_le, fun k _ => h k n⟩
  obtain ⟨k, n, hk⟩ := h'
  have h3 : k1_pay2 (F := Ideal) a (ix2 0 n) = s := by
    refine le_antisymm (h2 n) ?_
    rw [pay2_apply, ← hk]
    exact le_foldMax (fun k : Fin 16 => a (ix2 k n)) k
  unfold k1_pay3
  generalize k1_pay2 (F := Ideal) a = b at h2 h3 ⊢
  pointwise
  rw [word_bot]
  exact foldMax_eq _ s (fun x => h2 x.2) ⟨(0, n), h3⟩

/-- and the mark of the first column that holds it. -/
theorem pay4_apply (a : FVec Ideal S16x2048 .f32) (s : EReal) (h : ∀ k n, a (ix2 k n) ≤ s) (nn : Fin 2048)
    (hn : ∃ k, a (ix2 k nn) = s) (hn' : ∀ n, (∃ k, a (ix2 k n) = s) → nn ≤ n) (n : Fin 2048) :
    k1_pay4 (F := Ideal) lane1 a (ix2 0 n) = IntOp.cmpi .eq (BitVec.ofNat 32 n.val) (BitVec.ofNat 32 nn.val) := by
  have e3 : k1_pay3 (F := Ideal) a = s := k1_pay3_eq a s h (let ⟨k, hk⟩ := hn; ⟨k, nn, hk⟩)
  have e2 : ∀ n, k1_pay2 (F := Ideal) a (ix2 0 n) = s ↔ ∃ k, a (ix2 k n) = s := by
    intro n
    rw [pay2_apply]
    constructor
    · intro e
      obtain ⟨k, hk⟩ := exists_foldMax (fun k : Fin 16 => a (ix2 k n))
      exact ⟨k, hk.symm.trans e⟩
    · rintro ⟨k, hk⟩
      exact foldMax_eq _ s (fun k => h k n) ⟨k, hk⟩
  unfold k1_pay4
  rw [e3]
  generalize k1_pay2 (F := Ideal) a = b at e2 ⊢
  pointwise
  refine congrArg (IntOp.cmpi .eq (BitVec.ofNat 32 n.val)) ?_
  refine foldMin_ofNat _ (fun x : Fin 1 × Fin 2048 => if b (ix2 0 x.2) = s then x.2.val else 2048) ?_ ?_ _ ?_ ?_
  · intro x; have := x.2.isLt; try dsimp only
    split_ifs <;> omega
  · intro x; split_ifs <;> rfl
  · intro x
    have := nn.isLt
    try dsimp only
    split_ifs with hx
    · exact hn' _ ((e2 _).1 hx)
    · omega
  · exact ⟨(0, nn), if_pos ((e2 _).2 hn)⟩

/-- `select_eq_ofNat` with the two places bounded by 4096. -/
theorem select_nat {α : Type} {a b : ℕ} (ha : a ≤ 4096) (hb : b ≤ 4096) (x y : α) :
    Scalar.select (IntOp.cmpi .eq (BitVec.ofNat 32 a) (BitVec.ofNat 32 b)) x y = if a = b then x else y :=
  select_eq_ofNat (by omega) (by omega) x y

theorem lt4096 (n : Fin 2048) : n.val ≤ 4096 := by have := n.isLt; omega

/-- A sum that keeps one column is the entry there. -/
theorem sum_marked (f : Fin 2048 → EReal) (nn : Fin 2048) :
    (∑ n, Scalar.select (IntOp.cmpi .eq (BitVec.ofNat 32 n.val) (BitVec.ofNat 32 nn.val)) (f n) 0) = f nn := by
  rw [Finset.sum_eq_single nn]
  · rw [select_nat (lt4096 nn) (lt4096 nn), if_pos rfl]
  · intro n _ hn
    rw [select_nat (lt4096 n) (lt4096 nn), if_neg (fun e => hn (Fin.ext e))]
  · intro h; exact absurd (Finset.mem_univ _) h

theorem pay9_apply (v6 : Vec Ideal S1x16x2048 .i32) (k : Fin 16) (n : Fin 2048) :
    k1_pay9 (F := Ideal) v6 (ix2 k n) = v6 (ix3 0 k n) := by
  unfold k1_pay9
  pointwise

theorem pay10_apply (v8 : Vec Ideal S1x3x2048 .f32) (i : Fin 3) (n : Fin 2048) :
    k1_pay10 (F := Ideal) v8 (ix2 i n) = v8 (ix3 0 i n) := by
  unfold k1_pay10
  pointwise

/-- The stored column number of the pick. -/
theorem pick1_eq (v6 : Vec Ideal S1x16x2048 .i32) (g : Fin 16 → Fin 2048 → ℕ) (hg : ∀ k n, v6 (ix3 0 k n) = BitVec.ofNat 32 (g k n))
    (hg' : ∀ k n, g k n ≤ 2048)
    (a : FVec Ideal S16x2048 .f32) (s : EReal) (h : ∀ k n, a (ix2 k n) ≤ s) (nn : Fin 2048)
    (hn : ∃ k, a (ix2 k nn) = s) (hn' : ∀ n, (∃ k, a (ix2 k n) = s) → nn ≤ n) (c : Fin 2048)
    (hc : ∃ k, a (ix2 k nn) = s ∧ g k nn = c.val) (hc' : ∀ k, a (ix2 k nn) = s → c.val ≤ g k nn) :
    pick1 (F := Ideal) v6 a = BitVec.ofNat 32 c.val := by
  have e3 : k1_pay3 (F := Ideal) a = s := k1_pay3_eq a s h (let ⟨k, hk⟩ := hn; ⟨k, nn, hk⟩)
  have e4 := pay4_apply a s h nn hn hn'
  have e9 := pay9_apply v6
  unfold pick1 k1_pay5
  rw [e3]
  generalize k1_pay4 (F := Ideal) lane1 a = msk at e4 ⊢
  generalize k1_pay9 (F := Ideal) v6 = w at e9 ⊢
  pointwise
  simp only [e4, e9, hg, sum_marked]
  refine foldMin_ofNat _ (fun x : Fin 16 × Fin 1 => if a (ix2 x.1 nn) = s then g x.1 nn else 2048) ?_ ?_ _ ?_ ?_
  · intro x; have := hg' x.1 nn; try dsimp only
    split_ifs <;> omega
  · intro x
    try dsimp only
    split_ifs
    · rw [foldAdd_single _ nn, select_nat (lt4096 nn) (lt4096 nn), if_pos rfl]
      intro n hn
      rw [select_nat (lt4096 n) (lt4096 nn), if_neg (fun e => hn (Fin.ext e))]
    · rfl
  · intro x
    have := c.isLt
    try dsimp only
    split_ifs with hx
    · exact hc' _ hx
    · omega
  · obtain ⟨k, hk, hk'⟩ := hc
    exact ⟨(k, 0), (if_pos hk).trans hk'⟩

/-- The source point of the picked row. -/
theorem pay6_apply (v : FVec Ideal S3x2048 .f32)
    (a : FVec Ideal S16x2048 .f32) (s : EReal) (h : ∀ k n, a (ix2 k n) ≤ s) (nn : Fin 2048)
    (hn : ∃ k, a (ix2 k nn) = s) (hn' : ∀ n, (∃ k, a (ix2 k n) = s) → nn ≤ n) (i : Fin 3) :
    k1_pay6 (F := Ideal) v lane1 a (ix2 i 0) = v (ix2 i nn) := by
  have e4 := pay4_apply a s h nn hn hn'
  unfold k1_pay6
  generalize k1_pay4 (F := Ideal) lane1 a = msk at e4 ⊢
  pointwise
  simp only [e4, sum_marked]

/-- The mark of the picked column. -/
theorem k1_pay7_apply (v6 : Vec Ideal S1x16x2048 .i32) (a : FVec Ideal S16x2048 .f32) (c : Fin 2048)
    (hc : pick1 (F := Ideal) v6 a = BitVec.ofNat 32 c.val) (i : Fin 3) (n : Fin 2048) :
    k1_pay7 (F := Ideal) (k1_pay9 (F := Ideal) v6) lane1 lane1 a (ix2 i n)
      = IntOp.cmpi .eq (BitVec.ofNat 32 n.val) (BitVec.ofNat 32 c.val) := by
  unfold k1_pay7
  unfold pick1 at hc
  generalize k1_pay5 (F := Ideal) (k1_pay9 (F := Ideal) v6) lane1 a = w at hc ⊢
  rw [hc]
  pointwise

/-- The scaled lists. -/
theorem k1_pay8_apply (v : Vec Ideal S1x16x2048 .f32) (r : Vec Ideal S1x1x2048 .f32) (k : Fin 16) (n : Fin 2048) :
    k1_pay8 (F := Ideal) v r (ix2 k n) = Ideal.div (v (ix3 0 k n)) (r (ix3 0 0 n)) := by
  unfold k1_pay8
  pointwise

theorem iv_eq (k : Fin k1_t1_loop.trips) : Scf.iv 0#32 1#32 k = BitVec.ofNat 32 k.val := by
  simp [Scf.iv]

theorem k1_pay12_apply (k : Fin k1_t1_loop.trips) (hk : k.val < 15) (p : FVec Ideal S3x16 .f32) (v : FVec Ideal S3x1 .f32) (i : Fin 3) (j : Fin 16) :
    k1_pay12 (F := Ideal) p (Scf.iv 0#32 1#32 k) v (ix2 i j) = if j.val = k.val then v (ix2 i 0) else p (ix2 i j) := by
  rw [iv_eq]
  unfold k1_pay12
  pointwise
  exact select_nat (by have := j.isLt; omega) (by omega) _ _

theorem k1_pay13_apply (k : Fin k1_t1_loop.trips) (hk : k.val < 15) (v10 : Vec Ideal S1x3x2048 .f32) (p : FVec Ideal S3x16 .f32) (msk : IVec S3x2048 1) (c : Fin 2048)
    (hm : ∀ (i : Fin 3) n, msk (ix2 i n) = IntOp.cmpi .eq (BitVec.ofNat 32 n.val) (BitVec.ofNat 32 c.val)) (i : Fin 3) (j : Fin 16) :
    k1_pay13 (F := Ideal) v10 p (Scf.iv 0#32 1#32 k) (Scalar.ofBits .f32 0x00000000#32) msk (ix2 i j)
      = if j.val = k.val then v10 (ix3 0 i c) else p (ix2 i j) := by
  rw [iv_eq]
  unfold k1_pay13
  pointwise
  simp only [hm, sum_marked]
  exact select_nat (by have := j.isLt; omega) (by omega) _ _

/-- The lists with the picked row and the picked column struck out. -/
theorem k1_pay14_apply (v6 : Vec Ideal S1x16x2048 .i32) (g : Fin 16 → Fin 2048 → ℕ) (hg : ∀ k n, v6 (ix3 0 k n) = BitVec.ofNat 32 (g k n))
    (hg' : ∀ k n, g k n ≤ 2048) (a : FVec Ideal S16x2048 .f32) (msk : IVec S1x2048 1) (nn c : Fin 2048)
    (hm : ∀ n, msk (ix2 0 n) = IntOp.cmpi .eq (BitVec.ofNat 32 n.val) (BitVec.ofNat 32 nn.val)) (k : Fin 16) (n : Fin 2048) :
    k1_pay14 (F := Ideal) v6 a msk (BitVec.ofNat 32 c.val) (ix2 k n)
      = if n = nn then -1 else if g k n = c.val then -1 else a (ix2 k n) := by
  have := hg' k n
  have e9 := pay9_apply v6 k n
  unfold k1_pay14
  generalize k1_pay9 (F := Ideal) v6 = w at e9 ⊢
  pointwise
  rw [hm, e9, hg, word_neg_one, select_nat (lt4096 n) (lt4096 nn), select_nat (by omega) (lt4096 c)]
  simp only [Fin.val_inj]

end Cert.KernelIdeal.Hand
-- ==== Proof.IdealMatched.lean ====
/- The second call over the extended reals, its fifteen rounds: the points it collects are those of the picks of the
   probability table. -/
module

public import proofs.«01_k».proof.Proof.IdealRound

@[expose] public section

set_option maxRecDepth 16384

noncomputable section

namespace Cert.KernelIdeal.Hand

open Cert.KernelIdeal Cert.KernelIdeal.Gen Cert.Match
open Idealize.ShloMosaic Idealize.ShloMosaic.TcCoe

/-- A property kept by every trip holds after the last. -/
theorem fold_keeps {α : Type} : (n : ℕ) → (g : Fin n → α → α) → (init : α) → (Inv : ℕ → α → Prop) → Inv 0 init →
    (∀ (k : Fin n) a, Inv k.val a → Inv (k.val + 1) (g k a)) → Inv n ((List.finRange n).foldl (fun a k => g k a) init)
  | 0, _, _, _, h0, _ => by simpa using h0
  | n + 1, g, init, Inv, h0, hs => by
    rw [List.finRange_succ_last, List.foldl_append, List.foldl_map]
    exact hs (Fin.last n) _ (fold_keeps n (fun k => g k.castSucc) init Inv h0 (fun k a h => hs k.castSucc a h))

/-- The largest entry, the first column that holds it, and the smallest number stored with it there. -/
theorem exists_round (a : Fin 16 → Fin 2048 → EReal) (g : Fin 2048 → Fin 16 → ℕ) :
    ∃ (s : EReal) (nn : Fin 2048) (v : ℕ), (∀ k n, a k n ≤ s) ∧ (∃ k, a k nn = s) ∧ (∀ n, (∃ k, a k n = s) → nn ≤ n) ∧
      (∃ k, a k nn = s ∧ g nn k = v) ∧ ∀ k, a k nn = s → v ≤ g nn k := by
  classical
  obtain ⟨x, -, hx⟩ := Finset.exists_max_image (Finset.univ : Finset (Fin 16 × Fin 2048)) (fun x => a x.1 x.2) Finset.univ_nonempty
  have hne : (Finset.univ.filter fun n => ∃ k, a k n = a x.1 x.2).Nonempty := ⟨x.2, by simpa using ⟨x.1, rfl⟩⟩
  obtain ⟨nn, hnn, hmin⟩ := Finset.exists_min_image _ id hne
  have hnn' : ∃ k, a k nn = a x.1 x.2 := by simpa using hnn
  have hne2 : (Finset.univ.filter fun k => a k nn = a x.1 x.2).Nonempty := by
    obtain ⟨k, hk⟩ := hnn'; exact ⟨k, by simpa using hk⟩
  obtain ⟨k0, hk0, hmin2⟩ := Finset.exists_min_image _ (g nn) hne2
  refine ⟨a x.1 x.2, nn, g nn k0, fun k n => hx (k, n) (Finset.mem_univ _), hnn', fun n hn => hmin n (by simpa using hn),
    ⟨k0, by simpa using hk0, rfl⟩, fun k hk => hmin2 k (by simpa using hk)⟩

variable (A B : Fin 64 → Fin 2048 → EReal)

/-- The column numbers of the lists. -/
abbrev cols : Fin 2048 → ℕ → Fin 2048 := fun n => colAt (expo A B n)
/-- The lists as the second call scales them. -/
def lists0 (k : Fin 16) (n : Fin 2048) : EReal :=
  Ideal.div (if k.val < 15 then expo A B n (colAt (expo A B n) k.val) else -1) (rowSum A B n)

variable {A B}

theorem lists0_lt (k : Fin 16) (n : Fin 2048) (hk : k.val < 15) : lists0 A B k n = prob A B n (cols A B n k.val) := by
  unfold lists0
  rw [if_pos hk]; rfl

theorem lists0_pad (h : Fin2 A B) (k : Fin 16) (n : Fin 2048) (hk : ¬ k.val < 15) : lists0 A B k n < 0 := by
  obtain ⟨r, hr, -, hd, -⟩ := prob_scale h n
  unfold lists0
  rw [if_neg hk, hd]
  have : (-1 : EReal) = ((-1 : ℝ) : EReal) := by simp
  rw [this, ← EReal.coe_mul]
  exact_mod_cast (by linarith : r * (-1) < 0)

/-- One pick is a cell of the lists, its column being a stored number. -/
theorem pick_round (h : Fin2 A B) (R C : Finset (Fin 2048)) (hR : R.card ≤ 14) (hC : C.card ≤ 14) :
    ∃ (s : EReal), (∀ k n, listed (lists0 A B) (cols A B) R C k n ≤ s) ∧
      (∃ k, listed (lists0 A B) (cols A B) R C k (pickOf (masked (prob A B) R C)).1 = s) ∧
      (∀ n, (∃ k, listed (lists0 A B) (cols A B) R C k n = s) → (pickOf (masked (prob A B) R C)).1 ≤ n) ∧
      (∃ k, listed (lists0 A B) (cols A B) R C k (pickOf (masked (prob A B) R C)).1 = s ∧
        colOf (cols A B) k (pickOf (masked (prob A B) R C)).1 = (pickOf (masked (prob A B) R C)).2.val) ∧
      ∀ k, listed (lists0 A B) (cols A B) R C k (pickOf (masked (prob A B) R C)).1 = s →
        (pickOf (masked (prob A B) R C)).2.val ≤ colOf (cols A B) k (pickOf (masked (prob A B) R C)).1 := by
  obtain ⟨s, nn, v, hs, hn, hn', hc, hc'⟩ := exists_round (listed (lists0 A B) (cols A B) R C) (fun n k => colOf (cols A B) k n)
  have hv : v < 2048 := by
    -- some row is free, so the largest entry is positive, and the sixteenth row is never it
    obtain ⟨n, hnR⟩ : ∃ n : Fin 2048, n ∉ R := by
      by_contra hcon
      have : R = Finset.univ := Finset.eq_univ_of_forall (fun n => by by_contra hh; exact hcon ⟨n, hh⟩)
      rw [this, Finset.card_univ, Fintype.card_fin] at hR
      omega
    obtain ⟨j, hj, hjC, -, -⟩ := (lists_prob h n).first (by norm_num) (fun m => prob_pos h n m) C hC
    have hpos : 0 < s := by
      refine lt_of_lt_of_le ?_ (hs ⟨j, by omega⟩ n)
      rw [listed, if_neg hnR, if_neg (fun hh => hjC hh.2), lists0_lt _ _ hj]
      exact prob_pos h _ _
    obtain ⟨k, hk, hkv⟩ := hc
    by_cases hk15 : k.val < 15
    · rw [← hkv]; simp only [colOf, if_pos hk15]; exact Fin.isLt _
    · exfalso
      rw [listed] at hk
      have hlt : ∀ x : EReal, x < 0 → x ≠ s := fun x hx hxs => absurd (hxs ▸ hx) (not_lt.2 hpos.le)
      by_cases hkR : nn ∈ R
      · rw [if_pos hkR] at hk; exact hlt _ neg_one_lt_zero hk
      · rw [if_neg hkR, if_neg (fun hh => hk15 hh.1)] at hk
        exact hlt _ (lists0_pad h k nn hk15) hk
  have hp : IsPick (masked (prob A B) R C) (nn, ⟨v, hv⟩) :=
    round_pick (by norm_num) (fun n m => prob_pos h n m) (fun n => lists_prob h n) (fun k n hk => lists0_lt k n hk)
      (fun k n hk => lists0_pad h k n hk) hR hC hs hn hn' hc hc'
  rw [hp.eq_pickOf]
  exact ⟨s, hs, hn, hn', hc, hc'⟩

/-- The state after `k` rounds. -/
def Inv1 (A B : Fin 64 → Fin 2048 → EReal) (src tgt : Fin 3 → Fin 2048 → EReal) (k : ℕ)
    (st : FVec Ideal S16x2048 .f32 × FVec Ideal S3x16 .f32 × FVec Ideal S3x16 .f32) : Prop :=
  (∀ q n, st.1 (ix2 q n) = listed (lists0 A B) (cols A B) (used (prob A B) k).1 (used (prob A B) k).2 q n) ∧
  (∀ i j, st.2.1 (ix2 i j) = if j.val < k then src i (pick (prob A B) j.val).1 else 0) ∧
  ∀ i j, st.2.2 (ix2 i j) = if j.val < k then tgt i (pick (prob A B) j.val).2 else 0

theorem if_lt_succ (j k : ℕ) (f : ℕ → EReal) (x : EReal) (hx : x = f k) :
    (if j = k then x else if j < k then f j else 0) = if j < k + 1 then f j else 0 := by
  by_cases h1 : j = k
  · subst h1; rw [if_pos rfl, if_pos (by omega), hx]
  · rw [if_neg h1]
    by_cases h2 : j < k
    · rw [if_pos h2, if_pos (by omega)]
    · rw [if_neg h2, if_neg (by omega)]

/-- One round's three results. -/
theorem round1_eq (v6 : Vec Ideal S1x16x2048 .i32) (v8 v10 : Vec Ideal S1x3x2048 .f32) (k : Fin k1_t1_loop.trips)
    (a9 : FVec Ideal S16x2048 .f32) (a10 a11 : FVec Ideal S3x16 .f32) :
    round1 (F := Ideal) v6 v8 v10 k (a9, a10, a11) =
    (k1_pay14 v6 a9 (k1_pay4 lane1 a9) (pick1 v6 a9),
     k1_pay12 a10 (Scf.iv 0#32 1#32 k) (k1_pay6 (k1_pay10 v8) lane1 a9),
     k1_pay13 v10 a11 (Scf.iv 0#32 1#32 k) (Scalar.ofBits .f32 0x00000000#32) (k1_pay7 (k1_pay9 v6) lane1 lane1 a9)) := by
  unfold round1; with_reducible rfl

theorem round1_inv (h : Fin2 A B) (src tgt : Fin 3 → Fin 2048 → EReal)
    (v6 : Vec Ideal S1x16x2048 .i32) (hv6 : ∀ k n, v6 (ix3 0 k n) = BitVec.ofNat 32 (colOf (cols A B) k n))
    (v8 v10 : Vec Ideal S1x3x2048 .f32) (h8 : ∀ i n, v8 (ix3 0 i n) = src i n) (h10 : ∀ i n, v10 (ix3 0 i n) = tgt i n)
    (k : Fin k1_t1_loop.trips) (hk : k.val < 15) (st) (hst : Inv1 A B src tgt k.val st) :
    Inv1 A B src tgt (k.val + 1) (round1 (F := Ideal) v6 v8 v10 k st) := by
  obtain ⟨a9, a10, a11⟩ := st
  obtain ⟨h1, h2, h3⟩ := hst
  have hcard := card_used (prob A B) k.val
  obtain ⟨s, hs, hn, hn', hc, hc'⟩ := pick_round h (used (prob A B) k.val).1 (used (prob A B) k.val).2 (by omega) (by omega)
  simp only [← h1] at hs hn hn' hc hc'
  have hg' : ∀ k n, colOf (cols A B) k n ≤ 2048 := by
    intro k n; unfold colOf; split_ifs
    · exact (Fin.isLt _).le
    · exact le_rfl
  have hp := pick1_eq v6 (fun k n => colOf (cols A B) k n) hv6 hg' a9 s hs _ hn hn' _ hc hc'
  rw [round1_eq]
  refine ⟨?_, ?_, ?_⟩
  · intro q n
    dsimp only
    refine (congrArg (fun w => k1_pay14 (F := Ideal) v6 a9 (k1_pay4 lane1 a9) w (ix2 q n)) hp).trans ?_
    refine (k1_pay14_apply v6 (fun k n => colOf (cols A B) k n) hv6 hg' a9 _ _ _ (fun n => pay4_apply a9 s hs _ hn hn' n) q n).trans ?_
    refine Eq.trans ?_ (listed_insert (lists0 A B) (cols A B) (used (prob A B) k.val).1 (used (prob A B) k.val).2 (pick (prob A B) k.val) q n)
    rw [show a9 (ix2 q n) = _ from h1 q n]
    unfold pick
    congr 1
  · intro i j
    dsimp only
    dsimp only at h2
    rw [k1_pay12_apply k hk, pay6_apply _ a9 s hs _ hn hn', pay10_apply, h8, h2]
    exact if_lt_succ j.val k.val (fun j => src i (pick (prob A B) j).1) _ rfl
  · intro i j
    dsimp only
    dsimp only at h3
    rw [k1_pay13_apply k hk v10 a11 _ _ (fun i n => k1_pay7_apply v6 a9 _ hp i n), h10, h3]
    exact if_lt_succ j.val k.val (fun j => tgt i (pick (prob A B) j).2) _ rfl

/-- After the fifteen rounds. -/
theorem matched1_inv (h : Fin2 A B) (src tgt : Fin 3 → Fin 2048 → EReal)
    (x0 : Vec Ideal S1x16x2048 .f32) (x1 : Vec Ideal S1x16x2048 .i32) (x2 : Vec Ideal S1x1x2048 .f32) (x3 x4 : Vec Ideal S1x3x2048 .f32)
    (h0 : ∀ (k : Fin 16) n, x0 (ix3 0 k n) = if k.val < 15 then expo A B n (colAt (expo A B n) k.val) else -1)
    (h1 : ∀ k n, x1 (ix3 0 k n) = BitVec.ofNat 32 (colOf (cols A B) k n)) (h2 : ∀ n, x2 (ix3 0 0 n) = rowSum A B n)
    (h3 : ∀ i n, x3 (ix3 0 i n) = src i n) (h4 : ∀ i n, x4 (ix3 0 i n) = tgt i n) :
    Inv1 A B src tgt 15 (matched1 (F := Ideal) x0 x1 x2 x3 x4) := by
  have e0 : ∀ k n, View.ld x0 whole1_0 (ix3 0 k n) = x0 (ix3 0 k n) := by intro k n; pointwise
  have e1 : ∀ k n, View.ld x1 whole1_0 (ix3 0 k n) = x1 (ix3 0 k n) := by intro k n; pointwise
  have e2 : ∀ n, View.ld x2 whole1_2 (ix3 0 0 n) = x2 (ix3 0 0 n) := by intro n; pointwise
  have e3 : ∀ i n, View.ld x3 whole1_3 (ix3 0 i n) = x3 (ix3 0 i n) := by intro i n; pointwise
  have e4 : ∀ i n, View.ld x4 whole1_3 (ix3 0 i n) = x4 (ix3 0 i n) := by intro i n; pointwise
  have ht : k1_t1_loop.trips = 15 := by decide
  unfold matched1
  rw [Scf.fold_eq]
  have := fold_keeps k1_t1_loop.trips (round1 (F := Ideal) (View.ld x1 whole1_0) (View.ld x3 whole1_3) (View.ld x4 whole1_3))
    (k1_pay8 (View.ld x0 whole1_0) (View.ld x2 whole1_2), k1_pay11 (F := Ideal), k1_pay11 (F := Ideal)) (Inv1 A B src tgt) ?_ ?_
  · rw [← ht]; exact this
  · refine ⟨?_, ?_, ?_⟩
    · intro q n
      show k1_pay8 (F := Ideal) (View.ld x0 whole1_0) (View.ld x2 whole1_2) (ix2 q n) = _
      rw [k1_pay8_apply, e0, e2, h0, h2]
      simp [listed, used, lists0]
    · intro i j
      show k1_pay11 (F := Ideal) (ix2 i j) = _
      unfold k1_pay11
      pointwise
      simp
    · intro i j
      show k1_pay11 (F := Ideal) (ix2 i j) = _
      unfold k1_pay11
      pointwise
      simp
  · intro k st hst
    exact round1_inv h src tgt _ (fun k n => (e1 k n).trans (h1 k n)) _ _ (fun i n => (e3 i n).trans (h3 i n)) (fun i n => (e4 i n).trans (h4 i n)) k
      (by have := k.isLt; omega) st hst

end Cert.KernelIdeal.Hand
-- ==== Proof.IdealStats.lean ====
/- The second call over the extended reals, its last part: the lanes of the statistics row. -/
module

public import proofs.«01_k».proof.Proof.IdealMatched

@[expose] public section

set_option maxRecDepth 16384

noncomputable section

namespace Cert.KernelIdeal.Hand

open Cert.KernelIdeal Cert.KernelIdeal.Gen Cert.Match
open Idealize.ShloMosaic Idealize.ShloMosaic.TcCoe

/-- A lane that is compared with a number. -/
theorem lane_sel {α : Type} (l : Fin 128) (k : BitVec 32) (x y : α) (hk : k.toNat ≤ 4096) :
    Scalar.select (IntOp.cmpi .eq (BitVec.ofNat 32 l.val) k) x y = if l.val = k.toNat then x else y := by
  have e : k = BitVec.ofNat 32 k.toNat := by simp
  generalize k.toNat = c at e hk
  subst e
  exact select_nat (by have := l.isLt; omega) hk x y

theorem sum_one16 (f : Fin 16 → EReal) : (∑ _x : Fin 1, ∑ x, f x) = ∑ x, f x := by
  simp

theorem sum_row16 (v : FVec Ideal S1x1x16 .f32) : (∑ y : Fin 1, ∑ x : Fin 16, v (ix3 0 y x)) = ∑ x : Fin 16, v (ix3 0 0 x) := by
  simp

theorem named_inv15 : Named.named (F := Ideal) κ "inv15" (φ := .f32) 1032358025#32 = ((1 / 15 : ℝ) : EReal) := rfl

/-- A picked column before the fifteenth is centred, the sixteenth is zero. -/
def cent (s : Fin 3 → Fin 16 → EReal) (i : Fin 3) (j : Fin 16) : EReal :=
  if j.val < 15 then s i j - (∑ x, s i x) * ((1 / 15 : ℝ) : EReal) else 0

theorem slt15 (j : Fin 16) (x y : EReal) :
    Scalar.select (IntOp.cmpi .slt (BitVec.ofNat 32 j.val) 15#32) x y = if j.val < 15 then x else y := by
  fin_cases j <;> rfl

theorem centS_apply (s : FVec Ideal S3x16 .f32) (f : Fin 3 → Fin 16 → EReal) (hf : ∀ i j, s (ix2 i j) = f i j) (i : Fin 3) (j : Fin 16) :
    centS (F := Ideal) s (ix2 i j) = cent f i j := by
  unfold centS
  unfold_payloads
  pointwise
  rw [slt15, named_inv15]
  simp only [hf]
  rfl

theorem centT_apply (s : FVec Ideal S3x16 .f32) (f : Fin 3 → Fin 16 → EReal) (hf : ∀ i j, s (ix2 i j) = f i j) (i : Fin 3) (j : Fin 16) :
    centT (F := Ideal) s (ix2 i j) = cent f i j := by
  unfold centT
  unfold_payloads
  pointwise
  rw [slt15, named_inv15]
  simp only [hf]
  rfl

variable (p q : FVec Ideal S3x16 .f32)

/-- The sum of the products of two rows. -/
abbrev rowDot (i j : Fin 3) : EReal := ∑ x : Fin 16, p (ix2 i x) * q (ix2 j x)

theorem pay24_apply (t : FVec Ideal S3x16 .f32) (a : FVec Ideal S3x1 .f32) (b : IVec S1x16 1) (u : FVec Ideal S3x16 .f32) (d : IVec S3x16 1) (e : FVec Ideal S3x16 .f32)
    (hp : k1_pay20 (F := Ideal) u d e = p) (hq : k1_pay21 (F := Ideal) t a b = q) (l : Fin 128) :
    k1_pay24 (F := Ideal) t a b u d e (ix2 0 l) = if l.val = 1 then rowDot p q 0 1 else if l.val = 0 then rowDot p q 0 0 else 0 := by
  unfold k1_pay24
  rw [hp, hq]
  pointwise
  simp only [lane_sel, sum_one16, BitVec.reduceToNat, Nat.reduceLeDiff]

theorem pay25_apply (t : FVec Ideal S3x16 .f32) (a : FVec Ideal S3x1 .f32) (b : IVec S1x16 1) (u : FVec Ideal S3x16 .f32) (d : IVec S3x16 1) (e : FVec Ideal S3x16 .f32)
    (hp : k1_pay20 (F := Ideal) u d e = p) (hq : k1_pay21 (F := Ideal) t a b = q) (x : Fin 16) :
    k1_pay25 (F := Ideal) t a b u d e (ix3 0 0 x) = p (ix2 0 x) * q (ix2 2 x) := by
  unfold k1_pay25
  rw [hp, hq]
  pointwise

theorem pay26_apply (row : FVec Ideal S1x128 .f32) (v : FVec Ideal S1x1x16 .f32) (l : Fin 128) :
    k1_pay26 (F := Ideal) p q lane128 row v (ix2 0 l) = if l.val = 5 then rowDot p q 1 2 else if l.val = 4 then rowDot p q 1 1 else
      if l.val = 3 then rowDot p q 1 0 else if l.val = 2 then ∑ x : Fin 16, v (ix3 0 0 x) else row (ix2 0 l) := by
  unfold k1_pay26
  pointwise
  simp only [lane_sel, sum_one16, sum_row16, BitVec.reduceToNat, Nat.reduceLeDiff]

theorem pay27_apply (x : Fin 16) :
    k1_pay27 (F := Ideal) p q (ix3 0 0 x) = p (ix2 2 x) * q (ix2 0 x) := by
  unfold k1_pay27
  pointwise

theorem pay28_apply (v43 : FVec Ideal S3x1 .f32) (v47 : FVec Ideal S1x3 .f32) (row : FVec Ideal S1x128 .f32) (v : FVec Ideal S1x1x16 .f32) (l : Fin 128) :
    k1_pay28 (F := Ideal) p q v43 v47 lane128 row v (ix2 0 l) = if l.val = 12 then v47 (ix2 0 0) else if l.val = 9 then v43 (ix2 0 0) else
      if l.val = 8 then rowDot p q 2 2 else if l.val = 7 then rowDot p q 2 1 else if l.val = 6 then ∑ x : Fin 16, v (ix3 0 0 x) else row (ix2 0 l) := by
  unfold k1_pay28
  pointwise
  simp only [lane_sel, sum_one16, sum_row16, BitVec.reduceToNat, Nat.reduceLeDiff]

theorem k1_pay1_apply (v43 : FVec Ideal S3x1 .f32) (v47 : FVec Ideal S1x3 .f32) (row : FVec Ideal S1x128 .f32) (l : Fin 128) :
    k1_pay1 (F := Ideal) v43 v47 lane128 row (k1_pay29 lane128) (k1_pay30 v43) (ix3 0 0 l) =
      if l.val = 14 then v47 (ix2 0 2) else if l.val = 11 then v43 (ix2 2 0) else if l.val = 13 then v47 (ix2 0 1) else
      if l.val = 10 then v43 (ix2 1 0) else row (ix2 0 l) := by
  unfold k1_pay1 k1_pay29 k1_pay30
  pointwise
  simp only [lane_sel, BitVec.reduceToNat, Nat.reduceLeDiff]

theorem pay22_apply (s : FVec Ideal S3x2048 .f32) (i : Fin 3) :
    k1_pay22 (F := Ideal) s (ix2 i 0) = (∑ x, s (ix2 i x)) * ((1 / 2048 : ℝ) : EReal) := by
  unfold k1_pay22
  pointwise
  rw [word_inv2048]

theorem pay23_apply (s : Vec Ideal S1x1x3 .f32) (i : Fin 3) :
    k1_pay23 (F := Ideal) s (ix2 0 i) = s (ix3 0 0 i) * ((1 / 2048 : ℝ) : EReal) := by
  unfold k1_pay23
  pointwise
  rw [word_inv2048]

/-- The lanes of the statistics row: nine products, three source means, three correspondence means, zeros. -/
def lanes (M : Fin 3 → Fin 3 → EReal) (a b : Fin 3 → EReal) (l : Fin 128) : EReal :=
  if h : l.val < 9 then M ⟨l.val / 3, by omega⟩ ⟨l.val % 3, by omega⟩
  else if h : l.val < 12 then a ⟨l.val - 9, by omega⟩
  else if h : l.val < 15 then b ⟨l.val - 12, by omega⟩
  else 0

theorem centS_eq (s : FVec Ideal S3x16 .f32) : k1_pay20 (F := Ideal) (k1_pay17 s) k1_pay18 k1_pay19 = centS s := by
  unfold centS; with_reducible rfl

theorem centT_eq (t : FVec Ideal S3x16 .f32) : k1_pay21 (F := Ideal) t (k1_pay15 t) k1_pay16 = centT t := by
  unfold centT; with_reducible rfl

/-- The statistics row, lane by lane. -/
theorem statRow_apply (s t : FVec Ideal S3x16 .f32) (f g : Fin 3 → Fin 16 → EReal) (hf : ∀ i j, s (ix2 i j) = f i j) (hg : ∀ i j, t (ix2 i j) = g i j)
    (v43 : FVec Ideal S3x1 .f32) (v47 : FVec Ideal S1x3 .f32) (l : Fin 128) :
    statRow (F := Ideal) s t v43 v47 (ix3 0 0 l) =
      lanes (fun i j => ∑ x : Fin 16, cent f i x * cent g j x) (fun i => v43 (ix2 i 0)) (fun i => v47 (ix2 0 i)) l := by
  have hs := centS_eq s
  have ht := centT_eq t
  have h24 := pay24_apply (centS s) (centT t) t (k1_pay15 t) k1_pay16 (k1_pay17 s) k1_pay18 k1_pay19 hs ht
  have h25 := pay25_apply (centS s) (centT t) t (k1_pay15 t) k1_pay16 (k1_pay17 s) k1_pay18 k1_pay19 hs ht
  unfold statRow
  rw [k1_pay1_apply, pay28_apply, pay26_apply, h24]
  simp only [h25, pay27_apply, rowDot, centS_apply s f hf, centT_apply t g hg]
  unfold lanes
  obtain ⟨l, hl⟩ := l
  dsimp only
  by_cases hb : l < 15
  · interval_cases l <;> simp
  · have h1 : ¬ l < 9 := by omega
    have h2 : ¬ l < 12 := by omega
    rw [dif_neg h1, dif_neg h2, dif_neg hb]
    repeat rw [if_neg (by omega)]

end Cert.KernelIdeal.Hand
-- ==== Proof.IdealArrays.lean ====
/- The arrays that the first call leaves: each point's blocks read at an index, and what they make of the whole arrays. -/
module

public import proofs.«01_k».proof.Proof.IdealData
public import proofs.«01_k».proof.Proof.IdealStats
public import Idealize.ShloMosaic.Lib.Pipeline.ValueKit

@[expose] public section

set_option maxRecDepth 16384

noncomputable section

namespace Cert.KernelIdeal.Hand

open Cert.KernelIdeal Cert.KernelIdeal.Gen Cert.Match
open Idealize.ShloMosaic Idealize.ShloMosaic.TcCoe
open Idealize.ShloMosaic.Pipeline (Dat Cfg Window)

variable (V : (c : Dev nD) → (b : Ref sig .tc) → Buf (Elt Ideal) ((c : Thread nD τ).loc b)) (c : Dev nD)

/-- The source embeddings of one batch entry, -/
def arrA (b : Fin 8) (d : Fin 64) (n : Fin 2048) : EReal := (V c main_arg0 : S8x64x2048.Idx → EReal) (ix3 b d n)
/-- the target embeddings, -/
def arrB (b : Fin 8) (d : Fin 64) (n : Fin 2048) : EReal := (V c main_arg1 : S8x64x2048.Idx → EReal) (ix3 b d n)
/-- and the target points. -/
def arrT (b : Fin 8) (n : Fin 2048) (i : Fin 3) : EReal := (V c main_arg3 : S8x2048x3.Idx → EReal) (ix3 b n i)

/-- Where the blocks of call 0 lie. -/
theorem index0 : ∀ t : Fin cfg0.N, win0_0.index t = ![t.val / 8, 0, t.val % 8] ∧ win0_1.index t = ![t.val / 8, 0, 0] ∧ win0_2.index t = ![t.val / 8, 0, 0]
    ∧ win0_3.index t = ![t.val / 8, 0, t.val % 8] ∧ win0_4.index t = ![t.val / 8, 0, t.val % 8] ∧ win0_5.index t = ![t.val / 8, 0, t.val % 8]
    ∧ win0_6.index t = ![t.val / 8, 0, 0] :=
  (by decide +kernel : ∀ t : Fin grid0.N, _)

theorem lt64 (t : Fin cfg0.N) : t.val < 64 := lt_of_lt_of_eq t.isLt (show cfg0.N = 64 from N_0)

/-- The batch entry of a point, -/
def bat (t : Fin cfg0.N) : Fin 8 := ⟨t.val / 8, by have := lt64 t; omega⟩
/-- and the source point that a position of its tile is. -/
def pos (t : Fin cfg0.N) (n : Fin 256) : Fin 2048 := ⟨t.val % 8 * 256 + n.val, by omega⟩

theorem reads0 (t : Fin cfg0.N) : Reads (arrA V c (bat t)) (arrB V c (bat t)) (pos t) (iblk0 V c 0 t) (iblk0 V c 1 t) := by
  obtain ⟨h0, h1, -⟩ := index0 t
  constructor
  · intro d n
    unfold iblk0 arrA
    blk_ext [h0, bat, pos]
  · intro d m
    unfold iblk0 arrB
    blk_ext [h1, bat]

theorem reads0_2 (t : Fin cfg0.N) (m : Fin 2048) (i : Fin 3) : (iblk0 V c 2 t : S1x2048x3.Idx → EReal) (ix3 0 m i) = arrT V c (bat t) m i := by
  obtain ⟨-, -, h2, -⟩ := index0 t
  unfold iblk0 arrT
  blk_ext [h2, bat]

/-- The array of the largest scores. -/
theorem arr3 (hf : ∀ b, Fin2 (arrA V c b) (arrB V c b)) (b : Fin 8) (k : Fin 16) (n : Fin 2048) :
    ((dat0 V c).arrAt 3 cfg0.N : S8x16x2048.Idx → EReal) (ix3 b k n)
      = if k.val < 15 then expo (arrA V c b) (arrB V c b) n (colAt (expo (arrA V c b) (arrB V c b) n) k.val) else -1 := by
  let F : Fin 8 → Fin 16 → Fin 2048 → EReal := fun b k n =>
    if k.val < 15 then expo (arrA V c b) (arrB V c b) n (colAt (expo (arrA V c b) (arrB V c b) n) k.val) else -1
  have key : ∀ (t : Fin cfg0.N) (y : S1x16x256.Idx), ((dat0 V c).after 3 t : S1x16x256.Idx → EReal) y = F (bat t) (y 1) (pos t (y 2)) := by
    intro t y
    have ey : y = ix3 0 (y 1) (y 2) := by idx_ext
    rw [after0_3, ey]
    exact out3_apply (reads0 V c t) (hf _) (y 1) (y 2)
  refine (dat0 V c).arrAt_forall_of_covers 3 (fun (i : S8x16x2048.Idx) (v : EReal) => v = F (i 0) (i 1) (i 2))
    (by decide +kernel) (fun t hf' y => ?_) (ix3 b k n)
  obtain ⟨-, -, -, h3, -⟩ := index0 t
  have e0 : (win0_3.blk t).view.emb y 0 = bat t := by
    apply Fin.ext
    blk_simp [h3, bat]
  have e1 : ((win0_3.blk t).view.emb y 1 : Fin 16) = y 1 := by
    apply Fin.ext
    blk_simp [h3]
  have e2 : (win0_3.blk t).view.emb y 2 = pos t (y 2) := by
    apply Fin.ext
    blk_simp [h3, pos]
  refine Eq.trans ?_ ((key t y).trans (congr (congr (congrArg F e0) e1) e2).symm)
  blk_simp

/-- The array of the columns of the largest scores. -/
theorem arr4 (b : Fin 8) (k : Fin 16) (n : Fin 2048) :
    ((dat0 V c).arrAt 4 cfg0.N : S8x16x2048.Idx → BitVec 32) (ix3 b k n)
      = if k.val < 15 then BitVec.ofNat 32 (colAt (expo (arrA V c b) (arrB V c b) n) k.val).val else BitVec.ofNat 32 2048 := by
  let F : Fin 8 → Fin 16 → Fin 2048 → BitVec 32 := fun b k n =>
    if k.val < 15 then BitVec.ofNat 32 (colAt (expo (arrA V c b) (arrB V c b) n) k.val).val else BitVec.ofNat 32 2048
  have key : ∀ (t : Fin cfg0.N) (y : S1x16x256.Idx), ((dat0 V c).after 4 t : S1x16x256.Idx → BitVec 32) y = F (bat t) (y 1) (pos t (y 2)) := by
    intro t y
    have ey : y = ix3 0 (y 1) (y 2) := by idx_ext
    rw [after0_4, ey]
    exact out4_apply (reads0 V c t) (y 1) (y 2)
  refine (dat0 V c).arrAt_forall_of_covers 4 (fun (i : S8x16x2048.Idx) (v : BitVec 32) => v = F (i 0) (i 1) (i 2))
    (by decide +kernel) (fun t hf' y => ?_) (ix3 b k n)
  obtain ⟨-, -, -, -, h4, -⟩ := index0 t
  have e0 : (win0_4.blk t).view.emb y 0 = bat t := by
    apply Fin.ext
    blk_simp [h4, bat]
  have e1 : ((win0_4.blk t).view.emb y 1 : Fin 16) = y 1 := by
    apply Fin.ext
    blk_simp [h4]
  have e2 : (win0_4.blk t).view.emb y 2 = pos t (y 2) := by
    apply Fin.ext
    blk_simp [h4, pos]
  refine Eq.trans ?_ ((key t y).trans (congr (congr (congrArg F e0) e1) e2).symm)
  blk_simp

/-- The array of the row sums. -/
theorem arr5 (b : Fin 8) (n : Fin 2048) :
    ((dat0 V c).arrAt 5 cfg0.N : S8x1x2048.Idx → EReal) (ix3 b 0 n) = rowSum (arrA V c b) (arrB V c b) n := by
  let F : Fin 8 → Fin 2048 → EReal := fun b n => rowSum (arrA V c b) (arrB V c b) n
  have key : ∀ (t : Fin cfg0.N) (y : S1x1x256.Idx), ((dat0 V c).after 5 t : S1x1x256.Idx → EReal) y = F (bat t) (pos t (y 2)) := by
    intro t y
    have ey : y = ix3 0 0 (y 2) := by idx_ext
    rw [after0_5, ey]
    exact out5_apply (reads0 V c t) (y 2)
  refine (dat0 V c).arrAt_forall_of_covers 5 (fun (i : S8x1x2048.Idx) (v : EReal) => v = F (i 0) (i 2))
    (by decide +kernel) (fun t hf' y => ?_) (ix3 b 0 n)
  obtain ⟨-, -, -, -, -, h5, -⟩ := index0 t
  have e0 : (win0_5.blk t).view.emb y 0 = bat t := by
    apply Fin.ext
    blk_simp [h5, bat]
  have e2 : (win0_5.blk t).view.emb y 2 = pos t (y 2) := by
    apply Fin.ext
    blk_simp [h5, pos]
  refine Eq.trans ?_ ((key t y).trans (congr (congrArg F e0) e2).symm)
  blk_simp

/-- What one tile adds to a batch entry's weighted target points. -/
def tileSum (b : Fin 8) (q : ℕ) (i : Fin 3) : EReal :=
  ∑ n : Fin 256, Ideal.div 1 (rowSum (arrA V c b) (arrB V c b) ⟨(q % 8) * 256 + n.val, by omega⟩)
    * ∑ m, expo (arrA V c b) (arrB V c b) ⟨(q % 8) * 256 + n.val, by omega⟩ m * arrT V c b m i

theorem zero0_6_apply (l : Fin 8) : (zero0_6 (F := Ideal) : S1x1x8.Idx → EReal) (ix3 0 0 l) = 0 := by
  unfold zero0_6
  rw [View.canon_unit_zero (by funext a; fin_cases a <;> rfl)]
  unfold k0_pay10
  pointwise

theorem sums0_step (t : Fin cfg0.N) (prev : Vec Ideal S1x1x8 .f32) (i : Fin 3) :
    out0_6 (F := Ideal) prev (iblk0 V c 0 t) (iblk0 V c 1 t) (iblk0 V c 2 t) (ix3 0 0 (i.castLE (by norm_num)))
      = prev (ix3 0 0 (i.castLE (by norm_num))) + tileSum V c (bat t) (t.val % 8) i := by
  refine (out6_apply (reads0 V c t) (reads0_2 V c t) prev i).trans ?_
  unfold tileSum pos
  simp only [Nat.mod_mod]

/-- The running sums within a batch entry. -/
theorem sums0_apply (i : Fin 3) : ∀ (q : ℕ) (b : Fin 8) (hq : q < 8) (h : b.val * 8 + q < cfg0.N),
    (sums0 V c (b.val * 8 + q) h : S1x1x8.Idx → EReal) (ix3 0 0 (i.castLE (by norm_num))) = ∑ x ∈ Finset.range (q + 1), tileSum V c b x i
  | 0, b, hq, h => by
    have e := sums0_A V c ⟨b.val * 8 + 0, h⟩ (by show (b.val * 8 + 0) % 8 = 0; omega)
    have hb : bat ⟨b.val * 8 + 0, h⟩ = b := Fin.ext (by show (b.val * 8 + 0) / 8 = b.val; omega)
    have hm : (b.val * 8 + 0) % 8 = 0 := by omega
    refine (congrFun e _).trans ((sums0_step V c _ _ i).trans ?_)
    rw [hb, zero0_6_apply, zero_add, Finset.sum_range_one]
    exact congrArg (fun z => tileSum V c b z i) hm
  | q + 1, b, hq, h => by
    have e := sums0_B V c ⟨b.val * 8 + (q + 1), h⟩ (by show ¬ (b.val * 8 + (q + 1)) % 8 = 0; omega)
    have hb : bat ⟨b.val * 8 + (q + 1), h⟩ = b := Fin.ext (by show (b.val * 8 + (q + 1)) / 8 = b.val; omega)
    have hm : (b.val * 8 + (q + 1)) % 8 = q + 1 := by omega
    refine (congrFun e _).trans ((sums0_step V c _ _ i).trans ?_)
    rw [hb, Finset.sum_range_succ _ (q + 1)]
    refine congr (congrArg HAdd.hAdd ?_) (congrArg (fun z => tileSum V c b z i) hm)
    exact sums0_apply i q b (by omega) (lt_trans (by omega) h)

/-- The array of the weighted target points. -/
theorem arr6 (b : Fin 8) (i : Fin 3) :
    ((dat0 V c).arrAt 6 cfg0.N : S8x1x8.Idx → EReal) (ix3 b 0 (i.castLE (by norm_num))) = ∑ x ∈ Finset.range 8, tileSum V c b x i := by
  have key : ∀ (t : Fin cfg0.N) (y : S1x1x8.Idx) (hl : (y 2).val < 3), t.val % 8 = 7 →
      ((dat0 V c).after 6 t : S1x1x8.Idx → EReal) y = ∑ x ∈ Finset.range 8, tileSum V c (bat t) x ⟨(y 2).val, hl⟩ := by
    intro t y hl h7
    have ey : y = ix3 0 0 ((⟨(y 2).val, hl⟩ : Fin 3).castLE (by norm_num)) := by idx_ext
    have et : (bat t).val * 8 + 7 = t.val := by show t.val / 8 * 8 + 7 = t.val; omega
    rw [after0_6]
    have e := sums0_apply V c ⟨(y 2).val, hl⟩ 7 (bat t) (by norm_num) (lt_of_eq_of_lt et t.isLt)
    simp only [et] at e
    rw [← ey] at e
    exact e
  suffices H : ∀ hl : i.val < 3, ((dat0 V c).arrAt 6 cfg0.N : S8x1x8.Idx → EReal) (ix3 b 0 (i.castLE (by norm_num)))
      = ∑ x ∈ Finset.range 8, tileSum V c b x ⟨i.val, hl⟩ from H i.isLt
  refine (dat0 V c).arrAt_forall_of_covers 6 (fun (j : S8x1x8.Idx) (v : EReal) => ∀ hl : (j 2).val < 3,
      v = ∑ x ∈ Finset.range 8, tileSum V c (j 0) x ⟨(j 2).val, hl⟩)
    (by decide +kernel) (fun t hf' y => ?_) (ix3 b 0 (i.castLE (by norm_num)))
  have h7 := (flush0_6 t).1 hf'
  obtain ⟨-, -, -, -, -, -, h6⟩ := index0 t
  have e0 : (win0_6.blk t).view.emb y 0 = bat t := by
    apply Fin.ext
    blk_simp [h6, bat]
  have e2 : ((win0_6.blk t).view.emb y 2 : Fin 8).val = (y 2).val := by
    blk_simp [h6]
  intro hl
  have hl' : (y 2).val < 3 := lt_of_eq_of_lt e2.symm hl
  refine Eq.trans ?_ ((key t y hl' h7).trans ?_)
  · blk_simp
  · have e3 : (⟨((win0_6.blk t).view.emb y 2 : Fin 8).val, hl⟩ : Fin 3) = ⟨(y 2).val, hl'⟩ := Fin.ext e2
    exact (congr (congrArg (fun z w => ∑ x ∈ Finset.range 8, tileSum V c z x w) e0) e3).symm

end Cert.KernelIdeal.Hand
-- ==== Proof.IdealFinal.lean ====
/- The second call's array, from the arrays that the first call leaves. -/
module

public import proofs.«01_k».proof.Proof.IdealRun
public import proofs.«01_k».proof.Proof.IdealArrays
public import proofs.«01_k».proof.Proof.IdealMatched
public import proofs.«01_k».proof.Proof.IdealStats

@[expose] public section

set_option maxRecDepth 8000

noncomputable section

namespace Cert.KernelIdeal.Hand

open Cert.KernelIdeal Cert.KernelIdeal.Gen Cert.Match
open Idealize.ShloMosaic Idealize.ShloMosaic.TcCoe
open Idealize.SL.Sem
open Idealize.ShloMosaic.Pipeline (Dat Cfg Window)

/-- The coordinates of the picked points, zero from the fifteenth on. -/
def picked (p : ℕ → Fin 2048) (s : Fin 3 → Fin 2048 → EReal) (i : Fin 3) (j : Fin 16) : EReal := if j.val < 15 then s i (p j.val) else 0

/-- One row of the result: from the embeddings and the points of one batch entry, and the sums of weighted target points. -/
def statOf (A B : Fin 64 → Fin 2048 → EReal) (src tgt : Fin 3 → Fin 2048 → EReal) (w : Fin 3 → EReal) (l : Fin 128) : EReal :=
  lanes (fun i j => ∑ x : Fin 16, cent (picked (fun k => (pick (prob A B) k).1) src) i x * cent (picked (fun k => (pick (prob A B) k).2) tgt) j x)
    (fun i => (∑ n, src i n) * ((1 / 2048 : ℝ) : EReal)) (fun i => w i * ((1 / 2048 : ℝ) : EReal)) l

theorem out1_6_apply {A B : Fin 64 → Fin 2048 → EReal} (h : Fin2 A B) (src tgt : Fin 3 → Fin 2048 → EReal) (w : Fin 3 → EReal)
    (x0 : Vec Ideal S1x16x2048 .f32) (x1 : Vec Ideal S1x16x2048 .i32) (x2 : Vec Ideal S1x1x2048 .f32) (x3 x4 : Vec Ideal S1x3x2048 .f32) (x5 : Vec Ideal S1x1x8 .f32)
    (h0 : ∀ (k : Fin 16) n, x0 (ix3 0 k n) = if k.val < 15 then expo A B n (colAt (expo A B n) k.val) else -1)
    (h1 : ∀ k n, x1 (ix3 0 k n) = BitVec.ofNat 32 (colOf (cols A B) k n)) (h2 : ∀ n, x2 (ix3 0 0 n) = rowSum A B n)
    (h3 : ∀ i n, x3 (ix3 0 i n) = src i n) (h4 : ∀ i n, x4 (ix3 0 i n) = tgt i n)
    (h5 : ∀ i : Fin 3, x5 (ix3 0 0 (i.castLE (by norm_num))) = w i) (l : Fin 128) :
    out1_6 (F := Ideal) x0 x1 x2 x3 x4 x5 (ix3 0 0 l) = statOf A B src tgt w l := by
  obtain ⟨-, hs, ht⟩ := matched1_inv h src tgt x0 x1 x2 x3 x4 h0 h1 h2 h3 h4
  unfold out1_6
  rw [View.canon_unit_zero (by funext a; fin_cases a <;> rfl)]
  refine (statRow_apply _ _ (picked (fun k => (pick (prob A B) k).1) src) (picked (fun k => (pick (prob A B) k).2) tgt) hs ht _ _ l).trans ?_
  have e3 : ∀ i n, View.ld x3 whole1_3 (ix3 0 i n) = src i n := by
    intro i n
    rw [← h3]
    pointwise
  have e5 : ∀ i : Fin 3, View.ld x5 lanes1_5 (ix3 0 0 i) = w i := by
    intro i
    rw [← h5]
    pointwise
    try rfl
  unfold statOf
  have ea : ∀ i : Fin 3, k1_pay22 (F := Ideal) (k1_pay10 (View.ld x3 whole1_3)) (ix2 i 0) = (∑ n, src i n) * ((1 / 2048 : ℝ) : EReal) := by
    intro i
    rw [pay22_apply]
    simp only [pay10_apply, e3]
  have eb : ∀ i : Fin 3, k1_pay23 (F := Ideal) (View.ld x5 lanes1_5) (ix2 0 i) = w i * ((1 / 2048 : ℝ) : EReal) := by
    intro i
    rw [pay23_apply, e5]
  simp only [ea, eb]

section
variable (V : (c : Dev nD) → (b : Ref sig .tc) → Buf (Elt Ideal) ((c : Thread nD τ).loc b)) (c : Dev nD)

theorem index1 : ∀ t : Fin cfg1.N, win1_0.index t = ![t.val, 0, 0] ∧ win1_1.index t = ![t.val, 0, 0] ∧ win1_2.index t = ![t.val, 0, 0]
    ∧ win1_3.index t = ![t.val, 0, 0] ∧ win1_4.index t = ![t.val, 0, 0] ∧ win1_5.index t = ![t.val, 0, 0] ∧ win1_6.index t = ![t.val, 0, 0] :=
  (by decide +kernel : ∀ t : Fin grid1.N, _)

/-- The batch entry of a point. -/
def bat1 (t : Fin cfg1.N) : Fin 8 := ⟨t.val, lt_of_lt_of_eq t.isLt (show cfg1.N = 8 from N_1)⟩

theorem read1_0 (t : Fin cfg1.N) (k : Fin 16) (n : Fin 2048) :
    (iblk1 V c 0 t : S1x16x2048.Idx → EReal) (ix3 0 k n) = (V c main_v2_0 : S8x16x2048.Idx → EReal) (ix3 (bat1 t) k n) := by
  have h := (index1 t).1
  unfold iblk1
  blk_ext [h, bat1]
theorem read1_1 (t : Fin cfg1.N) (k : Fin 16) (n : Fin 2048) :
    (iblk1 V c 1 t : S1x16x2048.Idx → BitVec 32) (ix3 0 k n) = (V c main_v2_1 : S8x16x2048.Idx → BitVec 32) (ix3 (bat1 t) k n) := by
  have h := (index1 t).2.1
  unfold iblk1
  blk_ext [h, bat1]
theorem read1_2 (t : Fin cfg1.N) (n : Fin 2048) :
    (iblk1 V c 2 t : S1x1x2048.Idx → EReal) (ix3 0 0 n) = (V c main_v2_2 : S8x1x2048.Idx → EReal) (ix3 (bat1 t) 0 n) := by
  have h := (index1 t).2.2.1
  unfold iblk1
  blk_ext [h, bat1]
theorem read1_3 (t : Fin cfg1.N) (i : Fin 3) (n : Fin 2048) :
    (iblk1 V c 3 t : S1x3x2048.Idx → EReal) (ix3 0 i n) = (V c main_v0 : S8x3x2048.Idx → EReal) (ix3 (bat1 t) i n) := by
  have h := (index1 t).2.2.2.1
  unfold iblk1
  blk_ext [h, bat1]
theorem read1_4 (t : Fin cfg1.N) (i : Fin 3) (n : Fin 2048) :
    (iblk1 V c 4 t : S1x3x2048.Idx → EReal) (ix3 0 i n) = (V c main_v1 : S8x3x2048.Idx → EReal) (ix3 (bat1 t) i n) := by
  have h := (index1 t).2.2.2.2.1
  unfold iblk1
  blk_ext [h, bat1]
theorem read1_5 (t : Fin cfg1.N) (l : Fin 8) :
    (iblk1 V c 5 t : S1x1x8.Idx → EReal) (ix3 0 0 l) = (V c main_v2_3 : S8x1x8.Idx → EReal) (ix3 (bat1 t) 0 l) := by
  have h := (index1 t).2.2.2.2.2.1
  unfold iblk1
  blk_ext [h, bat1]

/-- What the second call leaves in its array. -/
theorem arr1_6 (F : Fin 8 → Fin 128 → EReal)
    (key0 : ∀ (t : Fin cfg1.N) (l : Fin 128), out1_6 (F := Ideal) (iblk1 V c 0 t) (iblk1 V c 1 t) (iblk1 V c 2 t) (iblk1 V c 3 t) (iblk1 V c 4 t) (iblk1 V c 5 t) (ix3 0 0 l) = F (bat1 t) l)
    (b : Fin 8) (l : Fin 128) : ((dat1 V c).arrAt 6 cfg1.N : S8x1x128.Idx → EReal) (ix3 b 0 l) = F b l := by
  have key : ∀ (t : Fin cfg1.N) (y : S1x1x128.Idx), ((dat1 V c).after 6 t : S1x1x128.Idx → EReal) y = F (bat1 t) (y 2) := by
    intro t y
    have ey : y = ix3 0 0 (y 2) := by idx_ext
    rw [after1_6, ey]
    exact key0 t (y 2)
  refine (dat1 V c).arrAt_forall_of_covers 6 (fun (i : S8x1x128.Idx) (v : EReal) => v = F (i 0) (i 2))
    (by decide +kernel) (fun t hf' y => ?_) (ix3 b 0 l)
  have h6 := (index1 t).2.2.2.2.2.2
  have e0 : (win1_6.blk t).view.emb y 0 = bat1 t := by
    apply Fin.ext
    blk_simp [h6, bat1]
  have e2 : ((win1_6.blk t).view.emb y 2 : Fin 128) = y 2 := by
    apply Fin.ext
    blk_simp [h6]
  refine Eq.trans ?_ ((key t y).trans (congr (congrArg F e0) e2).symm)
  blk_simp
end

end Cert.KernelIdeal.Hand
-- ==== Proof.StatAlg.lean ====
/- The row of the result that the kernel computes is the one that the mathematics states. -/
module

public import proofs.«01_k».proof.Proof.StatRef
public import proofs.«01_k».proof.Proof.IdealFinal

@[expose] public section

noncomputable section

namespace Cert.KernelIdeal.Hand

open Cert.KernelIdeal Cert.KernelIdeal.Gen Cert.Match
open Idealize.ShloMosaic

/-- The weighted target points of a source point. -/
def weigh (A B : Fin 64 → Fin 2048 → EReal) (tgt : Fin 3 → Fin 2048 → EReal) (i : Fin 3) (n : Fin 2048) : EReal :=
  Ideal.div 1 (rowSum A B n) * ∑ m, expo A B n m * tgt i m

theorem weigh_eq {A B : Fin 64 → Fin 2048 → EReal} (h : Fin2 A B) (tgt : Fin 3 → Fin 2048 → EReal) (i : Fin 3) (n : Fin 2048) :
    weigh A B tgt i n = ∑ m, tgt i m * prob A B n m := by
  obtain ⟨r, hr, h1, -, hp⟩ := prob_scale h n
  unfold weigh
  rw [h1, coe_mul_sum _ r hr.le]
  refine Finset.sum_congr rfl fun m _ => ?_
  rw [hp, ← mul_assoc, mul_comm]

theorem sum_tiles (f : Fin 2048 → EReal) :
    ∑ x ∈ Finset.range 8, ∑ n : Fin 256, f ⟨(x % 8) * 256 + n.val, by omega⟩ = ∑ n, f n := by
  rw [Finset.sum_range, Fin.sum_univ_tiles 8 256 (by norm_num) f]
  refine Finset.sum_congr rfl fun x _ => Finset.sum_congr rfl fun n _ => congrArg f (Fin.ext ?_)
  show (x.val % 8) * 256 + n.val = _
  have := x.isLt
  try simp
  try omega

theorem cent_picked (p : ℕ → Fin 2048) (s : Fin 3 → Fin 2048 → EReal) (i : Fin 3) (k : Fin 15) :
    cent (picked p s) i k.castSucc = offMeanAt (fun k => s i (p k.val)) k := by
  have hk : ∀ k : Fin 15, k.castSucc.val < 15 := fun k => k.isLt
  have hS : ∑ x, picked p s i x = ∑ x : Fin 15, s i (p x.val) := by
    rw [Fin.sum_univ_castSucc]
    have h0 : picked p s i (Fin.last 15) = 0 := if_neg (by decide)
    rw [h0, add_zero]
    exact Finset.sum_congr rfl fun x _ => if_pos (hk x)
  unfold cent offMeanAt
  rw [if_pos (hk k), hS]
  exact congrArg (· - _) (if_pos (hk k))

theorem cent_last (f : Fin 3 → Fin 16 → EReal) (i : Fin 3) : cent f i (Fin.last 15) = 0 := if_neg (by decide)

/-- The kernel's row is the reference's. -/
theorem statOf_eq {A B : Fin 64 → Fin 2048 → EReal} (h : Fin2 A B) (src tgt : Fin 3 → Fin 2048 → EReal) (w : Fin 3 → EReal)
    (hw : ∀ i, w i = ∑ x ∈ Finset.range 8, ∑ n : Fin 256, weigh A B tgt i ⟨(x % 8) * 256 + n.val, by omega⟩) (l : Fin 128) :
    statOf A B src tgt w l = refOf A B src tgt l := by
  unfold statOf lanes refOf
  split_ifs with h1 h2 h3
  · beta_reduce
    refine (Fin.sum_univ_castSucc _).trans ?_
    rw [cent_last, zero_mul, add_zero]
    refine Finset.sum_congr rfl fun k _ => ?_
    rw [cent_picked, cent_picked]
  · rfl
  · beta_reduce
    rw [hw, sum_tiles]
    simp only [weigh_eq h]
  · rfl

end Cert.KernelIdeal.Hand
-- ==== Proof.KernFinal.lean ====
/- The kernel's result at every index. -/
module

public import proofs.«01_k».proof.Proof.StatAlg
public import Idealize.ShloMosaic.Lib.StableHlo.RunRead

@[expose] public section

set_option maxRecDepth 8000

noncomputable section

namespace Cert.KernelIdeal.Hand

open Cert.KernelIdeal Cert.KernelIdeal.Gen Cert.Match
open Idealize.ShloMosaic Idealize.ShloMosaic.TcCoe
open Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-- The source embeddings of batch entry `b`, -/
def embA (b : Fin 8) (d : Fin 64) (n : Fin 2048) : EReal := (m ((c : Thread nD τ).loc main_arg0) : S8x64x2048.Idx → EReal) (ix3 b d n)
/-- its target embeddings, -/
def embB (b : Fin 8) (d : Fin 64) (n : Fin 2048) : EReal := (m ((c : Thread nD τ).loc main_arg1) : S8x64x2048.Idx → EReal) (ix3 b d n)
/-- the coordinates of its source points -/
def srcP (b : Fin 8) (i : Fin 3) (n : Fin 2048) : EReal := (m ((c : Thread nD τ).loc main_arg2) : S8x2048x3.Idx → EReal) (ix3 b n i)
/-- and of its target points. -/
def tgtP (b : Fin 8) (i : Fin 3) (n : Fin 2048) : EReal := (m ((c : Thread nD τ).loc main_arg3) : S8x2048x3.Idx → EReal) (ix3 b n i)

theorem arrA_eq (b : Fin 8) : arrA (V1 m ρ) c b = embA m c b := by
  funext d n
  exact congrFun (W1_args m ρ c main_arg0 (by decide)) (ix3 b d n)
theorem arrB_eq (b : Fin 8) : arrB (V1 m ρ) c b = embB m c b := by
  funext d n
  exact congrFun (W1_args m ρ c main_arg1 (by decide)) (ix3 b d n)
theorem arrT_eq (b : Fin 8) (n : Fin 2048) (i : Fin 3) : arrT (V1 m ρ) c b n i = tgtP m c b i n :=
  congrFun (W1_args m ρ c main_arg3 (by decide)) (ix3 b n i)

theorem host_v0 (X : Valuation τ sig (Elt Ideal)) (b : Fin 8) (i : Fin 3) (n : Fin 2048) :
    (after hostOps0 X (Proc.devRef .tc main_v0) : S8x3x2048.Idx → EReal) (ix3 b i n) = (X (Proc.devRef .tc main_arg2) : S8x2048x3.Idx → EReal) (ix3 b n i) := by
  after_reads_simp
  pointwise
theorem host_v1 (X : Valuation τ sig (Elt Ideal)) (b : Fin 8) (i : Fin 3) (n : Fin 2048) :
    (after hostOps0 X (Proc.devRef .tc main_v1) : S8x3x2048.Idx → EReal) (ix3 b i n) = (X (Proc.devRef .tc main_arg3) : S8x2048x3.Idx → EReal) (ix3 b n i) := by
  after_reads_simp
  pointwise

theorem in_v0 (b : Fin 8) (i : Fin 3) (n : Fin 2048) : (V2 m ρ c main_v0 : S8x3x2048.Idx → EReal) (ix3 b i n) = srcP m c b i n :=
  (congrFun (W2_of m ρ c main_v0 (by decide +kernel)) _).trans (host_v0 (W0 m ρ c) b i n)
theorem in_v1 (b : Fin 8) (i : Fin 3) (n : Fin 2048) : (V2 m ρ c main_v1 : S8x3x2048.Idx → EReal) (ix3 b i n) = tgtP m c b i n :=
  (congrFun (W2_of m ρ c main_v1 (by decide +kernel)) _).trans (host_v1 (W0 m ρ c) b i n)

theorem in_2_0 (hf : ∀ b, Fin2 (embA m c b) (embB m c b)) (b : Fin 8) (k : Fin 16) (n : Fin 2048) :
    (V2 m ρ c main_v2_0 : S8x16x2048.Idx → EReal) (ix3 b k n)
      = if k.val < 15 then expo (embA m c b) (embB m c b) n (colAt (expo (embA m c b) (embB m c b) n) k.val) else -1 := by
  have hf' : ∀ b, Fin2 (arrA (V1 m ρ) c b) (arrB (V1 m ρ) c b) := fun b => by rw [arrA_eq, arrB_eq]; exact hf b
  refine (congrFun (hF0 m ρ c 3).symm _).trans ((arr3 (V1 m ρ) c hf' b k n).trans ?_)
  rw [arrA_eq, arrB_eq]
theorem in_2_1 (b : Fin 8) (k : Fin 16) (n : Fin 2048) :
    (V2 m ρ c main_v2_1 : S8x16x2048.Idx → BitVec 32) (ix3 b k n)
      = BitVec.ofNat 32 (colOf (cols (embA m c b) (embB m c b)) k n) := by
  refine (congrFun (hF0 m ρ c 4).symm _).trans ((arr4 (V1 m ρ) c b k n).trans ?_)
  rw [arrA_eq, arrB_eq]
  unfold colOf
  split_ifs <;> rfl
theorem in_2_2 (b : Fin 8) (n : Fin 2048) :
    (V2 m ρ c main_v2_2 : S8x1x2048.Idx → EReal) (ix3 b 0 n) = rowSum (embA m c b) (embB m c b) n := by
  refine (congrFun (hF0 m ρ c 5).symm _).trans ((arr5 (V1 m ρ) c b n).trans ?_)
  rw [arrA_eq, arrB_eq]
theorem in_2_3 (b : Fin 8) (i : Fin 3) :
    (V2 m ρ c main_v2_3 : S8x1x8.Idx → EReal) (ix3 b 0 (i.castLE (by norm_num)))
      = ∑ x ∈ Finset.range 8, ∑ n : Fin 256, weigh (embA m c b) (embB m c b) (tgtP m c b) i ⟨(x % 8) * 256 + n.val, by omega⟩ := by
  refine (congrFun (hF0 m ρ c 6).symm _).trans ((arr6 (V1 m ρ) c b i).trans ?_)
  unfold tileSum weigh
  simp only [arrA_eq, arrB_eq, arrT_eq]

/-- The kernel's result. -/
theorem value (hf : ∀ b, Fin2 (embA m c b) (embB m c b)) (b : Fin 8) (l : Fin 128) :
    ((dat1 (V2 m ρ) c).arrAt 6 cfg1.N : S8x1x128.Idx → EReal) (ix3 b 0 l)
      = refOf (embA m c b) (embB m c b) (srcP m c b) (tgtP m c b) l := by
  refine arr1_6 (V2 m ρ) c (fun b l => refOf (embA m c b) (embB m c b) (srcP m c b) (tgtP m c b) l) (fun t l => ?_) b l
  refine (out1_6_apply (hf (bat1 t)) (srcP m c (bat1 t)) (tgtP m c (bat1 t))
    (fun i => ∑ x ∈ Finset.range 8, ∑ n : Fin 256, weigh (embA m c (bat1 t)) (embB m c (bat1 t)) (tgtP m c (bat1 t)) i ⟨(x % 8) * 256 + n.val, by omega⟩)
    _ _ _ _ _ _ (fun k n => (read1_0 (V2 m ρ) c t k n).trans (in_2_0 m ρ c hf _ k n)) (fun k n => (read1_1 (V2 m ρ) c t k n).trans (in_2_1 m ρ c _ k n))
    (fun n => (read1_2 (V2 m ρ) c t n).trans (in_2_2 m ρ c _ n)) (fun i n => (read1_3 (V2 m ρ) c t i n).trans (in_v0 m ρ c _ i n))
    (fun i n => (read1_4 (V2 m ρ) c t i n).trans (in_v1 m ρ c _ i n)) (fun i => (read1_5 (V2 m ρ) c t _).trans (in_2_3 m ρ c _ i)) l).trans ?_
  exact statOf_eq (hf _) _ _ _ (fun _ => rfl) l

end Cert.KernelIdeal.Hand
-- ==== Proof.TurnRun.lean ====
/- The third call's array after its run, as one function of its argument. -/
module

public import proofs.«01_k».proof.Proof.Gen.RotationIdeal.Value
public import Idealize.ShloMosaic.Lib.Pointwise
public import Idealize.ShloMosaic.Lib.Pipeline.ValueKit

@[expose] public section

set_option maxRecDepth 16384

noncomputable section

namespace Cert.RotationIdeal.Hand

open Cert.RotationIdeal Cert.RotationIdeal.Gen
open Idealize.ShloMosaic Idealize.ShloMosaic.TcCoe
open Idealize.SL.Sem
open Idealize.ShloMosaic.Pipeline (Dat Cfg Window)

variable {F : FTy → Type} [FloatOps F]

/-- One number for each batch entry. -/
abbrev Col (F : FTy → Type) [FloatOps F] := FVec F S8x1 .f32

/-- One step of the iteration on the quaternion. -/
def trip (x : Vec F S8x1x128 .f32) (a : Col F × Col F × Col F × Col F) : Col F × Col F × Col F × Col F :=
  (k0_pay34 (k0_pay13 x) (k0_pay14 x) (k0_pay15 x) (k0_pay17 x) (k0_pay18 x) (k0_pay19 x) (k0_pay20 x) (k0_pay21 x) (k0_pay22 x) (k0_pay23 x) (k0_pay24 x) a.1 a.2.1 a.2.2.1 a.2.2.2,
    k0_pay35 (k0_pay13 x) (k0_pay14 x) (k0_pay15 x) (k0_pay17 x) (k0_pay18 x) (k0_pay19 x) (k0_pay20 x) (k0_pay21 x) (k0_pay22 x) (k0_pay23 x) (k0_pay24 x) a.1 a.2.1 a.2.2.1 a.2.2.2,
    k0_pay36 (k0_pay13 x) (k0_pay14 x) (k0_pay15 x) (k0_pay17 x) (k0_pay18 x) (k0_pay19 x) (k0_pay20 x) (k0_pay21 x) (k0_pay22 x) (k0_pay23 x) (k0_pay24 x) a.1 a.2.1 a.2.2.1 a.2.2.2,
    k0_pay37 (k0_pay13 x) (k0_pay14 x) (k0_pay15 x) (k0_pay17 x) (k0_pay18 x) (k0_pay19 x) (k0_pay20 x) (k0_pay21 x) (k0_pay22 x) (k0_pay23 x) (k0_pay24 x) a.1 a.2.1 a.2.2.1 a.2.2.2)

/-- The quaternion after all the steps. -/
def turned (x : Vec F S8x1x128 .f32) : Col F × Col F × Col F × Col F :=
  Scf.fold (fun (_ : Fin k0_t1_loop.trips) a => trip x a) (k0_pay25, k0_pay26, k0_pay27, k0_pay28)

/-- The array that the call makes of its argument and a quaternion: the matrix, then the translation. -/
def laidOut (x : Vec F S8x1x128 .f32) (q0 q1 q2 q3 : Col F) : FVec F S8x1x128 .f32 :=
  k0_pay1 (k0_pay55 (k0_pay40 q0 q1 q2 q3) (k0_pay41 q0 q1 q2 q3) (k0_pay42 q0 q1 q2 q3) (k0_pay43 q0 q1 q2 q3) (k0_pay44 q0 q1 q2 q3)
    (k0_pay46 q0 q1 (k0_pay45 q2 q3)) (k0_pay47 q0 q1 q2 q3)
    (k0_pay51 (k0_pay2 x) (k0_pay38 q0 q1 q2 q3) (k0_pay39 q0 q1 q2 q3) (k0_pay40 q0 q1 q2 q3))
    (k0_pay52 (k0_pay2 x) (k0_pay41 q0 q1 q2 q3) (k0_pay42 q0 q1 q2 q3) (k0_pay43 q0 q1 q2 q3))
    (k0_pay53 (k0_pay2 x) q0 q1 q2 q3 (k0_pay44 q0 q1 q2 q3) (k0_pay45 q2 q3))
    (iota .tc S8x128 32 [1] iota_S8x128_d1_w32) (k0_pay54 (k0_pay38 q0 q1 q2 q3) (k0_pay39 q0 q1 q2 q3)))

/-- What the body leaves in the output's buffer. -/
def made (x : Vec F S8x1x128 .f32) : FVec F S8x1x128 .f32 :=
  laidOut x (turned x).1 (turned x).2.1 (turned x).2.2.1 (turned x).2.2.2

/-- The body's run leaves `made` of its argument in the output's buffer. -/
theorem out_eq (c : Dev nD) (i : grid0.Coords) (arg1 : Memref sig .tc .vmem S8x1x128 .f32) (harg1 : arg1.IsWhole) (arg2 : Memref sig .tc .vmem S8x1x128 .f32) (harg2 : arg2.IsWhole)
    (x0 : Vec F S8x1x128 .f32) : out0_A_1 c i arg1 harg1 arg2 harg2 x0 = made x0 := by
  unfold out0_A_1
  rw [View.read_writes_eq_canon _ _ _ (cover0_A_1 c i arg1 harg1 arg2 harg2 x0)]
  unfold kernelRun0_A
  dsimp only
  rw [View.canon_unit_zero (by funext a; fin_cases a <;> rfl)]
  have e : View.readAt (Elt F) arg1.view (Rect.unit ![0, 0, 0] S8x1x128.size inb_S8x1x128_S8x1x128_0_0_0).toLoadRect (harg1.unread x0) = x0 := by
    rw [View.readAt_eq_ld, harg1.read_unread]
    funext y
    refine Eq.trans (b := x0 (ix3 (y 0) 0 (y 2))) (by pointwise) (congrArg x0 ?_)
    idx_ext
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.v142, e]
  rfl

section
variable (m : (ℓ : Loc nD τ sig) → Buf (Elt F) ℓ) (c : Dev nD)

/-- Both windows stand at the origin at every grid point. -/
theorem index0 : ∀ t : Fin cfg0.N, win0_0.index t = ![0, 0, 0] ∧ win0_1.index t = ![0, 0, 0] :=
  (by decide +kernel : ∀ t : Fin grid0.N, _)

/-- The argument's block is the whole argument. -/
theorem read0 (t : Fin cfg0.N) : (iblk m c 0 t : Vec F S8x1x128 .f32) = (m ((c : Thread nD τ).loc main_arg0) : Vec F S8x1x128 .f32) := by
  have h := (index0 t).1
  unfold iblk
  funext y
  blk_ext [h]

/-- What the call leaves in its array. -/
theorem arr : ((dats m 0 c).arrAt 1 cfg0.N : Vec F S8x1x128 .f32) = made (m ((c : Thread nD τ).loc main_arg0) : Vec F S8x1x128 .f32) := by
  have key : ∀ (t : Fin cfg0.N), (dats m 0 c).after 1 t = made (m ((c : Thread nD τ).loc main_arg0) : Vec F S8x1x128 .f32) := by
    intro t
    rw [after0_1]
    unfold outsAt0
    rw [out_eq, read0]
  funext i
  refine (dats m 0 c).arrAt_forall_of_covers 1 (fun (i : S8x1x128.Idx) (v : Elt F .f32) => v = made (m ((c : Thread nD τ).loc main_arg0) : Vec F S8x1x128 .f32) i)
    (by decide +kernel) (fun t hf' y => ?_) i
  have h := (index0 t).2
  refine Eq.trans ?_ ((congrFun (key t) y).trans (congrArg (made (m ((c : Thread nD τ).loc main_arg0) : Vec F S8x1x128 .f32)) ?_))
  · blk_simp
  · blk_ext [h]
end

end Cert.RotationIdeal.Hand
-- ==== Proof.TurnRead.lean ====
/- The third call's array read at its lanes: the matrix of the quaternion, and the translation. -/
module

public import proofs.«01_k».proof.Proof.TurnRun
public import proofs.«01_k».proof.Post_translation

@[expose] public section

set_option maxRecDepth 16384

noncomputable section

namespace Cert.RotationIdeal.Hand

open Cert.RotationIdeal Cert.RotationIdeal.Gen
open Idealize.ShloMosaic Idealize.ShloMosaic.TcCoe

/-- The program's number two. -/
abbrev two : EReal := Ideal.ofBits .f32 0x40000000#32

/-- The matrix that belongs to a quaternion, entry by entry. -/
def turn (q0 q1 q2 q3 : EReal) : Fin 3 → Fin 3 → EReal :=
  ![![q0 * q0 + q1 * q1 - q2 * q2 - q3 * q3, two * (q1 * q2 - q0 * q3), two * (q1 * q3 + q0 * q2)],
    ![two * (q2 * q1 + q0 * q3), q0 * q0 - q1 * q1 + q2 * q2 - q3 * q3, two * (q2 * q3 - q0 * q1)],
    ![two * (q3 * q1 - q0 * q2), two * (q3 * q2 + q0 * q1), q0 * q0 - q1 * q1 - q2 * q2 + q3 * q3]]

/-- A choice by an equality of words. -/
theorem pick {α : Type} (a b : BitVec 32) (u v : α) : Scalar.select (IntOp.cmpi .eq a b) u v = if a = b then u else v := by
  unfold Scalar.select IntOp.cmpi
  by_cases h : a = b
  · subst h; simp
  · simp [h, beq_eq_false_iff_ne.mpr h]

variable (x : Vec Ideal S8x1x128 .f32) (q0 q1 q2 q3 : Col Ideal) (b : Fin 8)

/-- Entry (0, 0) of the matrix is in lane 0. -/
theorem lane0 : (laidOut x q0 q1 q2 q3 : S8x1x128.Idx → EReal) (ix3 b 0 0) = turn (q0 (ix2 b 0)) (q1 (ix2 b 0)) (q2 (ix2 b 0)) (q3 (ix2 b 0)) 0 0 := by
  unfold laidOut turn
  pointwise [k0_pay1, k0_pay55, k0_pay54, k0_pay38, k0_pay39, k0_pay40, k0_pay41, k0_pay42, k0_pay43, k0_pay44, k0_pay45, k0_pay46, k0_pay47]
  simp [pick]
/-- Entry (0, 1) of the matrix is in lane 1. -/
theorem lane1 : (laidOut x q0 q1 q2 q3 : S8x1x128.Idx → EReal) (ix3 b 0 1) = turn (q0 (ix2 b 0)) (q1 (ix2 b 0)) (q2 (ix2 b 0)) (q3 (ix2 b 0)) 0 1 := by
  unfold laidOut turn
  pointwise [k0_pay1, k0_pay55, k0_pay54, k0_pay38, k0_pay39, k0_pay40, k0_pay41, k0_pay42, k0_pay43, k0_pay44, k0_pay45, k0_pay46, k0_pay47]
  simp [pick]
/-- Entry (0, 2) of the matrix is in lane 2. -/
theorem lane2 : (laidOut x q0 q1 q2 q3 : S8x1x128.Idx → EReal) (ix3 b 0 2) = turn (q0 (ix2 b 0)) (q1 (ix2 b 0)) (q2 (ix2 b 0)) (q3 (ix2 b 0)) 0 2 := by
  unfold laidOut turn
  pointwise [k0_pay1, k0_pay55, k0_pay54, k0_pay38, k0_pay39, k0_pay40, k0_pay41, k0_pay42, k0_pay43, k0_pay44, k0_pay45, k0_pay46, k0_pay47]
  simp [pick]
/-- Entry (1, 0) of the matrix is in lane 3. -/
theorem lane3 : (laidOut x q0 q1 q2 q3 : S8x1x128.Idx → EReal) (ix3 b 0 3) = turn (q0 (ix2 b 0)) (q1 (ix2 b 0)) (q2 (ix2 b 0)) (q3 (ix2 b 0)) 1 0 := by
  unfold laidOut turn
  pointwise [k0_pay1, k0_pay55, k0_pay54, k0_pay38, k0_pay39, k0_pay40, k0_pay41, k0_pay42, k0_pay43, k0_pay44, k0_pay45, k0_pay46, k0_pay47]
  simp [pick]
/-- Entry (1, 1) of the matrix is in lane 4. -/
theorem lane4 : (laidOut x q0 q1 q2 q3 : S8x1x128.Idx → EReal) (ix3 b 0 4) = turn (q0 (ix2 b 0)) (q1 (ix2 b 0)) (q2 (ix2 b 0)) (q3 (ix2 b 0)) 1 1 := by
  unfold laidOut turn
  pointwise [k0_pay1, k0_pay55, k0_pay54, k0_pay38, k0_pay39, k0_pay40, k0_pay41, k0_pay42, k0_pay43, k0_pay44, k0_pay45, k0_pay46, k0_pay47]
  simp [pick]
/-- Entry (1, 2) of the matrix is in lane 5. -/
theorem lane5 : (laidOut x q0 q1 q2 q3 : S8x1x128.Idx → EReal) (ix3 b 0 5) = turn (q0 (ix2 b 0)) (q1 (ix2 b 0)) (q2 (ix2 b 0)) (q3 (ix2 b 0)) 1 2 := by
  unfold laidOut turn
  pointwise [k0_pay1, k0_pay55, k0_pay54, k0_pay38, k0_pay39, k0_pay40, k0_pay41, k0_pay42, k0_pay43, k0_pay44, k0_pay45, k0_pay46, k0_pay47]
  simp [pick]
/-- Entry (2, 0) of the matrix is in lane 6. -/
theorem lane6 : (laidOut x q0 q1 q2 q3 : S8x1x128.Idx → EReal) (ix3 b 0 6) = turn (q0 (ix2 b 0)) (q1 (ix2 b 0)) (q2 (ix2 b 0)) (q3 (ix2 b 0)) 2 0 := by
  unfold laidOut turn
  pointwise [k0_pay1, k0_pay55, k0_pay54, k0_pay38, k0_pay39, k0_pay40, k0_pay41, k0_pay42, k0_pay43, k0_pay44, k0_pay45, k0_pay46, k0_pay47]
  simp [pick]
/-- Entry (2, 1) of the matrix is in lane 7. -/
theorem lane7 : (laidOut x q0 q1 q2 q3 : S8x1x128.Idx → EReal) (ix3 b 0 7) = turn (q0 (ix2 b 0)) (q1 (ix2 b 0)) (q2 (ix2 b 0)) (q3 (ix2 b 0)) 2 1 := by
  unfold laidOut turn
  pointwise [k0_pay1, k0_pay55, k0_pay54, k0_pay38, k0_pay39, k0_pay40, k0_pay41, k0_pay42, k0_pay43, k0_pay44, k0_pay45, k0_pay46, k0_pay47]
  simp [pick]
/-- Entry (2, 2) of the matrix is in lane 8. -/
theorem lane8 : (laidOut x q0 q1 q2 q3 : S8x1x128.Idx → EReal) (ix3 b 0 8) = turn (q0 (ix2 b 0)) (q1 (ix2 b 0)) (q2 (ix2 b 0)) (q3 (ix2 b 0)) 2 2 := by
  unfold laidOut turn
  pointwise [k0_pay1, k0_pay55, k0_pay54, k0_pay38, k0_pay39, k0_pay40, k0_pay41, k0_pay42, k0_pay43, k0_pay44, k0_pay45, k0_pay46, k0_pay47]
  simp [pick]
/-- Entry 0 of the translation is in lane 9. -/
theorem lane9 : (laidOut x q0 q1 q2 q3 : S8x1x128.Idx → EReal) (ix3 b 0 9) = -(turn (q0 (ix2 b 0)) (q1 (ix2 b 0)) (q2 (ix2 b 0)) (q3 (ix2 b 0)) 0 0 * (x : S8x1x128.Idx → EReal) (ix3 b 0 9) + turn (q0 (ix2 b 0)) (q1 (ix2 b 0)) (q2 (ix2 b 0)) (q3 (ix2 b 0)) 0 1 * (x : S8x1x128.Idx → EReal) (ix3 b 0 10) + turn (q0 (ix2 b 0)) (q1 (ix2 b 0)) (q2 (ix2 b 0)) (q3 (ix2 b 0)) 0 2 * (x : S8x1x128.Idx → EReal) (ix3 b 0 11)) + (x : S8x1x128.Idx → EReal) (ix3 b 0 12) := by
  unfold laidOut turn
  pointwise [k0_pay1, k0_pay2, k0_pay55, k0_pay54, k0_pay38, k0_pay39, k0_pay40, k0_pay41, k0_pay42, k0_pay43, k0_pay44, k0_pay45, k0_pay46, k0_pay47, k0_pay48, k0_pay49, k0_pay50, k0_pay51, k0_pay52, k0_pay53]
  simp [pick]
/-- Entry 1 of the translation is in lane 10. -/
theorem lane10 : (laidOut x q0 q1 q2 q3 : S8x1x128.Idx → EReal) (ix3 b 0 10) = -(turn (q0 (ix2 b 0)) (q1 (ix2 b 0)) (q2 (ix2 b 0)) (q3 (ix2 b 0)) 1 0 * (x : S8x1x128.Idx → EReal) (ix3 b 0 9) + turn (q0 (ix2 b 0)) (q1 (ix2 b 0)) (q2 (ix2 b 0)) (q3 (ix2 b 0)) 1 1 * (x : S8x1x128.Idx → EReal) (ix3 b 0 10) + turn (q0 (ix2 b 0)) (q1 (ix2 b 0)) (q2 (ix2 b 0)) (q3 (ix2 b 0)) 1 2 * (x : S8x1x128.Idx → EReal) (ix3 b 0 11)) + (x : S8x1x128.Idx → EReal) (ix3 b 0 13) := by
  unfold laidOut turn
  pointwise [k0_pay1, k0_pay2, k0_pay55, k0_pay54, k0_pay38, k0_pay39, k0_pay40, k0_pay41, k0_pay42, k0_pay43, k0_pay44, k0_pay45, k0_pay46, k0_pay47, k0_pay48, k0_pay49, k0_pay50, k0_pay51, k0_pay52, k0_pay53]
  simp [pick]
/-- Entry 2 of the translation is in lane 11. -/
theorem lane11 : (laidOut x q0 q1 q2 q3 : S8x1x128.Idx → EReal) (ix3 b 0 11) = -(turn (q0 (ix2 b 0)) (q1 (ix2 b 0)) (q2 (ix2 b 0)) (q3 (ix2 b 0)) 2 0 * (x : S8x1x128.Idx → EReal) (ix3 b 0 9) + turn (q0 (ix2 b 0)) (q1 (ix2 b 0)) (q2 (ix2 b 0)) (q3 (ix2 b 0)) 2 1 * (x : S8x1x128.Idx → EReal) (ix3 b 0 10) + turn (q0 (ix2 b 0)) (q1 (ix2 b 0)) (q2 (ix2 b 0)) (q3 (ix2 b 0)) 2 2 * (x : S8x1x128.Idx → EReal) (ix3 b 0 11)) + (x : S8x1x128.Idx → EReal) (ix3 b 0 14) := by
  unfold laidOut turn
  pointwise [k0_pay1, k0_pay2, k0_pay55, k0_pay54, k0_pay38, k0_pay39, k0_pay40, k0_pay41, k0_pay42, k0_pay43, k0_pay44, k0_pay45, k0_pay46, k0_pay47, k0_pay48, k0_pay49, k0_pay50, k0_pay51, k0_pay52, k0_pay53]
  simp [pick]

end Cert.RotationIdeal.Hand
-- ==== Proof.TurnAlg.lean ====
/- Algebra of the quaternion's iteration, over the reals. -/
module

public import Idealize.ShloMosaic.Lib.Pointwise

@[expose] public section

noncomputable section

namespace Cert.RotationIdeal.Hand

/-- A symmetric matrix of trace zero, shifted by its own Frobenius norm, sends a vector to zero only if the vector or the matrix is zero. -/
theorem shift_zero (n00 n01 n02 n03 n11 n12 n13 n22 n23 n33 s q0 q1 q2 q3 : ℝ)
    (tr : n00 + n11 + n22 + n33 = 0)
    (hs : s * s = n00 * n00 + n11 * n11 + n22 * n22 + n33 * n33 + 2 * (n01 * n01 + n02 * n02 + n03 * n03 + n12 * n12 + n13 * n13 + n23 * n23))
    (hq : 0 < q0 * q0 + q1 * q1 + q2 * q2 + q3 * q3)
    (h0 : (n00 + s) * q0 + n01 * q1 + n02 * q2 + n03 * q3 = 0)
    (h1 : n01 * q0 + (n11 + s) * q1 + n12 * q2 + n13 * q3 = 0)
    (h2 : n02 * q0 + n12 * q1 + (n22 + s) * q2 + n23 * q3 = 0)
    (h3 : n03 * q0 + n13 * q1 + n23 * q2 + (n33 + s) * q3 = 0) : s = 0 := by
  obtain ⟨t, ht⟩ : ∃ t, t = q0 * q0 + q1 * q1 + q2 * q2 + q3 * q3 := ⟨_, rfl⟩
  rw [← ht] at hq
  have sum : (t * n00 + s * (q0 * q0)) ^ 2 + (t * n11 + s * (q1 * q1)) ^ 2 + (t * n22 + s * (q2 * q2)) ^ 2 + (t * n33 + s * (q3 * q3)) ^ 2
      + 2 * ((t * n01 + s * (q0 * q1)) ^ 2 + (t * n02 + s * (q0 * q2)) ^ 2 + (t * n03 + s * (q0 * q3)) ^ 2
        + (t * n12 + s * (q1 * q2)) ^ 2 + (t * n13 + s * (q1 * q3)) ^ 2 + (t * n23 + s * (q2 * q3)) ^ 2) = 0 := by
    linear_combination (-(t ^ 2)) * hs + 2 * t * s * (q0 * h0 + q1 * h1 + q2 * h2 + q3 * h3)
      + (2 * t * s * s - s * s * (t + (q0 * q0 + q1 * q1 + q2 * q2 + q3 * q3))) * ht
  have p0 := sq_nonneg (t * n00 + s * (q0 * q0))
  have p1 := sq_nonneg (t * n11 + s * (q1 * q1))
  have p2 := sq_nonneg (t * n22 + s * (q2 * q2))
  have p3 := sq_nonneg (t * n33 + s * (q3 * q3))
  have r0 := sq_nonneg (t * n01 + s * (q0 * q1))
  have r1 := sq_nonneg (t * n02 + s * (q0 * q2))
  have r2 := sq_nonneg (t * n03 + s * (q0 * q3))
  have r3 := sq_nonneg (t * n12 + s * (q1 * q2))
  have r4 := sq_nonneg (t * n13 + s * (q1 * q3))
  have r5 := sq_nonneg (t * n23 + s * (q2 * q3))
  have d0 : t * n00 + s * (q0 * q0) = 0 := pow_eq_zero_iff (two_ne_zero) |>.mp (by linarith)
  have d1 : t * n11 + s * (q1 * q1) = 0 := pow_eq_zero_iff (two_ne_zero) |>.mp (by linarith)
  have d2 : t * n22 + s * (q2 * q2) = 0 := pow_eq_zero_iff (two_ne_zero) |>.mp (by linarith)
  have d3 : t * n33 + s * (q3 * q3) = 0 := pow_eq_zero_iff (two_ne_zero) |>.mp (by linarith)
  have e : s * t = 0 := by linear_combination d0 + d1 + d2 + d3 - t * tr + s * ht
  rcases mul_eq_zero.mp e with h | h
  · exact h
  · exact absurd h hq.ne'

/-- The sum of the squares of the entries of the 4×4 matrix that the call makes of the nine products. -/
def frob (h : Fin 9 → ℝ) : ℝ :=
  (h 0 + h 4 + h 8) * (h 0 + h 4 + h 8) + (h 0 - h 4 - h 8) * (h 0 - h 4 - h 8) + (-h 0 + h 4 - h 8) * (-h 0 + h 4 - h 8) + (-h 0 - h 4 + h 8) * (-h 0 - h 4 + h 8)
    + 2 * ((h 5 - h 7) * (h 5 - h 7) + (h 6 - h 2) * (h 6 - h 2) + (h 1 - h 3) * (h 1 - h 3) + (h 1 + h 3) * (h 1 + h 3) + (h 6 + h 2) * (h 6 + h 2) + (h 5 + h 7) * (h 5 + h 7))

/-- It is four times the sum of the squares of the products. -/
theorem frob_eq (h : Fin 9 → ℝ) : frob h = 4 * ∑ i, h i ^ 2 := by
  unfold frob
  simp only [Fin.sum_univ_succ, Fin.sum_univ_zero]
  simp
  ring

/-- It is positive if one product is not zero. -/
theorem frob_pos (h : Fin 9 → ℝ) (k : ∃ i, h i ≠ 0) : 0 < frob h := by
  obtain ⟨i, hi⟩ := k
  rw [frob_eq]
  have : 0 < h i ^ 2 := by positivity
  have := Finset.single_le_sum (f := fun i => h i ^ 2) (fun i _ => sq_nonneg _) (Finset.mem_univ i)
  linarith

end Cert.RotationIdeal.Hand
-- ==== Proof.TurnStep.lean ====
/- One step of the third call's iteration, and its end, on real products of which one is not zero. -/
module

public import proofs.«01_k».proof.Proof.TurnRead
public import proofs.«01_k».proof.Proof.TurnAlg

@[expose] public section

set_option maxRecDepth 16384

noncomputable section

namespace Cert.RotationIdeal.Hand

open Cert.RotationIdeal Cert.RotationIdeal.Gen
open Idealize.ShloMosaic Idealize.ShloMosaic.TcCoe

/-- The constant 2. -/
theorem word_two : Ideal.ofBits .f32 0x40000000#32 = ((2 : ℝ) : EReal) := by
  simp [Ideal.ofBits, Ideal.ieee, -EReal.coe_mul]; norm_num

/-- The quaternion's first start value, 1. -/
theorem word_one : Ideal.ofBits .f32 0x3F800000#32 = ((1 : ℝ) : EReal) := by
  simp [Ideal.ofBits, Ideal.ieee, -EReal.coe_mul]; norm_num

/-- The second start value. -/
theorem word_q1 : Ideal.ofBits .f32 0x3E99999A#32 = ((10066330 / 33554432 : ℝ) : EReal) := by
  simp [Ideal.ofBits, Ideal.ieee, -EReal.coe_mul]; norm_num

/-- The third start value. -/
theorem word_q2 : Ideal.ofBits .f32 0x3E4CCCCD#32 = ((13421773 / 67108864 : ℝ) : EReal) := by
  simp [Ideal.ofBits, Ideal.ieee, -EReal.coe_mul]; norm_num

/-- The fourth start value. -/
theorem word_q3 : Ideal.ofBits .f32 0x3DCCCCCD#32 = ((13421773 / 134217728 : ℝ) : EReal) := by
  simp [Ideal.ofBits, Ideal.ieee, -EReal.coe_mul]; norm_num

/-- The nine products of one batch entry are the real numbers `h`. -/
structure Products (x : Vec Ideal S8x1x128 .f32) (b : Fin 8) (h : Fin 9 → ℝ) : Prop where
  p0 : (x : S8x1x128.Idx → EReal) (ix3 b 0 0) = (h 0 : EReal)
  p1 : (x : S8x1x128.Idx → EReal) (ix3 b 0 1) = (h 1 : EReal)
  p2 : (x : S8x1x128.Idx → EReal) (ix3 b 0 2) = (h 2 : EReal)
  p3 : (x : S8x1x128.Idx → EReal) (ix3 b 0 3) = (h 3 : EReal)
  p4 : (x : S8x1x128.Idx → EReal) (ix3 b 0 4) = (h 4 : EReal)
  p5 : (x : S8x1x128.Idx → EReal) (ix3 b 0 5) = (h 5 : EReal)
  p6 : (x : S8x1x128.Idx → EReal) (ix3 b 0 6) = (h 6 : EReal)
  p7 : (x : S8x1x128.Idx → EReal) (ix3 b 0 7) = (h 7 : EReal)
  p8 : (x : S8x1x128.Idx → EReal) (ix3 b 0 8) = (h 8 : EReal)

variable {x : Vec Ideal S8x1x128 .f32} {b : Fin 8} {h : Fin 9 → ℝ}

/-- One entry of the matrix of the products. -/
theorem col12 (px : Products x b h) : (k0_pay12 x : S8x1.Idx → EReal) (ix2 b 0) = ((h 0 + h 4 + h 8 : ℝ) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [px.p0, px.p1, px.p2, px.p3, px.p4, px.p5, px.p6, px.p7, px.p8, zero_sub]
  push_cast
  rfl
/-- One entry of the matrix of the products. -/
theorem col13 (px : Products x b h) : (k0_pay13 x : S8x1.Idx → EReal) (ix2 b 0) = ((h 5 - h 7 : ℝ) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [px.p0, px.p1, px.p2, px.p3, px.p4, px.p5, px.p6, px.p7, px.p8, zero_sub]
  push_cast
  rfl
/-- One entry of the matrix of the products. -/
theorem col14 (px : Products x b h) : (k0_pay14 x : S8x1.Idx → EReal) (ix2 b 0) = ((h 6 - h 2 : ℝ) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [px.p0, px.p1, px.p2, px.p3, px.p4, px.p5, px.p6, px.p7, px.p8, zero_sub]
  push_cast
  rfl
/-- One entry of the matrix of the products. -/
theorem col15 (px : Products x b h) : (k0_pay15 x : S8x1.Idx → EReal) (ix2 b 0) = ((h 1 - h 3 : ℝ) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [px.p0, px.p1, px.p2, px.p3, px.p4, px.p5, px.p6, px.p7, px.p8, zero_sub]
  push_cast
  rfl
/-- One entry of the matrix of the products. -/
theorem col16 (px : Products x b h) : (k0_pay16 x : S8x1.Idx → EReal) (ix2 b 0) = ((h 0 - h 4 - h 8 : ℝ) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [px.p0, px.p1, px.p2, px.p3, px.p4, px.p5, px.p6, px.p7, px.p8, zero_sub]
  push_cast
  rfl
/-- One entry of the matrix of the products. -/
theorem col17 (px : Products x b h) : (k0_pay17 x : S8x1.Idx → EReal) (ix2 b 0) = ((h 1 + h 3 : ℝ) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [px.p0, px.p1, px.p2, px.p3, px.p4, px.p5, px.p6, px.p7, px.p8, zero_sub]
  push_cast
  rfl
/-- One entry of the matrix of the products. -/
theorem col18 (px : Products x b h) : (k0_pay18 x : S8x1.Idx → EReal) (ix2 b 0) = ((h 6 + h 2 : ℝ) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [px.p0, px.p1, px.p2, px.p3, px.p4, px.p5, px.p6, px.p7, px.p8, zero_sub]
  push_cast
  rfl
/-- One entry of the matrix of the products. -/
theorem col19 (px : Products x b h) : (k0_pay19 x : S8x1.Idx → EReal) (ix2 b 0) = ((-h 0 + h 4 - h 8 : ℝ) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [px.p0, px.p1, px.p2, px.p3, px.p4, px.p5, px.p6, px.p7, px.p8, zero_sub]
  push_cast
  rfl
/-- One entry of the matrix of the products. -/
theorem col20 (px : Products x b h) : (k0_pay20 x : S8x1.Idx → EReal) (ix2 b 0) = ((h 5 + h 7 : ℝ) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [px.p0, px.p1, px.p2, px.p3, px.p4, px.p5, px.p6, px.p7, px.p8, zero_sub]
  push_cast
  rfl
/-- One entry of the matrix of the products. -/
theorem col21 (px : Products x b h) : (k0_pay21 x : S8x1.Idx → EReal) (ix2 b 0) = ((-h 0 - h 4 + h 8 : ℝ) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [px.p0, px.p1, px.p2, px.p3, px.p4, px.p5, px.p6, px.p7, px.p8, zero_sub]
  push_cast
  rfl

/-- The square root of a nonnegative real. -/
theorem sqrt_real {r : ℝ} (p : 0 ≤ r) : Ideal.sqrt ((r : ℝ) : EReal) = ((Real.sqrt r : ℝ) : EReal) := by
  rw [Ideal.sqrt_coe, if_neg (not_lt.mpr p)]

/-- The reciprocal square root of a positive real. -/
theorem rsqrt_real {r : ℝ} (p : 0 < r) : Ideal.rsqrt ((r : ℝ) : EReal) = (((Real.sqrt r)⁻¹ : ℝ) : EReal) := by
  rw [Ideal.rsqrt_coe, if_neg (not_lt.mpr p.le), if_neg p.ne']

/-- The sum of squares is not negative. -/
theorem frob_nonneg (h : Fin 9 → ℝ) : 0 ≤ frob h := by
  rw [frob_eq]
  positivity

/-- The shift is the square root of the sum of squares. -/
theorem col22 (px : Products x b h) : (k0_pay22 x : S8x1.Idx → EReal) (ix2 b 0) = ((Real.sqrt (frob h) : ℝ) : EReal) := by
  rw [← sqrt_real (frob_nonneg h)]
  unfold k0_pay22
  pointwise
  rw [col12 px, col13 px, col14 px, col15 px, col16 px, col17 px, col18 px, col19 px, col20 px, col21 px, word_two]
  unfold frob
  push_cast
  rfl

/-- The first shifted diagonal entry. -/
theorem col23 (px : Products x b h) : (k0_pay23 x : S8x1.Idx → EReal) (ix2 b 0) = ((h 0 + h 4 + h 8 + Real.sqrt (frob h) : ℝ) : EReal) := by
  rw [EReal.coe_add, ← col22 px, ← col12 px]
  rfl

/-- The second shifted diagonal entry. -/
theorem col24 (px : Products x b h) : (k0_pay24 x : S8x1.Idx → EReal) (ix2 b 0) = ((h 0 - h 4 - h 8 + Real.sqrt (frob h) : ℝ) : EReal) := by
  rw [EReal.coe_add, ← col22 px, ← col16 px]
  rfl

/-- The length squared of a quaternion. -/
def len (r : Fin 4 → ℝ) : ℝ := r 0 * r 0 + r 1 * r 1 + r 2 * r 2 + r 3 * r 3

/-- A length squared is not negative. -/
theorem len_nonneg (r : Fin 4 → ℝ) : 0 ≤ len r := by
  unfold len
  linarith [mul_self_nonneg (r 0), mul_self_nonneg (r 1), mul_self_nonneg (r 2), mul_self_nonneg (r 3)]

/-- The shifted matrix of the nine products, applied to a quaternion. -/
def stretched (h : Fin 9 → ℝ) (r : Fin 4 → ℝ) : Fin 4 → ℝ :=
  ![(h 0 + h 4 + h 8 + Real.sqrt (frob h)) * r 0 + (h 5 - h 7) * r 1 + (h 6 - h 2) * r 2 + (h 1 - h 3) * r 3,
    (h 5 - h 7) * r 0 + (h 0 - h 4 - h 8 + Real.sqrt (frob h)) * r 1 + (h 1 + h 3) * r 2 + (h 6 + h 2) * r 3,
    (h 6 - h 2) * r 0 + (h 1 + h 3) * r 1 + (-h 0 + h 4 - h 8 + Real.sqrt (frob h)) * r 2 + (h 5 + h 7) * r 3,
    (h 1 - h 3) * r 0 + (h 6 + h 2) * r 1 + (h 5 + h 7) * r 2 + (-h 0 - h 4 + h 8 + Real.sqrt (frob h)) * r 3]

/-- A step does not give the zero quaternion, if one product is not zero. -/
theorem stretched_pos (nz : ∃ i, h i ≠ 0) {r : Fin 4 → ℝ} (p : 0 < len r) : 0 < len (stretched h r) := by
  have f := frob_pos h nz
  have s := Real.mul_self_sqrt f.le
  by_contra c
  have z : len (stretched h r) = 0 := le_antisymm (not_lt.mp c) (len_nonneg _)
  unfold len at z
  have y0 : stretched h r 0 = 0 := by nlinarith [mul_self_nonneg (stretched h r 0), mul_self_nonneg (stretched h r 1), mul_self_nonneg (stretched h r 2), mul_self_nonneg (stretched h r 3)]
  have y1 : stretched h r 1 = 0 := by nlinarith [mul_self_nonneg (stretched h r 0), mul_self_nonneg (stretched h r 1), mul_self_nonneg (stretched h r 2), mul_self_nonneg (stretched h r 3)]
  have y2 : stretched h r 2 = 0 := by nlinarith [mul_self_nonneg (stretched h r 0), mul_self_nonneg (stretched h r 1), mul_self_nonneg (stretched h r 2), mul_self_nonneg (stretched h r 3)]
  have y3 : stretched h r 3 = 0 := by nlinarith [mul_self_nonneg (stretched h r 0), mul_self_nonneg (stretched h r 1), mul_self_nonneg (stretched h r 2), mul_self_nonneg (stretched h r 3)]
  have e : Real.sqrt (frob h) = 0 :=
    shift_zero (h 0 + h 4 + h 8) (h 5 - h 7) (h 6 - h 2) (h 1 - h 3) (h 0 - h 4 - h 8) (h 1 + h 3) (h 6 + h 2) (-h 0 + h 4 - h 8) (h 5 + h 7) (-h 0 - h 4 + h 8)
      (Real.sqrt (frob h)) (r 0) (r 1) (r 2) (r 3) (by ring) (s.trans (by unfold frob; ring)) p y0 y1 y2 y3
  exact absurd e (Real.sqrt_pos.mpr f).ne'

/-- The four columns hold the real quaternion `r` at one batch entry. -/
structure Quat (a : Col Ideal × Col Ideal × Col Ideal × Col Ideal) (b : Fin 8) (r : Fin 4 → ℝ) : Prop where
  q0 : (a.1 : S8x1.Idx → EReal) (ix2 b 0) = (r 0 : EReal)
  q1 : (a.2.1 : S8x1.Idx → EReal) (ix2 b 0) = (r 1 : EReal)
  q2 : (a.2.2.1 : S8x1.Idx → EReal) (ix2 b 0) = (r 2 : EReal)
  q3 : (a.2.2.2 : S8x1.Idx → EReal) (ix2 b 0) = (r 3 : EReal)

variable {a : Col Ideal × Col Ideal × Col Ideal × Col Ideal} {r : Fin 4 → ℝ}

/-- Entry 0 of the shifted matrix applied to the quaternion. -/
theorem row0 (px : Products x b h) (qa : Quat a b r) : (k0_pay29 (k0_pay13 x) (k0_pay14 x) (k0_pay15 x) (k0_pay23 x) a.1 a.2.1 a.2.2.1 a.2.2.2 : S8x1.Idx → EReal) (ix2 b 0) = (stretched h r 0 : EReal) := by
  unfold k0_pay29
  pointwise
  rw [qa.q0, qa.q1, qa.q2, qa.q3, col13 px, col14 px, col15 px, col23 px]
  simp only [← EReal.coe_mul, ← EReal.coe_add]
  refine congrArg _ ?_
  simp [stretched]
/-- Entry 1 of the shifted matrix applied to the quaternion. -/
theorem row1 (px : Products x b h) (qa : Quat a b r) : (k0_pay30 (k0_pay13 x) (k0_pay17 x) (k0_pay18 x) (k0_pay24 x) a.1 a.2.1 a.2.2.1 a.2.2.2 : S8x1.Idx → EReal) (ix2 b 0) = (stretched h r 1 : EReal) := by
  unfold k0_pay30
  pointwise
  rw [qa.q0, qa.q1, qa.q2, qa.q3, col13 px, col17 px, col18 px, col24 px]
  simp only [← EReal.coe_mul, ← EReal.coe_add]
  refine congrArg _ ?_
  simp [stretched]
/-- Entry 2 of the shifted matrix applied to the quaternion. -/
theorem row2 (px : Products x b h) (qa : Quat a b r) : (k0_pay31 (k0_pay14 x) (k0_pay17 x) (k0_pay19 x) (k0_pay20 x) (k0_pay22 x) a.1 a.2.1 a.2.2.1 a.2.2.2 : S8x1.Idx → EReal) (ix2 b 0) = (stretched h r 2 : EReal) := by
  unfold k0_pay31
  pointwise
  rw [qa.q0, qa.q1, qa.q2, qa.q3, col14 px, col17 px, col19 px, col20 px, col22 px]
  simp only [← EReal.coe_mul, ← EReal.coe_add]
  refine congrArg _ ?_
  simp [stretched]
/-- Entry 3 of the shifted matrix applied to the quaternion. -/
theorem row3 (px : Products x b h) (qa : Quat a b r) : (k0_pay32 (k0_pay15 x) (k0_pay18 x) (k0_pay20 x) (k0_pay21 x) (k0_pay22 x) a.1 a.2.1 a.2.2.1 a.2.2.2 : S8x1.Idx → EReal) (ix2 b 0) = (stretched h r 3 : EReal) := by
  unfold k0_pay32
  pointwise
  rw [qa.q0, qa.q1, qa.q2, qa.q3, col15 px, col18 px, col20 px, col21 px, col22 px]
  simp only [← EReal.coe_mul, ← EReal.coe_add]
  refine congrArg _ ?_
  simp [stretched]
/-- The factor of a step is one over the length. -/
theorem scale (px : Products x b h) (qa : Quat a b r) (p : 0 < len (stretched h r)) :
    (k0_pay33 (k0_pay13 x) (k0_pay14 x) (k0_pay15 x) (k0_pay17 x) (k0_pay18 x) (k0_pay19 x) (k0_pay20 x) (k0_pay21 x) (k0_pay22 x) (k0_pay23 x) (k0_pay24 x) a.1 a.2.1 a.2.2.1 a.2.2.2 : S8x1.Idx → EReal) (ix2 b 0) = (((Real.sqrt (len (stretched h r)))⁻¹ : ℝ) : EReal) := by
  rw [← rsqrt_real p]
  unfold k0_pay33
  pointwise
  rw [row0 px qa, row1 px qa, row2 px qa, row3 px qa]
  unfold len
  push_cast
  rfl

/-- A step applies the shifted matrix and divides by the length. -/
theorem trip_quat (px : Products x b h) (qa : Quat a b r) (p : 0 < len (stretched h r)) :
    Quat (trip x a) b (fun i => stretched h r i * (Real.sqrt (len (stretched h r)))⁻¹) := by
  have s := scale px qa p
  refine ⟨?_, ?_, ?_, ?_⟩
  · rw [EReal.coe_mul, ← s, ← row0 px qa]
    rfl
  · rw [EReal.coe_mul, ← s, ← row1 px qa]
    rfl
  · rw [EReal.coe_mul, ← s, ← row2 px qa]
    rfl
  · rw [EReal.coe_mul, ← s, ← row3 px qa]
    rfl

/-- A quaternion divided by its length has length one. -/
theorem len_one (p : 0 < len r) : len (fun i => r i * (Real.sqrt (len r))⁻¹) = 1 := by
  have s := Real.mul_self_sqrt p.le
  have n : Real.sqrt (len r) ≠ 0 := (Real.sqrt_pos.mpr p).ne'
  have e : len (fun i => r i * (Real.sqrt (len r))⁻¹) = len r * ((Real.sqrt (len r))⁻¹ * (Real.sqrt (len r))⁻¹) := by
    unfold len
    ring
  rw [e, ← mul_inv, s]
  exact mul_inv_cancel₀ p.ne'

/-- What a step gives holds at the end of a loop of at least one step. -/
theorem foldl_end {α β : Type} (f : α → β → α) (P Q : α → Prop) (hp : ∀ a k, P a → Q (f a k)) (hq : ∀ a, Q a → P a) :
    ∀ (l : List β) (a : α), P a → l ≠ [] → Q (l.foldl f a)
  | [], _, _, n => absurd rfl n
  | [k], a, p, _ => hp a k p
  | k :: k' :: l, a, p, _ => foldl_end f P Q hp hq (k' :: l) (f a k) (hq _ (hp a k p)) (by simp)

/-- The start values are real and not all zero. -/
theorem start_quat (b : Fin 8) : ∃ r : Fin 4 → ℝ, Quat (k0_pay25, k0_pay26, k0_pay27, k0_pay28) b r ∧ 0 < len r := by
  refine ⟨![1, 10066330 / 33554432, 13421773 / 67108864, 13421773 / 134217728], ⟨?_, ?_, ?_, ?_⟩, ?_⟩
  · exact word_one
  · exact word_q1
  · exact word_q2
  · exact word_q3
  · unfold len
    simp
    norm_num

/-- After the steps the quaternion has length one. -/
theorem turned_quat (px : Products x b h) (nz : ∃ i, h i ≠ 0) : ∃ r : Fin 4 → ℝ, Quat (turned x) b r ∧ len r = 1 := by
  unfold turned
  rw [Scf.fold_eq]
  refine foldl_end _ (fun a => ∃ r : Fin 4 → ℝ, Quat a b r ∧ 0 < len r) (fun a => ∃ r : Fin 4 → ℝ, Quat a b r ∧ len r = 1)
    (fun a k ⟨r, qa, p⟩ => ?_) (fun a ⟨r, qa, p⟩ => ⟨r, qa, by rw [p]; exact one_pos⟩) _ _ (start_quat b) ?_
  · have p' := stretched_pos nz p
    exact ⟨_, trip_quat px qa p', len_one p'⟩
  · intro e
    have := congrArg List.length e
    rw [List.length_finRange] at this
    exact absurd this (by decide)

end Cert.RotationIdeal.Hand
-- ==== Proof.TurnPost.lean ====
/- The third call's claims: its translation, and that its matrix is a rotation. -/
module

public import proofs.«01_k».proof.Proof.TurnStep
public import proofs.«01_k».proof.Post_translation
public import proofs.«01_k».proof.Post_rotation
public import proofs.«01_k».proof.Pre_proper_stats

@[expose] public section

set_option maxRecDepth 16384

noncomputable section

namespace Cert.RotationIdeal.Hand

open Cert.RotationIdeal Cert.RotationIdeal.Gen
open Idealize.ShloMosaic Idealize.ShloMosaic.TcCoe

instance translationFacts : Cert.Post_translation.Facts := ⟨by decide, by decide, by decide, by decide, by decide, by decide, by decide, by decide, by decide⟩

/-- The translation that is laid out is the one that the matrix and the means give. -/
theorem translation_eq (x : Vec Ideal S8x1x128 .f32) (q0 q1 q2 q3 : Col Ideal) :
    Cert.Post_translation.fn (F := Ideal) x (laidOut x q0 q1 q2 q3) = fun _ => 1#1 := by
  have k : ∀ (b : Fin 8) (i : Fin 3), Cert.Post_translation.fn (F := Ideal) x (laidOut x q0 q1 q2 q3) (ix2 b i) = 1#1 := by
    intro b i
    have h0 := lane0 x q0 q1 q2 q3 b
    have h1 := lane1 x q0 q1 q2 q3 b
    have h2 := lane2 x q0 q1 q2 q3 b
    have h3 := lane3 x q0 q1 q2 q3 b
    have h4 := lane4 x q0 q1 q2 q3 b
    have h5 := lane5 x q0 q1 q2 q3 b
    have h6 := lane6 x q0 q1 q2 q3 b
    have h7 := lane7 x q0 q1 q2 q3 b
    have h8 := lane8 x q0 q1 q2 q3 b
    have h9 := lane9 x q0 q1 q2 q3 b
    have h10 := lane10 x q0 q1 q2 q3 b
    have h11 := lane11 x q0 q1 q2 q3 b
    generalize laidOut x q0 q1 q2 q3 = o at *
    unfold Cert.Post_translation.fn
    fin_cases i
    · pointwise
      refine congrArg BitVec.ofBool (decide_eq_true ?_)
      rw [Fin.sum_univ_three]
      show (o : S8x1x128.Idx → EReal) (ix3 b 0 9) = -((o : S8x1x128.Idx → EReal) (ix3 b 0 0) * (x : S8x1x128.Idx → EReal) (ix3 b 0 9) + (o : S8x1x128.Idx → EReal) (ix3 b 0 1) * (x : S8x1x128.Idx → EReal) (ix3 b 0 10) + (o : S8x1x128.Idx → EReal) (ix3 b 0 2) * (x : S8x1x128.Idx → EReal) (ix3 b 0 11)) + (x : S8x1x128.Idx → EReal) (ix3 b 0 12)
      rw [h9, h0, h1, h2]
    · pointwise
      refine congrArg BitVec.ofBool (decide_eq_true ?_)
      rw [Fin.sum_univ_three]
      show (o : S8x1x128.Idx → EReal) (ix3 b 0 10) = -((o : S8x1x128.Idx → EReal) (ix3 b 0 3) * (x : S8x1x128.Idx → EReal) (ix3 b 0 9) + (o : S8x1x128.Idx → EReal) (ix3 b 0 4) * (x : S8x1x128.Idx → EReal) (ix3 b 0 10) + (o : S8x1x128.Idx → EReal) (ix3 b 0 5) * (x : S8x1x128.Idx → EReal) (ix3 b 0 11)) + (x : S8x1x128.Idx → EReal) (ix3 b 0 13)
      rw [h10, h3, h4, h5]
    · pointwise
      refine congrArg BitVec.ofBool (decide_eq_true ?_)
      rw [Fin.sum_univ_three]
      show (o : S8x1x128.Idx → EReal) (ix3 b 0 11) = -((o : S8x1x128.Idx → EReal) (ix3 b 0 6) * (x : S8x1x128.Idx → EReal) (ix3 b 0 9) + (o : S8x1x128.Idx → EReal) (ix3 b 0 7) * (x : S8x1x128.Idx → EReal) (ix3 b 0 10) + (o : S8x1x128.Idx → EReal) (ix3 b 0 8) * (x : S8x1x128.Idx → EReal) (ix3 b 0 11)) + (x : S8x1x128.Idx → EReal) (ix3 b 0 14)
      rw [h11, h6, h7, h8]
  funext y
  refine (congrArg (Cert.Post_translation.fn (F := Ideal) x (laidOut x q0 q1 q2 q3)) ?_).trans (k (y 0) (y 1))
  idx_ext

instance rotationFacts : Cert.Post_rotation.Facts := ⟨by decide, by decide, by decide, by decide, by decide, by decide, by decide, by decide, by decide, by decide, by decide, by decide, by decide, by decide, by decide, by decide, by decide, by decide, by decide⟩

/-- The matrix of a real quaternion, entry by entry. -/
def turnR (r : Fin 4 → ℝ) : Fin 3 → Fin 3 → ℝ :=
  ![![r 0 * r 0 + r 1 * r 1 - r 2 * r 2 - r 3 * r 3, 2 * (r 1 * r 2 - r 0 * r 3), 2 * (r 1 * r 3 + r 0 * r 2)],
    ![2 * (r 2 * r 1 + r 0 * r 3), r 0 * r 0 - r 1 * r 1 + r 2 * r 2 - r 3 * r 3, 2 * (r 2 * r 3 - r 0 * r 1)],
    ![2 * (r 3 * r 1 - r 0 * r 2), 2 * (r 3 * r 2 + r 0 * r 1), r 0 * r 0 - r 1 * r 1 - r 2 * r 2 + r 3 * r 3]]

/-- The matrix of a real quaternion is real. -/
theorem turn_real (r : Fin 4 → ℝ) (i j : Fin 3) : turn (r 0) (r 1) (r 2) (r 3) i j = (turnR r i j : EReal) := by
  unfold turn turnR two
  rw [word_two]
  fin_cases i <;> fin_cases j <;> simp

/-- The rows of the matrix of a quaternion of length one are orthonormal. -/
theorem turn_orth {r : Fin 4 → ℝ} (p : len r = 1) (i j : Fin 3) :
    turnR r i 0 * turnR r j 0 + turnR r i 1 * turnR r j 1 + turnR r i 2 * turnR r j 2 = if i = j then 1 else 0 := by
  unfold len at p
  fin_cases i <;> fin_cases j <;> simp [turnR] <;>
    first
    | linear_combination (r 0 * r 0 + r 1 * r 1 + r 2 * r 2 + r 3 * r 3 + 1) * p
    | ring

/-- The determinant of the matrix of a quaternion of length one is one. -/
theorem turn_det {r : Fin 4 → ℝ} (p : len r = 1) :
    turnR r 0 0 * (turnR r 1 1 * turnR r 2 2 - turnR r 1 2 * turnR r 2 1) - turnR r 0 1 * (turnR r 1 0 * turnR r 2 2 - turnR r 1 2 * turnR r 2 0)
      + turnR r 0 2 * (turnR r 1 0 * turnR r 2 1 - turnR r 1 1 * turnR r 2 0) = 1 := by
  unfold len at p
  simp [turnR]
  linear_combination ((r 0 * r 0 + r 1 * r 1 + r 2 * r 2 + r 3 * r 3) ^ 2 + (r 0 * r 0 + r 1 * r 1 + r 2 * r 2 + r 3 * r 3) + 1) * p

/-- Both parts of a conjunction of bits hold. -/
theorem both {p q : Prop} [Decidable p] [Decidable q] (h : IntOp.andi (BitVec.ofBool (decide p)) (BitVec.ofBool (decide q)) = 1#1) : p ∧ q := by
  by_cases hp : p <;> by_cases hq : q <;> simp [hp, hq, IntOp.andi] at h ⊢

/-- A conjunction of bits from its two parts. -/
theorem both_mk {p q : Prop} [Decidable p] [Decidable q] (hp : p) (hq : q) : IntOp.andi (BitVec.ofBool (decide p)) (BitVec.ofBool (decide q)) = 1#1 := by
  simp [hp, hq, IntOp.andi]

/-- An array that holds the matrix of a quaternion of length one in each batch entry passes `rotation`. -/
theorem rotation_eq (x o : Vec Ideal S8x1x128 .f32)
    (ho : ∀ b : Fin 8, ∃ r : Fin 4 → ℝ, len r = 1 ∧ ∀ (i j : Fin 3) (k : Fin 128), k.val = 3 * i.val + j.val → (o : S8x1x128.Idx → EReal) (ix3 b 0 k) = (turnR r i j : EReal)) :
    Cert.Post_rotation.fn (F := Ideal) x o = fun _ => 1#1 := by
  have k : ∀ (b : Fin 8) (i j : Fin 3), Cert.Post_rotation.fn (F := Ideal) x o (ix3 b i j) = 1#1 := by
    intro b i j
    obtain ⟨r, p, h⟩ := ho b
    have h0 := h 0 0 0 rfl
    have h1 := h 0 1 1 rfl
    have h2 := h 0 2 2 rfl
    have h3 := h 1 0 3 rfl
    have h4 := h 1 1 4 rfl
    have h5 := h 1 2 5 rfl
    have h6 := h 2 0 6 rfl
    have h7 := h 2 1 7 rfl
    have h8 := h 2 2 8 rfl
    unfold Cert.Post_rotation.fn Cert.Post_rotation.fn_part1 Cert.Post_rotation.fn_part2 Cert.Post_rotation.fn_where
    pointwise
    simp only [id_eq]
    pointwise
    have hh : ∀ (i j : Fin 3) (q : i.val * 3 + j.val < 128), (o : S8x1x128.Idx → EReal) (ix3 b 0 ⟨i.val * 3 + j.val, q⟩) = (turnR r i j : EReal) :=
      fun i j q => h i j _ (by show i.val * 3 + j.val = 3 * i.val + j.val; omega)
    simp only [hh]
    rw [h0, h1, h2, h3, h4, h5, h6, h7, h8, Fin.sum_univ_three]
    simp only [← EReal.coe_mul, ← EReal.coe_add, ← EReal.coe_sub]
    refine both_mk ?_ ?_
    · rw [turn_orth p i j]
      fin_cases i <;> fin_cases j <;> simp [IntOp.cmpi, Scalar.select]
    · rw [turn_det p]
      rfl
  funext y
  refine (congrArg (Cert.Post_rotation.fn (F := Ideal) x o) ?_).trans (k (y 0) (y 1) (y 2))
  idx_ext

instance statsFacts : Cert.Pre_proper_stats.Facts := ⟨by decide, by decide, by decide, by decide, by decide, by decide, by decide, by decide⟩

/-- An extended real of finite absolute value is a real. -/
theorem real_of_abs {x : EReal} (h : FloatOps.absf (F := Ideal) (φ := .f32) x < ⊤) : ∃ r : ℝ, x = (r : EReal) := by
  have h : max x (-x) < ⊤ := h
  induction x using EReal.rec with
  | bot => simp at h
  | top => simp at h
  | coe r => exact ⟨r, rfl⟩

/-- The precondition at one product: it is real, and the sum of the absolute values is positive. -/
theorem stats_at (x : Vec Ideal S8x1x128 .f32) (b : Fin 8) (k : Fin 9) (l : Fin 128) (hl : l.val = k.val)
    (h : Cert.Pre_proper_stats.fn (F := Ideal) x = fun _ => 1#1) :
    (∃ r : ℝ, (x : S8x1x128.Idx → EReal) (ix3 b 0 l) = (r : EReal)) ∧ 0 < ∑ k : Fin 9, FloatOps.absf (F := Ideal) (φ := .f32) ((x : S8x1x128.Idx → EReal) (ix3 b 0 ⟨k.val, by omega⟩)) := by
  have h : Cert.Pre_proper_stats.fn (F := Ideal) x (ix2 b k) = 1#1 := congrFun h _
  revert h
  unfold Cert.Pre_proper_stats.fn
  pointwise
  intro h
  obtain ⟨h1, h2⟩ := both h
  rw [show l = ⟨k.val, by omega⟩ from Fin.ext hl]
  refine ⟨real_of_abs (lt_of_lt_of_le h1 le_top), h2⟩

/-- What the precondition says of one batch entry. -/
theorem stats_real (x : Vec Ideal S8x1x128 .f32) (b : Fin 8) (h : Cert.Pre_proper_stats.fn (F := Ideal) x = fun _ => 1#1) :
    ∃ s : Fin 9 → ℝ, Products x b s ∧ ∃ i, s i ≠ 0 := by
  have e : ∀ k : Fin 9, ∃ r : ℝ, (x : S8x1x128.Idx → EReal) (ix3 b 0 ⟨k.val, by omega⟩) = (r : EReal) := fun k => (stats_at x b k _ rfl h).1
  choose s hs using e
  refine ⟨s, ⟨hs 0, hs 1, hs 2, hs 3, hs 4, hs 5, hs 6, hs 7, hs 8⟩, ?_⟩
  by_contra c
  push Not at c
  have p := (stats_at x b 0 0 rfl h).2
  refine absurd p ?_
  rw [Finset.sum_eq_zero]
  · exact lt_irrefl _
  · intro k _
    rw [hs k, c k]
    show max ((0 : ℝ) : EReal) (-((0 : ℝ) : EReal)) = 0
    simp

/-- What the call makes of proper products passes `rotation`. -/
theorem rotation_of_stats (x : Vec Ideal S8x1x128 .f32) (h : Cert.Pre_proper_stats.fn (F := Ideal) x = fun _ => 1#1) :
    Cert.Post_rotation.fn (F := Ideal) x (made x) = fun _ => 1#1 := by
  refine rotation_eq x (made x) fun b => ?_
  obtain ⟨s, px, nz⟩ := stats_real x b h
  obtain ⟨r, qa, p⟩ := turned_quat px nz
  refine ⟨r, p, fun i j k hk => ?_⟩
  rw [← turn_real, ← qa.q0, ← qa.q1, ← qa.q2, ← qa.q3]
  unfold made
  fin_cases i <;> fin_cases j
  · obtain rfl : k = 0 := Fin.ext hk
    exact lane0 x _ _ _ _ b
  · obtain rfl : k = 1 := Fin.ext hk
    exact lane1 x _ _ _ _ b
  · obtain rfl : k = 2 := Fin.ext hk
    exact lane2 x _ _ _ _ b
  · obtain rfl : k = 3 := Fin.ext hk
    exact lane3 x _ _ _ _ b
  · obtain rfl : k = 4 := Fin.ext hk
    exact lane4 x _ _ _ _ b
  · obtain rfl : k = 5 := Fin.ext hk
    exact lane5 x _ _ _ _ b
  · obtain rfl : k = 6 := Fin.ext hk
    exact lane6 x _ _ _ _ b
  · obtain rfl : k = 7 := Fin.ext hk
    exact lane7 x _ _ _ _ b
  · obtain rfl : k = 8 := Fin.ext hk
    exact lane8 x _ _ _ _ b

end Cert.RotationIdeal.Hand
-- ==== Proof.lean ====
/-
  The proof of the certificate's claims: the kernel and the reference run and leave their arguments alone, the named
  constant of the idealized kernel is the literal of the printed one, and over finite embeddings the two results agree.
-/
module

public import proofs.«01_k».proof.Defs
public import proofs.«01_k».proof.Proof.IdealRun
public import proofs.«01_k».proof.Proof.PlainRun
public import proofs.«01_k».proof.Proof.RefRun
public import proofs.«01_k».proof.Proof.RefFinal
public import proofs.«01_k».proof.Proof.KernFinal
public import proofs.«01_k».proof.Proof.Gen.Rotation.Frame
public import proofs.«01_k».proof.Proof.Gen.RotationIdeal.Frame
public import proofs.«01_k».proof.Proof.Gen.RotationIdeal.Value
public import proofs.«01_k».proof.Proof.TurnPost

@[expose] public section

noncomputable section

namespace Cert.Proof

open Idealize.ShloMosaic Idealize.ShloMosaic.TcCoe
open Idealize.SL.Sem

/-- The side condition the precondition states. -/
theorem preFacts : Cert.Pre_finite_embeddings.Facts := ⟨by decide⟩

/-- A number of absolute value below infinity is real. -/
theorem real_of_abs {x : EReal} (h : max x (-x) < ⊤) : ∃ r : ℝ, x = (r : EReal) := by
  induction x using EReal.rec with
  | bot => simp at h
  | top => simp at h
  | coe r => exact ⟨r, rfl⟩

/-- The precondition at an index: both embeddings are real there. -/
theorem pre_at [Cert.Pre_finite_embeddings.Facts] (a b : FVec Ideal Cert.Pre_finite_embeddings.S8x64x2048 .f32)
    (s t : FVec Ideal Cert.Pre_finite_embeddings.S8x2048x3 .f32) (j : Cert.Pre_finite_embeddings.S8x64x2048.Idx)
    (h : Cert.Pre_finite_embeddings.fn (F := Ideal) a b s t = fun _ => 1#1) :
    (∃ r : ℝ, a j = (r : EReal)) ∧ ∃ r : ℝ, b j = (r : EReal) := by
  have h1 : Ideal.cmp .olt (max (a j) (-(a j))) (Ideal.ofBits .f32 0x7F800000#32)
      &&& Ideal.cmp .olt (max (b j) (-(b j))) (Ideal.ofBits .f32 0x7F800000#32) = 1#1 := congrFun h j
  rw [Cert.Match.word_top] at h1
  have bit : ∀ x y : EReal, Ideal.cmp .olt x y = if x < y then 1#1 else 0#1 := fun x y => by
    unfold Ideal.cmp
    split_ifs with h <;> simp [h]
  rw [bit, bit] at h1
  by_cases ha : max (a j) (-(a j)) < ⊤
  · by_cases hb : max (b j) (-(b j)) < ⊤
    · exact ⟨real_of_abs ha, real_of_abs hb⟩
    · rw [if_neg hb] at h1
      split_ifs at h1 <;> exact absurd h1 (by decide)
  · rw [if_neg ha] at h1
    split_ifs at h1 <;> exact absurd h1 (by decide)

/-- The kernel's results and the reference's agree. -/
theorem agree (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hf : ∀ b, Cert.Match.Fin2 (Cert.KernelIdeal.Hand.embA m c b) (Cert.KernelIdeal.Hand.embB m c b))
    (h0 : Cert.ReferenceIdeal.Hand.embA m' c = Cert.KernelIdeal.Hand.embA m c) (h1 : Cert.ReferenceIdeal.Hand.embB m' c = Cert.KernelIdeal.Hand.embB m c)
    (h2 : Cert.ReferenceIdeal.Hand.srcP m' c = Cert.KernelIdeal.Hand.srcP m c) (h3 : Cert.ReferenceIdeal.Hand.tgtP m' c = Cert.KernelIdeal.Hand.tgtP m c) :
    (StableHlo.after Cert.ReferenceIdeal.Gen.hostOps0_1 (Cert.ReferenceIdeal.Hand.afterLoop m' c) (Proc.devRef .tc Cert.ReferenceIdeal.main_v63)
        : Cert.ReferenceIdeal.S8x1x128.Idx → EReal)
      = (Cert.KernelIdeal.Hand.dat1 (Cert.KernelIdeal.Hand.V2 m g) c).arrAt 6 Cert.KernelIdeal.cfg1.N := by
  funext i
  obtain ⟨b, l, rfl⟩ : ∃ (b : Fin 8) (l : Fin 128), i = ix3 b 0 l := ⟨i 0, i 2, by
    funext a
    fin_cases a
    · rfl
    · exact Subsingleton.elim (α := Fin 1) _ _
    · rfl⟩
  have hf' : ∀ b, Cert.Match.Fin2 (Cert.ReferenceIdeal.Hand.embA m' c b) (Cert.ReferenceIdeal.Hand.embB m' c b) := fun b => by
    rw [h0, h1]
    exact hf b
  refine (Cert.ReferenceIdeal.Hand.value m' c hf' b l).trans (Eq.trans ?_ (Cert.KernelIdeal.Hand.value m g c hf b l).symm)
  rw [h0, h1, h2, h3]

/-- The kernel's idealized result is the reference's. -/
theorem algebraic : Cert.algebraic_KernelIdeal_ReferenceIdeal_pre_finite_embeddings (hKernelIdeal := Cert.KernelIdeal.Gen.facts)
    (hReferenceIdeal := Cert.ReferenceIdeal.Gen.facts) (hPre_finite_embeddings := preFacts) := by
  intro m g m' g' hp ha
  haveI := preFacts
  refine ⟨fun c => (Cert.KernelIdeal.Hand.dat1 (Cert.KernelIdeal.Hand.V2 m g) c).arrAt 6 Cert.KernelIdeal.cfg1.N, ?_, ?_⟩
  · exact (θ_run _ _ _).mono (fun _ h c => ⟨(h.1 c).2.2.2.2, (h.1 c).1, (h.1 c).2.1, (h.1 c).2.2.1, (h.1 c).2.2.2.1⟩)
      (Cert.KernelIdeal.Hand.result m g)
  · refine (θ_run _ _ _).mono (fun _ h c => ⟨(h.1 c).1.trans ?_, (h.1 c).2⟩) (Cert.ReferenceIdeal.Hand.result m' g')
    obtain ⟨e0, e1, e2, e3⟩ := ha c
    refine agree m g m' c (fun b => ⟨fun d n => ?_, fun d n => ?_⟩) ?_ ?_ ?_ ?_
    · exact (pre_at _ _ _ _ (ix3 b d n) (hp c)).1
    · exact (pre_at _ _ _ _ (ix3 b d n) (hp c)).2
    · funext b d n
      exact congrFun e0 (ix3 b d n)
    · funext b d n
      exact congrFun e1 (ix3 b d n)
    · funext b i n
      exact congrFun e2 (ix3 b n i)
    · funext b i n
      exact congrFun e3 (ix3 b n i)

/-- The third call's translation is the one that its own matrix and the two means give. -/
theorem translation : Cert.holds_RotationIdeal_translation :=
  fun m g _ => (θ_run Cert.RotationIdeal.defs _ _).mono
    (fun r h c => ⟨(h c).2, by
      rw [(h c).1, Cert.RotationIdeal.Hand.arr]
      exact Cert.RotationIdeal.Hand.translation_eq _ _ _ _ _⟩)
    (Cert.RotationIdeal.Value.run_blocks m g)

/-- The third call's matrix is a rotation, of real products that are not all zero. -/
theorem rotation : Cert.holds_RotationIdeal_rotation_pre_proper_stats :=
  fun m g hp => (θ_run Cert.RotationIdeal.defs _ _).mono
    (fun r h c => ⟨(h c).2, by
      rw [(h c).1, Cert.RotationIdeal.Hand.arr]
      exact Cert.RotationIdeal.Hand.rotation_of_stats _ (hp c)⟩)
    (Cert.RotationIdeal.Value.run_blocks m g)

/-- The certificate's claims. -/
theorem claim : Cert.Claim :=
  ⟨Cert.Kernel.Gen.facts, Cert.KernelIdeal.Gen.facts, Cert.ReferenceIdeal.Gen.facts, Cert.Rotation.Gen.facts, Cert.RotationIdeal.Gen.facts,
    preFacts, Cert.RotationIdeal.Hand.statsFacts, Cert.RotationIdeal.Hand.translationFacts, Cert.RotationIdeal.Hand.rotationFacts,
    fun m g _ => Cert.Kernel.Hand.frame m g,
    fun m g _ => Cert.KernelIdeal.Hand.frame m g,
    fun m g _ => Cert.KernelIdeal.Hand.frame m g,
    fun m g _ => Cert.ReferenceIdeal.Hand.frame m g,
    fun m g _ => Cert.ReferenceIdeal.Hand.frame m g,
    fun m g _ => Cert.Rotation.Gen.frame m g,
    fun m g _ => Cert.RotationIdeal.Gen.frame m g,
    fun m g _ => Cert.RotationIdeal.Gen.frame m g,
    IdealRules.named_const.statement Cert.KernelIdeal.κ "inv15" .f32 0x3D888889#32 ((1 / 15 : ℝ) : EReal) rfl,
    algebraic,
    trivial,
    translation,
    rotation⟩

end Cert.Proof

end
